-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v10_5)) (v6 : (c : Dev Cert.Kernel2Ideal.nD) → Buf (Elt Ideal) ((c.tc : Thread Cert.Kernel2Ideal.nD Cert.Kernel2Ideal.τ).loc Cert.Kernel2Ideal.main_v10_6)) (v7 : (c : Dev Cert.Kernel2Ideal.nD) → Buf (Elt Ideal) ((c.tc : Thread Cert.Kernel2Ideal.nD Cert.Kernel2Ideal.τ).loc Cert.Kernel2Ideal.main_v10_7)) (v8 : (c : Dev Cert.Kernel2Ideal.nD) → Buf (Elt Ideal) ((c.tc : Thread Cert.Kernel2Ideal.nD Cert.Kernel2Ideal.τ).loc Cert.Kernel2Ideal.main_v10_8)) (v9 : (c : Dev Cert.Kernel2Ideal.nD) → Buf (Elt Ideal) ((c.tc : Thread Cert.Kernel2Ideal.nD Cert.Kernel2Ideal.τ).loc Cert.Kernel2Ideal.main_v10_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v10_5) = v5 c
          ∧ r.2.mem ((c.tc : Thread Cert.Kernel2Ideal.nD Cert.Kernel2Ideal.τ).loc Cert.Kernel2Ideal.main_v10_6) = v6 c
          ∧ r.2.mem ((c.tc : Thread Cert.Kernel2Ideal.nD Cert.Kernel2Ideal.τ).loc Cert.Kernel2Ideal.main_v10_7) = v7 c
          ∧ r.2.mem ((c.tc : Thread Cert.Kernel2Ideal.nD Cert.Kernel2Ideal.τ).loc Cert.Kernel2Ideal.main_v10_8) = v8 c
          ∧ r.2.mem ((c.tc : Thread Cert.Kernel2Ideal.nD Cert.Kernel2Ideal.τ).loc Cert.Kernel2Ideal.main_v10_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v79) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v86) = v6 c
          ∧ r.2.mem ((c.tc : Thread Cert.Reference2Ideal.nD Cert.Reference2Ideal.τ).loc Cert.Reference2Ideal.main_v87) = v7 c
          ∧ r.2.mem ((c.tc : Thread Cert.Reference2Ideal.nD Cert.Reference2Ideal.τ).loc Cert.Reference2Ideal.main_v90) = v8 c
          ∧ r.2.mem ((c.tc : Thread Cert.Reference2Ideal.nD Cert.Reference2Ideal.τ).loc Cert.Reference2Ideal.main_v93) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)) (v5 : (c : Dev Cert.Kernel3Ideal.nD) → Buf (Elt Ideal) ((c.tc : Thread Cert.Kernel3Ideal.nD Cert.Kernel3Ideal.τ).loc Cert.Kernel3Ideal.main_v14_5)) (v6 : (c : Dev Cert.Kernel3Ideal.nD) → Buf (Elt Ideal) ((c.tc : Thread Cert.Kernel3Ideal.nD Cert.Kernel3Ideal.τ).loc Cert.Kernel3Ideal.main_v14_6)) (v7 : (c : Dev Cert.Kernel3Ideal.nD) → Buf (Elt Ideal) ((c.tc : Thread Cert.Kernel3Ideal.nD Cert.Kernel3Ideal.τ).loc Cert.Kernel3Ideal.main_v14_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_v14_5) = v5 c
          ∧ r.2.mem ((c.tc : Thread Cert.Kernel3Ideal.nD Cert.Kernel3Ideal.τ).loc Cert.Kernel3Ideal.main_v14_6) = v6 c
          ∧ r.2.mem ((c.tc : Thread Cert.Kernel3Ideal.nD Cert.Kernel3Ideal.τ).loc Cert.Kernel3Ideal.main_v14_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v82) = v5 c
          ∧ r.2.mem ((c.tc : Thread Cert.Reference3Ideal.nD Cert.Reference3Ideal.τ).loc Cert.Reference3Ideal.main_v86) = v6 c
          ∧ r.2.mem ((c.tc : Thread Cert.Reference3Ideal.nD Cert.Reference3Ideal.τ).loc Cert.Reference3Ideal.main_v87) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x4096x8x64 : Shape := ⟨4, ![4, 4096, 8, 64]⟩
abbrev S8 : Shape := ⟨1, ![8]⟩
abbrev S16384x512 : Shape := ⟨2, ![16384, 512]⟩
abbrev S_ : Shape := ⟨0, ![]⟩
abbrev S4x16x256x512 : Shape := ⟨4, ![4, 16, 256, 512]⟩
abbrev S4x16x512x256 : Shape := ⟨4, ![4, 16, 512, 256]⟩
abbrev S2048x128 : Shape := ⟨2, ![2048, 128]⟩
abbrev S1x16x128x256 : Shape := ⟨4, ![1, 16, 128, 256]⟩
abbrev S2x2048x128 : Shape := ⟨3, ![2, 2048, 128]⟩
abbrev S256x256 : Shape := ⟨2, ![256, 256]⟩
abbrev S2048x256 : Shape := ⟨2, ![2048, 256]⟩
abbrev S1x1x128x256 : Shape := ⟨4, ![1, 1, 128, 256]⟩
abbrev S128x256 : Shape := ⟨2, ![128, 256]⟩
abbrev S256x128 : Shape := ⟨2, ![256, 128]⟩
abbrev S1 : Shape := ⟨1, ![1]⟩
abbrev S1x256x128 : Shape := ⟨3, ![1, 256, 128]⟩
abbrev S256x1 : Shape := ⟨2, ![256, 1]⟩
abbrev S512x256 : Shape := ⟨2, ![512, 256]⟩
abbrev S512x128 : Shape := ⟨2, ![512, 128]⟩
abbrev S1x512x128 : Shape := ⟨3, ![1, 512, 128]⟩
abbrev S512x1 : Shape := ⟨2, ![512, 1]⟩
abbrev S768x256 : Shape := ⟨2, ![768, 256]⟩
abbrev S768x128 : Shape := ⟨2, ![768, 128]⟩
abbrev S1x768x128 : Shape := ⟨3, ![1, 768, 128]⟩
abbrev S768x1 : Shape := ⟨2, ![768, 1]⟩
abbrev S1024x256 : Shape := ⟨2, ![1024, 256]⟩
abbrev S1024x128 : Shape := ⟨2, ![1024, 128]⟩
abbrev S1x1024x128 : Shape := ⟨3, ![1, 1024, 128]⟩
abbrev S1024x1 : Shape := ⟨2, ![1024, 1]⟩
abbrev S1280x256 : Shape := ⟨2, ![1280, 256]⟩
abbrev S1280x128 : Shape := ⟨2, ![1280, 128]⟩
abbrev S1x1280x128 : Shape := ⟨3, ![1, 1280, 128]⟩
abbrev S1280x1 : Shape := ⟨2, ![1280, 1]⟩
abbrev S1536x256 : Shape := ⟨2, ![1536, 256]⟩
abbrev S1536x128 : Shape := ⟨2, ![1536, 128]⟩
abbrev S1x1536x128 : Shape := ⟨3, ![1, 1536, 128]⟩
abbrev S1536x1 : Shape := ⟨2, ![1536, 1]⟩
abbrev S1792x256 : Shape := ⟨2, ![1792, 256]⟩
abbrev S1792x128 : Shape := ⟨2, ![1792, 128]⟩
abbrev S1x1792x128 : Shape := ⟨3, ![1, 1792, 128]⟩
abbrev S1792x1 : Shape := ⟨2, ![1792, 1]⟩
abbrev S1x2048x128 : Shape := ⟨3, ![1, 2048, 128]⟩
abbrev S2048x1 : Shape := ⟨2, ![2048, 1]⟩

abbrev nBuf : Space → Nat
  | .hbm => 16
  | .vmem => 10
  | .smem => 1
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S8, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S4x16x256x512, .f32⟩
  | .hbm, ⟨10, _⟩ => ⟨S4x16x512x256, .f32⟩
  | .hbm, ⟨11, _⟩ => ⟨S4x16x512x256, .bf16⟩
  | .hbm, ⟨12, _⟩ => ⟨S4x16x256x512, .f32⟩
  | .hbm, ⟨13, _⟩ => ⟨S4x16x512x256, .f32⟩
  | .hbm, ⟨14, _⟩ => ⟨S4x16x512x256, .bf16⟩
  | .hbm, ⟨15, _⟩ => ⟨S16384x512, .bf16⟩
  | .local _ .vmem, ⟨0, _⟩ => ⟨S2048x128, .bf16⟩
  | .local _ .vmem, ⟨1, _⟩ => ⟨S2048x128, .bf16⟩
  | .local _ .vmem, ⟨2, _⟩ => ⟨S1x16x128x256, .bf16⟩
  | .local _ .vmem, ⟨3, _⟩ => ⟨S1x16x128x256, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S2048x128, .bf16⟩
  | .local _ .vmem, ⟨7, _⟩ => ⟨S2048x128, .bf16⟩
  | .local _ .vmem, ⟨8, _⟩ => ⟨S2x2048x128, .f32⟩
  | .local _ .vmem, ⟨9, _⟩ => ⟨S2x2048x128, .f32⟩
  | .local _ .smem, ⟨0, _⟩ => ⟨S8, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 2], ![false, false, false]⟩

def k0_off1 (i : grid0.Coords) (c7_i32 : BitVec 32) : Fin 4 → Nat :=
  let c0_10 : Index := 0#32
  let arg2 : BitVec 32 := BitVec.ofNat 32 (i 2).val
  let c8_i32 : BitVec 32 := 8#32
  let v26 : BitVec 32 := Scalar.muli arg2 c8_i32
  let v27 : BitVec 32 := Scalar.addi v26 c7_i32
  let v28 : Index := Scalar.indexCast v27
  let c0_11 : Index := 0#32
  let c0_12 : Index := 0#32
  ![0, v28.toNat, 0, 0]
def k0_off2 (i : grid0.Coords) (c0_i32 : BitVec 32) : Fin 1 → Nat :=
  let c2_i32 : BitVec 32 := 2#32
  let arg1 : BitVec 32 := BitVec.ofNat 32 (i 1).val
  let v40 : BitVec 32 := Scalar.muli c2_i32 arg1
  let v41 : BitVec 32 := Scalar.addi v40 c0_i32
  let v42 : Index := Scalar.indexCast v41
  ![v42.toNat]
@[reducible] def k0_t1_loop (i : grid0.Coords) : Scf.Loop 32 :=
  let c0_i32_412 : BitVec 32 := 0#32
  let arg2 : BitVec 32 := BitVec.ofNat 32 (i 2).val
  let c4_i32_410 : BitVec 32 := 4#32
  let v839 : BitVec 32 := Scalar.muli arg2 c4_i32_410
  let v840 : BitVec 32 := Scalar.subi v839 c0_i32_412
  let c1_i32_413 : BitVec 32 := 1#32
  let v842 : BitVec 32 := Scalar.divsi v840 c1_i32_413
  let v843 : BitVec 32 := Scalar.muli v842 c1_i32_413
  let v844 : BitVec 32 := Scalar.addi c0_i32_412 v843
  let c1_i32_414 : BitVec 32 := 1#32
  ⟨c0_i32_412, v844, c1_i32_414⟩
def k0_off3 (i : grid0.Coords) (k0_t1 : Fin (k0_t1_loop i).trips) (c1_i32_426 : BitVec 32) : Fin 4 → Nat :=
  let c0_428 : Index := 0#32
  let arg2 : BitVec 32 := BitVec.ofNat 32 (i 2).val
  let c8_i32_425 : BitVec 32 := 8#32
  let v854 : BitVec 32 := Scalar.muli arg2 c8_i32_425
  let v855 : BitVec 32 := Scalar.subi v854 c1_i32_426
  let c2_i32_427 : BitVec 32 := 2#32
  let c0_i32_412 : BitVec 32 := 0#32
  let c1_i32_414 : BitVec 32 := 1#32
  let arg10 : BitVec 32 := Scf.iv c0_i32_412 c1_i32_414 k0_t1
  let v856 : BitVec 32 := Scalar.muli c2_i32_427 arg10
  let v857 : BitVec 32 := Scalar.subi v855 v856
  let v858 : Index := Scalar.indexCast v857
  let c0_429 : Index := 0#32
  let c0_430 : Index := 0#32
  ![0, v858.toNat, 0, 0]
def k0_off4 (i : grid0.Coords) (c0_i32_436 : BitVec 32) : Fin 1 → Nat :=
  let c2_i32_435 : BitVec 32 := 2#32
  let arg1 : BitVec 32 := BitVec.ofNat 32 (i 1).val
  let v865 : BitVec 32 := Scalar.muli c2_i32_435 arg1
  let v866 : BitVec 32 := Scalar.addi v865 c0_i32_436
  let v867 : Index := Scalar.indexCast v866
  ![v867.toNat]
@[reducible] def k0_t2_loop (i : grid0.Coords) : Scf.Loop 32 :=
  let c0_i32_412 : BitVec 32 := 0#32
  let arg2 : BitVec 32 := BitVec.ofNat 32 (i 2).val
  let c4_i32_410 : BitVec 32 := 4#32
  let v839 : BitVec 32 := Scalar.muli arg2 c4_i32_410
  let v840 : BitVec 32 := Scalar.subi v839 c0_i32_412
  let c1_i32_413 : BitVec 32 := 1#32
  let v842 : BitVec 32 := Scalar.divsi v840 c1_i32_413
  let v843 : BitVec 32 := Scalar.muli v842 c1_i32_413
  let v844 : BitVec 32 := Scalar.addi c0_i32_412 v843
  let v841 : BitVec 32 := Scalar.addi c0_i32_412 v840
  let c1_i32_415 : BitVec 32 := 1#32
  ⟨v844, v841, c1_i32_415⟩
def k0_off5 (i : grid0.Coords) (k0_t2 : Fin (k0_t2_loop i).trips) (c1_i32_426 : BitVec 32) : Fin 4 → Nat :=
  let c0_428 : Index := 0#32
  let arg2 : BitVec 32 := BitVec.ofNat 32 (i 2).val
  let c8_i32_425 : BitVec 32 := 8#32
  let v854 : BitVec 32 := Scalar.muli arg2 c8_i32_425
  let v855 : BitVec 32 := Scalar.subi v854 c1_i32_426
  let c2_i32_427 : BitVec 32 := 2#32
  let c0_i32_412 : BitVec 32 := 0#32
  let c4_i32_410 : BitVec 32 := 4#32
  let v839 : BitVec 32 := Scalar.muli arg2 c4_i32_410
  let v840 : BitVec 32 := Scalar.subi v839 c0_i32_412
  let c1_i32_413 : BitVec 32 := 1#32
  let v842 : BitVec 32 := Scalar.divsi v840 c1_i32_413
  let v843 : BitVec 32 := Scalar.muli v842 c1_i32_413
  let v844 : BitVec 32 := Scalar.addi c0_i32_412 v843
  let c1_i32_415 : BitVec 32 := 1#32
  let arg10 : BitVec 32 := Scf.iv v844 c1_i32_415 k0_t2
  let v856 : BitVec 32 := Scalar.muli c2_i32_427 arg10
  let v857 : BitVec 32 := Scalar.subi v855 v856
  let v858 : Index := Scalar.indexCast v857
  let c0_429 : Index := 0#32
  let c0_430 : Index := 0#32
  ![0, v858.toNat, 0, 0]
def k0_off6 (i : grid0.Coords) (c0_i32_436 : BitVec 32) : Fin 1 → Nat :=
  let c2_i32_435 : BitVec 32 := 2#32
  let arg1 : BitVec 32 := BitVec.ofNat 32 (i 1).val
  let v865 : BitVec 32 := Scalar.muli c2_i32_435 arg1
  let v866 : BitVec 32 := Scalar.addi v865 c0_i32_436
  let v867 : Index := Scalar.indexCast v866
  ![v867.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4096x8x64 : Shape := ⟨4, ![4, 4096, 8, 64]⟩
abbrev S8 : Shape := ⟨1, ![8]⟩
abbrev S4x8x4096x4096 : Shape := ⟨4, ![4, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S16384x512 : Shape := ⟨2, ![16384, 512]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S8, .f32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S1x8x1x1, .f32⟩
  | .hbm, ⟨9, _⟩ => ⟨S4x8x4096x4096, .f32⟩
  | .hbm, ⟨10, _⟩ => ⟨S4x8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S_, .f32⟩
  | .hbm, ⟨36, _⟩ => ⟨S4x8x4096x4096, .i1⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .i1⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S_, .f32⟩
  | .hbm, ⟨56, _⟩ => ⟨S_, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S_, .f32⟩
  | .hbm, ⟨62, _⟩ => ⟨S_, .f32⟩
  | .hbm, ⟨63, _⟩ => ⟨S4x8x4096x4096, .i1⟩
  | .hbm, ⟨64, _⟩ => ⟨S4x8x4096x4096, .f32⟩
  | .hbm, ⟨65, _⟩ => ⟨S4x8x4096x4096, .f32⟩
  | .hbm, ⟨66, _⟩ => ⟨S4x8x64x4096, .f32⟩
  | .hbm, ⟨67, _⟩ => ⟨S4x4096x8x64, .f32⟩
  | .hbm, ⟨68, _⟩ => ⟨S16384x512, .f32⟩
  | .hbm, ⟨69, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_v0 : Ref sig .tc := ⟨.hbm, 39, rfl⟩
abbrev main_call2_call0_cst : Ref sig .tc := ⟨.hbm, 40, rfl⟩
abbrev main_call2_call0_v0 : Ref sig .tc := ⟨.hbm, 41, rfl⟩
abbrev main_call2_call0_v1 : Ref sig .tc := ⟨.hbm, 42, rfl⟩
abbrev main_call2_call0_v2 : Ref sig .tc := ⟨.hbm, 43, rfl⟩
abbrev main_call2_call0_v3 : Ref sig .tc := ⟨.hbm, 44, rfl⟩
abbrev main_call2_call0_v4 : Ref sig .tc := ⟨.hbm, 45, rfl⟩
abbrev main_call2_call0_v5 : Ref sig .tc := ⟨.hbm, 46, rfl⟩
abbrev main_call2_call0_v6 : Ref sig .tc := ⟨.hbm, 47, rfl⟩
abbrev main_call2_call0_v7 : Ref sig .tc := ⟨.hbm, 48, rfl⟩
abbrev main_call2_call0_v8 : Ref sig .tc := ⟨.hbm, 49, rfl⟩
abbrev main_call2_call0_v9 : Ref sig .tc := ⟨.hbm, 50, rfl⟩
abbrev main_call2_call0_v10 : Ref sig .tc := ⟨.hbm, 51, rfl⟩
abbrev main_call2_call0_v11 : Ref sig .tc := ⟨.hbm, 52, rfl⟩
abbrev main_call2_v1 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x6656 : Shape := ⟨2, ![1024, 6656]⟩
abbrev S128 : Shape := ⟨1, ![128]⟩
abbrev S3x512 : Shape := ⟨2, ![3, 512]⟩
abbrev S3x512x1024 : Shape := ⟨3, ![3, 512, 1024]⟩
abbrev S1024x1024 : Shape := ⟨2, ![1024, 1024]⟩
abbrev S16384x1024 : Shape := ⟨2, ![16384, 1024]⟩
abbrev S1x512x1024 : Shape := ⟨3, ![1, 512, 1024]⟩
abbrev S512x1024 : Shape := ⟨2, ![512, 1024]⟩
abbrev S1x1024 : Shape := ⟨2, ![1, 1024]⟩
abbrev S1x128 : Shape := ⟨2, ![1, 128]⟩
abbrev S4x512x4096 : Shape := ⟨3, ![4, 512, 4096]⟩
abbrev S16384x512 : Shape := ⟨2, ![16384, 512]⟩
abbrev S4x8x512 : Shape := ⟨3, ![4, 8, 512]⟩
abbrev S4x16x512x256 : Shape := ⟨4, ![4, 16, 512, 256]⟩
abbrev S1x512x512 : Shape := ⟨3, ![1, 512, 512]⟩
abbrev S512x512 : Shape := ⟨2, ![512, 512]⟩
abbrev S1x8x512 : Shape := ⟨3, ![1, 8, 512]⟩
abbrev S1x2x512x256 : Shape := ⟨4, ![1, 2, 512, 256]⟩
abbrev S8x512 : Shape := ⟨2, ![8, 512]⟩
abbrev S512 : Shape := ⟨1, ![512]⟩
abbrev S512x1 : Shape := ⟨2, ![512, 1]⟩
abbrev S1024x512 : Shape := ⟨2, ![1024, 512]⟩
abbrev S512x256 : Shape := ⟨2, ![512, 256]⟩
abbrev S1x1x512x256 : Shape := ⟨4, ![1, 1, 512, 256]⟩
abbrev S512x128 : Shape := ⟨2, ![512, 128]⟩
abbrev S520x512 : Shape := ⟨2, ![520, 512]⟩
abbrev S1x512 : Shape := ⟨2, ![1, 512]⟩

abbrev nBuf : Space → Nat
  | .hbm => 26
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6656, .f32⟩
  | .hbm, ⟨3, _⟩ => ⟨S128, .f32⟩
  | .hbm, ⟨4, _⟩ => ⟨S3x512, .f32⟩
  | .hbm, ⟨5, _⟩ => ⟨S3x512x1024, .f32⟩
  | .hbm, ⟨6, _⟩ => ⟨S1024x6656, .bf16⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S3x512x1024, .bf16⟩
  | .hbm, ⟨11, _⟩ => ⟨S16384x1024, .f32⟩
  | .hbm, ⟨12, _⟩ => ⟨S1x512x1024, .bf16⟩
  | .hbm, ⟨13, _⟩ => ⟨S512x1024, .bf16⟩
  | .hbm, ⟨14, _⟩ => ⟨S1x1024, .f32⟩
  | .hbm, ⟨15, _⟩ => ⟨S1x128, .f32⟩
  | .hbm, ⟨16, _⟩ => ⟨S4x512x4096, .f32⟩
  | .hbm, ⟨17, _⟩ => ⟨S4x512x4096, .f32⟩
  | .hbm, ⟨18, _⟩ => ⟨S16384x512, .bf16⟩
  | .hbm, ⟨19, _⟩ => ⟨S16384x512, .bf16⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S4x8x512, .f32⟩
  | .hbm, ⟨24, _⟩ => ⟨S4x16x512x256, .bf16⟩
  | .hbm, ⟨25, _⟩ => ⟨S4x16x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S1024x1024, .bf16⟩
  | .local _ .vmem, ⟨5, _⟩ => ⟨S512x1024, .bf16⟩
  | .local _ .vmem, ⟨6, _⟩ => ⟨S3x512, .f32⟩
  | .local _ .vmem, ⟨7, _⟩ => ⟨S1x128, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x8x512, .f32⟩
  | .local _ .vmem, ⟨23, _⟩ => ⟨S1x8x512, .f32⟩
  | .local _ .vmem, ⟨24, _⟩ => ⟨S1x2x512x256, .bf16⟩
  | .local _ .vmem, ⟨25, _⟩ => ⟨S1x2x512x256, .bf16⟩
  | .local _ .vmem, ⟨26, _⟩ => ⟨S1x2x512x256, .bf16⟩
  | .local _ .vmem, ⟨27, _⟩ => ⟨S1x2x512x256, .bf16⟩
  | .local _ .vmem, ⟨28, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev main_v10_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S4x4096x1024 : Shape := ⟨3, ![4, 4096, 1024]⟩
abbrev S1024 : Shape := ⟨1, ![1024]⟩
abbrev S1024x6656 : Shape := ⟨2, ![1024, 6656]⟩
abbrev S128 : Shape := ⟨1, ![128]⟩
abbrev S3x512 : Shape := ⟨2, ![3, 512]⟩
abbrev S3x512x1024 : Shape := ⟨3, ![3, 512, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6656 : Shape := ⟨3, ![4, 4096, 6656]⟩
abbrev S4x4096x512 : Shape := ⟨3, ![4, 4096, 512]⟩
abbrev S4x4096x3072 : Shape := ⟨3, ![4, 4096, 3072]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S4x4096x3x1024 : Shape := ⟨4, ![4, 4096, 3, 1024]⟩
abbrev S1x512x1024 : Shape := ⟨3, ![1, 512, 1024]⟩
abbrev S512x1024 : Shape := ⟨2, ![512, 1024]⟩
abbrev S4x512x4096 : Shape := ⟨3, ![4, 512, 4096]⟩
abbrev S16384x512 : Shape := ⟨2, ![16384, 512]⟩
abbrev S4x4096x1x1024 : Shape := ⟨4, ![4, 4096, 1, 1024]⟩
abbrev S16384x1024 : Shape := ⟨2, ![16384, 1024]⟩
abbrev S4x8x512 : Shape := ⟨3, ![4, 8, 512]⟩
abbrev S4x16x256x512 : Shape := ⟨4, ![4, 16, 256, 512]⟩
abbrev S4x16x512x256 : Shape := ⟨4, ![4, 16, 512, 256]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6656, .f32⟩
  | .hbm, ⟨3, _⟩ => ⟨S128, .f32⟩
  | .hbm, ⟨4, _⟩ => ⟨S3x512, .f32⟩
  | .hbm, ⟨5, _⟩ => ⟨S3x512x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x6656, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x3072, .f32⟩
  | .hbm, ⟨31, _⟩ => ⟨S4x4096x4x128, .f32⟩
  | .hbm, ⟨32, _⟩ => ⟨S4x4096x4x128, .f32⟩
  | .hbm, ⟨33, _⟩ => ⟨S_, .f32⟩
  | .hbm, ⟨34, _⟩ => ⟨S4x4096x4, .f32⟩
  | .hbm, ⟨35, _⟩ => ⟨S4x4096x4x1, .f32⟩
  | .hbm, ⟨36, _⟩ => ⟨S_, .f32⟩
  | .hbm, ⟨37, _⟩ => ⟨S4x4096x4x1, .f32⟩
  | .hbm, ⟨38, _⟩ => ⟨S4x4096x4x1, .f32⟩
  | .hbm, ⟨39, _⟩ => ⟨S_, .f32⟩
  | .hbm, ⟨40, _⟩ => ⟨S4x4096x4x1, .f32⟩
  | .hbm, ⟨41, _⟩ => ⟨S4x4096x4x1, .f32⟩
  | .hbm, ⟨42, _⟩ => ⟨S4x4096x4x1, .f32⟩
  | .hbm, ⟨43, _⟩ => ⟨S4x4096x4x128, .f32⟩
  | .hbm, ⟨44, _⟩ => ⟨S4x4096x4x128, .f32⟩
  | .hbm, ⟨45, _⟩ => ⟨S1x1x1x128, .f32⟩
  | .hbm, ⟨46, _⟩ => ⟨S4x4096x4x128, .f32⟩
  | .hbm, ⟨47, _⟩ => ⟨S4x4096x4x128, .f32⟩
  | .hbm, ⟨48, _⟩ => ⟨S4x4096x512, .f32⟩
  | .hbm, ⟨49, _⟩ => ⟨S_, .i32⟩
  | .hbm, ⟨50, _⟩ => ⟨S_, .f32⟩
  | .hbm, ⟨51, _⟩ => ⟨S4x4098x512, .f32⟩
  | .hbm, ⟨52, _⟩ => ⟨S4x4096x512, .f32⟩
  | .hbm, ⟨53, _⟩ => ⟨S1x512, .f32⟩
  | .hbm, ⟨54, _⟩ => ⟨S512, .f32⟩
  | .hbm, ⟨55, _⟩ => ⟨S1x1x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S1x512, .f32⟩
  | .hbm, ⟨60, _⟩ => ⟨S512, .f32⟩
  | .hbm, ⟨61, _⟩ => ⟨S1x1x512, .f32⟩
  | .hbm, ⟨62, _⟩ => ⟨S4x4096x512, .f32⟩
  | .hbm, ⟨63, _⟩ => ⟨S4x4096x512, .f32⟩
  | .hbm, ⟨64, _⟩ => ⟨S4x4096x512, .f32⟩
  | .hbm, ⟨65, _⟩ => ⟨S4x4096x512, .f32⟩
  | .hbm, ⟨66, _⟩ => ⟨S1x512, .f32⟩
  | .hbm, ⟨67, _⟩ => ⟨S512, .f32⟩
  | .hbm, ⟨68, _⟩ => ⟨S1x1x512, .f32⟩
  | .hbm, ⟨69, _⟩ => ⟨S4x4096x512, .f32⟩
  | .hbm, ⟨70, _⟩ => ⟨S4x4096x512, .f32⟩
  | .hbm, ⟨71, _⟩ => ⟨S4x4096x512, .f32⟩
  | .hbm, ⟨72, _⟩ => ⟨S4x4096x512, .f32⟩
  | .hbm, ⟨73, _⟩ => ⟨S4x4096x3x1024, .f32⟩
  | .hbm, ⟨74, _⟩ => ⟨S4x4096x3x1024, .f32⟩
  | .hbm, ⟨75, _⟩ => ⟨S4x4096x3x1024, .f32⟩
  | .hbm, ⟨76, _⟩ => ⟨S_, .f32⟩
  | .hbm, ⟨77, _⟩ => ⟨S4x4096x3x1024, .f32⟩
  | .hbm, ⟨78, _⟩ => ⟨S4x4096x3x1024, .f32⟩
  | .hbm, ⟨79, _⟩ => ⟨S_, .f32⟩
  | .hbm, ⟨80, _⟩ => ⟨S4x4096x3x1024, .f32⟩
  | .hbm, ⟨81, _⟩ => ⟨S4x4096x3x1024, .f32⟩
  | .hbm, ⟨82, _⟩ => ⟨S1x512x1024, .f32⟩
  | .hbm, ⟨83, _⟩ => ⟨S512x1024, .f32⟩
  | .hbm, ⟨84, _⟩ => ⟨S4x4096x1024, .f32⟩
  | .hbm, ⟨85, _⟩ => ⟨S4x512x4096, .f32⟩
  | .hbm, ⟨86, _⟩ => ⟨S4x512x4096, .f32⟩
  | .hbm, ⟨87, _⟩ => ⟨S_, .f32⟩
  | .hbm, ⟨88, _⟩ => ⟨S4x4096x512, .f32⟩
  | .hbm, ⟨89, _⟩ => ⟨S4x4096x512, .f32⟩
  | .hbm, ⟨90, _⟩ => ⟨S16384x512, .f32⟩
  | .hbm, ⟨91, _⟩ => ⟨S16384x512, .bf16⟩
  | .hbm, ⟨92, _⟩ => ⟨S16384x512, .f32⟩
  | .hbm, ⟨93, _⟩ => ⟨S16384x512, .bf16⟩
  | .hbm, ⟨94, _⟩ => ⟨S4x4096x1x1024, .f32⟩
  | .hbm, ⟨95, _⟩ => ⟨S4x4096x1024, .f32⟩
  | .hbm, ⟨96, _⟩ => ⟨S16384x1024, .f32⟩
  | .hbm, ⟨97, _⟩ => ⟨S4x4096x1x1024, .f32⟩
  | .hbm, ⟨98, _⟩ => ⟨S4x4096x1024, .f32⟩
  | .hbm, ⟨99, _⟩ => ⟨S16384x1024, .f32⟩
  | .hbm, ⟨100, _⟩ => ⟨S4x4096x1x1024, .f32⟩
  | .hbm, ⟨101, _⟩ => ⟨S4x4096x1024, .f32⟩
  | .hbm, ⟨102, _⟩ => ⟨S4x4096x1024, .f32⟩
  | .hbm, ⟨103, _⟩ => ⟨S16384x1024, .f32⟩
  | .hbm, ⟨104, _⟩ => ⟨S4x8x512, .f32⟩
  | .hbm, ⟨105, _⟩ => ⟨S4x16x256x512, .f32⟩
  | .hbm, ⟨106, _⟩ => ⟨S4x16x512x256, .f32⟩
  | .hbm, ⟨107, _⟩ => ⟨S4x16x512x256, .bf16⟩
  | .hbm, ⟨108, _⟩ => ⟨S4x16x256x512, .f32⟩
  | .hbm, ⟨109, _⟩ => ⟨S4x16x512x256, .f32⟩
  | .hbm, ⟨110, _⟩ => ⟨S4x16x512x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call0_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩

abbrev nD : Nat := 1
abbrev τ : Topo := Topo.v7x

variable {F : FTy → Type} [FloatOps F]
-- ==== Kernel3.lean ====
abbrev S128x1x1024 : Shape := ⟨3, ![128, 1, 1024]⟩
abbrev S1024 : Shape := ⟨1, ![1024]⟩
abbrev S1024x6656 : Shape := ⟨2, ![1024, 6656]⟩
abbrev S128 : Shape := ⟨1, ![128]⟩
abbrev S3x512 : Shape := ⟨2, ![3, 512]⟩
abbrev S3x512x1024 : Shape := ⟨3, ![3, 512, 1024]⟩
abbrev S128x2x512 : Shape := ⟨3, ![128, 2, 512]⟩
abbrev S1024x1024 : Shape := ⟨2, ![1024, 1024]⟩
abbrev S128x1024 : Shape := ⟨2, ![128, 1024]⟩
abbrev S1x512x1024 : Shape := ⟨3, ![1, 512, 1024]⟩
abbrev S512x1024 : Shape := ⟨2, ![512, 1024]⟩
abbrev S128x1x512 : Shape := ⟨3, ![128, 1, 512]⟩
abbrev S128x512 : Shape := ⟨2, ![128, 512]⟩
abbrev S1x1024 : Shape := ⟨2, ![1, 1024]⟩
abbrev S1x128 : Shape := ⟨2, ![1, 128]⟩
abbrev S1x512x128 : Shape := ⟨3, ![1, 512, 128]⟩
abbrev S1x128x512 : Shape := ⟨3, ![1, 128, 512]⟩
abbrev S128x1 : Shape := ⟨2, ![128, 1]⟩
abbrev S1024x128 : Shape := ⟨2, ![1024, 128]⟩
abbrev S512x128 : Shape := ⟨2, ![512, 128]⟩
abbrev S1024x512 : Shape := ⟨2, ![1024, 512]⟩
abbrev S128x128 : Shape := ⟨2, ![128, 128]⟩
abbrev S1x512 : Shape := ⟨2, ![1, 512]⟩

abbrev nBuf : Space → Nat
  | .hbm => 29
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x6656, .f32⟩
  | .hbm, ⟨3, _⟩ => ⟨S128, .f32⟩
  | .hbm, ⟨4, _⟩ => ⟨S3x512, .f32⟩
  | .hbm, ⟨5, _⟩ => ⟨S3x512x1024, .f32⟩
  | .hbm, ⟨6, _⟩ => ⟨S128x2x512, .f32⟩
  | .hbm, ⟨7, _⟩ => ⟨S1024x6656, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S3x512x1024, .bf16⟩
  | .hbm, ⟨12, _⟩ => ⟨S128x1024, .f32⟩
  | .hbm, ⟨13, _⟩ => ⟨S1x512x1024, .bf16⟩
  | .hbm, ⟨14, _⟩ => ⟨S512x1024, .bf16⟩
  | .hbm, ⟨15, _⟩ => ⟨S128x1x512, .f32⟩
  | .hbm, ⟨16, _⟩ => ⟨S128x512, .f32⟩
  | .hbm, ⟨17, _⟩ => ⟨S128x1x512, .f32⟩
  | .hbm, ⟨18, _⟩ => ⟨S128x512, .f32⟩
  | .hbm, ⟨19, _⟩ => ⟨S1x1024, .f32⟩
  | .hbm, ⟨20, _⟩ => ⟨S1x128, .f32⟩
  | .hbm, ⟨21, _⟩ => ⟨S1x512x128, .f32⟩
  | .hbm, ⟨22, _⟩ => ⟨S1x512x128, .f32⟩
  | .hbm, ⟨23, _⟩ => ⟨S128x512, .bf16⟩
  | .hbm, ⟨24, _⟩ => ⟨S128x512, .bf16⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1x128x512, .f32⟩
  | .local _ .vmem, ⟨0, _⟩ => ⟨S128x1024, .f32⟩
  | .local _ .vmem, ⟨1, _⟩ => ⟨S1x1024, .f32⟩
  | .local _ .vmem, ⟨2, _⟩ => ⟨S1024x6656, .bf16⟩
  | .local _ .vmem, ⟨3, _⟩ => ⟨S1024x1024, .bf16⟩
  | .local _ .vmem, ⟨4, _⟩ => ⟨S512x1024, .bf16⟩
  | .local _ .vmem, ⟨5, _⟩ => ⟨S3x512, .f32⟩
  | .local _ .vmem, ⟨6, _⟩ => ⟨S1x128, .f32⟩
  | .local _ .vmem, ⟨7, _⟩ => ⟨S128x512, .f32⟩
  | .local _ .vmem, ⟨8, _⟩ => ⟨S128x512, .f32⟩
  | .local _ .vmem, ⟨9, _⟩ => ⟨S1x512x128, .f32⟩
  | .local _ .vmem, ⟨10, _⟩ => ⟨S1x512x128, .f32⟩
  | .local _ .vmem, ⟨11, _⟩ => ⟨S128x512, .bf16⟩
  | .local _ .vmem, ⟨12, _⟩ => ⟨S128x512, .bf16⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S1x128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev main_v14_6 : Ref sig .tc := ⟨.hbm, 27, rfl⟩
abbrev main_v14_7 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference3Ideal.lean ====
abbrev S128x1x1024 : Shape := ⟨3, ![128, 1, 1024]⟩
abbrev S1024 : Shape := ⟨1, ![1024]⟩
abbrev S1024x6656 : Shape := ⟨2, ![1024, 6656]⟩
abbrev S128 : Shape := ⟨1, ![128]⟩
abbrev S3x512 : Shape := ⟨2, ![3, 512]⟩
abbrev S3x512x1024 : Shape := ⟨3, ![3, 512, 1024]⟩
abbrev S128x2x512 : Shape := ⟨3, ![128, 2, 512]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x6656 : Shape := ⟨3, ![128, 1, 6656]⟩
abbrev S128x1x512 : Shape := ⟨3, ![128, 1, 512]⟩
abbrev S128x1x3072 : Shape := ⟨3, ![128, 1, 3072]⟩
abbrev S128x1x4x128 : Shape := ⟨4, ![128, 1, 4, 128]⟩
abbrev S128x1x4 : Shape := ⟨3, ![128, 1, 4]⟩
abbrev S128x1x4x1 : Shape := ⟨4, ![128, 1, 4, 1]⟩
abbrev S1x1x1x128 : Shape := ⟨4, ![1, 1, 1, 128]⟩
abbrev S128x3x512 : Shape := ⟨3, ![128, 3, 512]⟩
abbrev S1x512 : Shape := ⟨2, ![1, 512]⟩
abbrev S512 : Shape := ⟨1, ![512]⟩
abbrev S1x1x512 : Shape := ⟨3, ![1, 1, 512]⟩
abbrev S128x1x3x1024 : Shape := ⟨4, ![128, 1, 3, 1024]⟩
abbrev S1x512x1024 : Shape := ⟨3, ![1, 512, 1024]⟩
abbrev S512x1024 : Shape := ⟨2, ![512, 1024]⟩
abbrev S1x512x128 : Shape := ⟨3, ![1, 512, 128]⟩
abbrev S128x512 : Shape := ⟨2, ![128, 512]⟩
abbrev S128x1x1x1024 : Shape := ⟨4, ![128, 1, 1, 1024]⟩
abbrev S128x1024 : Shape := ⟨2, ![128, 1024]⟩
abbrev S1x128x512 : Shape := ⟨3, ![1, 128, 512]⟩

abbrev nBuf : Space → Nat
  | .hbm => 104
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x6656, .f32⟩
  | .hbm, ⟨3, _⟩ => ⟨S128, .f32⟩
  | .hbm, ⟨4, _⟩ => ⟨S3x512, .f32⟩
  | .hbm, ⟨5, _⟩ => ⟨S3x512x1024, .f32⟩
  | .hbm, ⟨6, _⟩ => ⟨S128x2x512, .f32⟩
  | .hbm, ⟨7, _⟩ => ⟨S128x1x1024, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S128x1x6656, .f32⟩
  | .hbm, ⟨24, _⟩ => ⟨S128x1x512, .f32⟩
  | .hbm, ⟨25, _⟩ => ⟨S128x1x512, .f32⟩
  | .hbm, ⟨26, _⟩ => ⟨S128x1x512, .f32⟩
  | .hbm, ⟨27, _⟩ => ⟨S128x1x512, .f32⟩
  | .hbm, ⟨28, _⟩ => ⟨S128x1x512, .f32⟩
  | .hbm, ⟨29, _⟩ => ⟨S128x1x512, .f32⟩
  | .hbm, ⟨30, _⟩ => ⟨S128x1x512, .f32⟩
  | .hbm, ⟨31, _⟩ => ⟨S128x1x3072, .f32⟩
  | .hbm, ⟨32, _⟩ => ⟨S128x1x4x128, .f32⟩
  | .hbm, ⟨33, _⟩ => ⟨S128x1x4x128, .f32⟩
  | .hbm, ⟨34, _⟩ => ⟨S_, .f32⟩
  | .hbm, ⟨35, _⟩ => ⟨S128x1x4, .f32⟩
  | .hbm, ⟨36, _⟩ => ⟨S128x1x4x1, .f32⟩
  | .hbm, ⟨37, _⟩ => ⟨S_, .f32⟩
  | .hbm, ⟨38, _⟩ => ⟨S128x1x4x1, .f32⟩
  | .hbm, ⟨39, _⟩ => ⟨S128x1x4x1, .f32⟩
  | .hbm, ⟨40, _⟩ => ⟨S_, .f32⟩
  | .hbm, ⟨41, _⟩ => ⟨S128x1x4x1, .f32⟩
  | .hbm, ⟨42, _⟩ => ⟨S128x1x4x1, .f32⟩
  | .hbm, ⟨43, _⟩ => ⟨S128x1x4x1, .f32⟩
  | .hbm, ⟨44, _⟩ => ⟨S128x1x4x128, .f32⟩
  | .hbm, ⟨45, _⟩ => ⟨S128x1x4x128, .f32⟩
  | .hbm, ⟨46, _⟩ => ⟨S1x1x1x128, .f32⟩
  | .hbm, ⟨47, _⟩ => ⟨S128x1x4x128, .f32⟩
  | .hbm, ⟨48, _⟩ => ⟨S128x1x4x128, .f32⟩
  | .hbm, ⟨49, _⟩ => ⟨S128x1x512, .f32⟩
  | .hbm, ⟨50, _⟩ => ⟨S128x3x512, .f32⟩
  | .hbm, ⟨51, _⟩ => ⟨S128x1x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S128x1x512, .f32⟩
  | .hbm, ⟨56, _⟩ => ⟨S128x1x512, .f32⟩
  | .hbm, ⟨57, _⟩ => ⟨S128x1x512, .f32⟩
  | .hbm, ⟨58, _⟩ => ⟨S1x512, .f32⟩
  | .hbm, ⟨59, _⟩ => ⟨S512, .f32⟩
  | .hbm, ⟨60, _⟩ => ⟨S1x1x512, .f32⟩
  | .hbm, ⟨61, _⟩ => ⟨S128x1x512, .f32⟩
  | .hbm, ⟨62, _⟩ => ⟨S128x1x512, .f32⟩
  | .hbm, ⟨63, _⟩ => ⟨S128x1x512, .f32⟩
  | .hbm, ⟨64, _⟩ => ⟨S128x1x512, .f32⟩
  | .hbm, ⟨65, _⟩ => ⟨S1x512, .f32⟩
  | .hbm, ⟨66, _⟩ => ⟨S512, .f32⟩
  | .hbm, ⟨67, _⟩ => ⟨S1x1x512, .f32⟩
  | .hbm, ⟨68, _⟩ => ⟨S128x1x512, .f32⟩
  | .hbm, ⟨69, _⟩ => ⟨S128x1x512, .f32⟩
  | .hbm, ⟨70, _⟩ => ⟨S128x1x512, .f32⟩
  | .hbm, ⟨71, _⟩ => ⟨S128x1x512, .f32⟩
  | .hbm, ⟨72, _⟩ => ⟨S128x1x3x1024, .f32⟩
  | .hbm, ⟨73, _⟩ => ⟨S128x1x3x1024, .f32⟩
  | .hbm, ⟨74, _⟩ => ⟨S128x1x3x1024, .f32⟩
  | .hbm, ⟨75, _⟩ => ⟨S_, .f32⟩
  | .hbm, ⟨76, _⟩ => ⟨S128x1x3x1024, .f32⟩
  | .hbm, ⟨77, _⟩ => ⟨S128x1x3x1024, .f32⟩
  | .hbm, ⟨78, _⟩ => ⟨S_, .f32⟩
  | .hbm, ⟨79, _⟩ => ⟨S128x1x3x1024, .f32⟩
  | .hbm, ⟨80, _⟩ => ⟨S128x1x3x1024, .f32⟩
  | .hbm, ⟨81, _⟩ => ⟨S1x512x1024, .f32⟩
  | .hbm, ⟨82, _⟩ => ⟨S512x1024, .f32⟩
  | .hbm, ⟨83, _⟩ => ⟨S128x1x1024, .f32⟩
  | .hbm, ⟨84, _⟩ => ⟨S1x512x128, .f32⟩
  | .hbm, ⟨85, _⟩ => ⟨S1x512x128, .f32⟩
  | .hbm, ⟨86, _⟩ => ⟨S_, .f32⟩
  | .hbm, ⟨87, _⟩ => ⟨S128x1x512, .f32⟩
  | .hbm, ⟨88, _⟩ => ⟨S128x1x512, .f32⟩
  | .hbm, ⟨89, _⟩ => ⟨S128x512, .f32⟩
  | .hbm, ⟨90, _⟩ => ⟨S128x512, .bf16⟩
  | .hbm, ⟨91, _⟩ => ⟨S128x512, .f32⟩
  | .hbm, ⟨92, _⟩ => ⟨S128x512, .bf16⟩
  | .hbm, ⟨93, _⟩ => ⟨S128x1x1x1024, .f32⟩
  | .hbm, ⟨94, _⟩ => ⟨S128x1x1024, .f32⟩
  | .hbm, ⟨95, _⟩ => ⟨S128x1024, .f32⟩
  | .hbm, ⟨96, _⟩ => ⟨S128x1x1x1024, .f32⟩
  | .hbm, ⟨97, _⟩ => ⟨S128x1x1024, .f32⟩
  | .hbm, ⟨98, _⟩ => ⟨S128x1024, .f32⟩
  | .hbm, ⟨99, _⟩ => ⟨S128x1x1x1024, .f32⟩
  | .hbm, ⟨100, _⟩ => ⟨S128x1x1024, .f32⟩
  | .hbm, ⟨101, _⟩ => ⟨S128x1x1024, .f32⟩
  | .hbm, ⟨102, _⟩ => ⟨S128x1024, .f32⟩
  | .hbm, ⟨103, _⟩ => ⟨S1x128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩

abbrev nD : Nat := 1
abbrev τ : Topo := Topo.v7x

variable {F : FTy → Type} [FloatOps F]
-- ==== Kernel4.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1x128 : Shape := ⟨2, ![1, 128]⟩
abbrev S1024x512 : Shape := ⟨2, ![1024, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 10
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S1x128, .f32⟩
  | .hbm, ⟨8, _⟩ => ⟨S1024x512, .f32⟩
  | .hbm, ⟨9, _⟩ => ⟨S1024x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S1024x512 : Shape := ⟨2, ![1024, 512]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x512, .f32⟩
  | .hbm, ⟨22, _⟩ => ⟨S4x256x512, .f32⟩
  | .hbm, ⟨23, _⟩ => ⟨S4x256x4x128, .f32⟩
  | .hbm, ⟨24, _⟩ => ⟨S4x256x4x128, .f32⟩
  | .hbm, ⟨25, _⟩ => ⟨S_, .f32⟩
  | .hbm, ⟨26, _⟩ => ⟨S4x256x4, .f32⟩
  | .hbm, ⟨27, _⟩ => ⟨S4x256x4x1, .f32⟩
  | .hbm, ⟨28, _⟩ => ⟨S_, .f32⟩
  | .hbm, ⟨29, _⟩ => ⟨S4x256x4x1, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S4x256x4x1, .f32⟩
  | .hbm, ⟨35, _⟩ => ⟨S4x256x4x128, .f32⟩
  | .hbm, ⟨36, _⟩ => ⟨S4x256x4x128, .f32⟩
  | .hbm, ⟨37, _⟩ => ⟨S1x1x1x128, .f32⟩
  | .hbm, ⟨38, _⟩ => ⟨S4x256x4x128, .f32⟩
  | .hbm, ⟨39, _⟩ => ⟨S4x256x4x128, .f32⟩
  | .hbm, ⟨40, _⟩ => ⟨S1024x512, .f32⟩
  | .hbm, ⟨41, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel5.lean ====
abbrev S1024x6656 : Shape := ⟨2, ![1024, 6656]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1024x6656, .f32⟩
  | .hbm, ⟨1, _⟩ => ⟨S1024x1024, .bf16⟩
  | .local _ .vmem, ⟨0, _⟩ => ⟨S1024x1024, .f32⟩
  | .local _ .vmem, ⟨1, _⟩ => ⟨S1024x1024, .bf16⟩
  | _, _ => ⟨S1024x6656, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference5Ideal.lean ====
abbrev S1024x6656 : Shape := ⟨2, ![1024, 6656]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x6656, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel6.lean ====
abbrev S16384x1024 : Shape := ⟨2, ![16384, 1024]⟩
abbrev S16384x512 : Shape := ⟨2, ![16384, 512]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x512x1024 : Shape := ⟨3, ![1, 512, 1024]⟩
abbrev S512x1024 : Shape := ⟨2, ![512, 1024]⟩
abbrev S1x1024 : Shape := ⟨2, ![1, 1024]⟩
abbrev S16384x128 : Shape := ⟨2, ![16384, 128]⟩
abbrev S8x16384 : Shape := ⟨2, ![8, 16384]⟩
abbrev S512x512 : Shape := ⟨2, ![512, 512]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S128 : Shape := ⟨1, ![128]⟩
abbrev S128x512 : Shape := ⟨2, ![128, 512]⟩

abbrev nBuf : Space → Nat
  | .hbm => 50
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S16384x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S3x512x1024, .bf16⟩
  | .hbm, ⟨14, _⟩ => ⟨S1024x1024, .bf16⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .i32⟩
  | .hbm, ⟨21, _⟩ => ⟨S1, .i32⟩
  | .hbm, ⟨22, _⟩ => ⟨S1024x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1024x128, .bf16⟩
  | .hbm, ⟨38, _⟩ => ⟨S_, .f32⟩
  | .hbm, ⟨39, _⟩ => ⟨S1x128, .f32⟩
  | .hbm, ⟨40, _⟩ => ⟨S1x512x1024, .bf16⟩
  | .hbm, ⟨41, _⟩ => ⟨S512x1024, .bf16⟩
  | .hbm, ⟨42, _⟩ => ⟨S1x512x1024, .bf16⟩
  | .hbm, ⟨43, _⟩ => ⟨S512x1024, .bf16⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x128, .f32⟩
  | .hbm, ⟨48, _⟩ => ⟨S8x16384, .f32⟩
  | .hbm, ⟨49, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x128, .bf16⟩
  | .local _ .vmem, ⟨17, _⟩ => ⟨S1x128, .f32⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x128, .f32⟩
  | .local _ .vmem, ⟨24, _⟩ => ⟨S512x128, .f32⟩
  | .local _ .vmem, ⟨25, _⟩ => ⟨S8x512, .f32⟩
  | .local _ .vmem, ⟨26, _⟩ => ⟨S8x512, .f32⟩
  | .local _ .vmem, ⟨27, _⟩ => ⟨S1x128, .f32⟩
  | .local _ .vmem, ⟨28, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_c_5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v23_2 : Ref sig .tc := ⟨.hbm, 47, rfl⟩
abbrev main_v23_3 : Ref sig .tc := ⟨.hbm, 48, rfl⟩
abbrev main_v23_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference6Ideal.lean ====
abbrev S16384x1024 : Shape := ⟨2, ![16384, 1024]⟩
abbrev S16384x512 : Shape := ⟨2, ![16384, 512]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1x512x1024 : Shape := ⟨3, ![1, 512, 1024]⟩
abbrev S512x1024 : Shape := ⟨2, ![512, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S16384x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S16384x512, .f32⟩
  | .hbm, ⟨14, _⟩ => ⟨S1x512x1024, .f32⟩
  | .hbm, ⟨15, _⟩ => ⟨S512x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x512, .f32⟩
  | .hbm, ⟨20, _⟩ => ⟨S1x512x1024, .f32⟩
  | .hbm, ⟨21, _⟩ => ⟨S512x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel7.lean ====
abbrev S4x4096x4x128 : Shape := ⟨4, ![4, 4096, 4, 128]⟩
abbrev S4x256x4x128 : Shape := ⟨4, ![4, 256, 4, 128]⟩
abbrev S16384x512 : Shape := ⟨2, ![16384, 512]⟩
abbrev S1024x512 : Shape := ⟨2, ![1024, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x4x128, .f32⟩
  | .hbm, ⟨1, _⟩ => ⟨S4x256x4x128, .f32⟩
  | .hbm, ⟨2, _⟩ => ⟨S4x256x4x128, .f32⟩
  | .hbm, ⟨3, _⟩ => ⟨S16384x512, .f32⟩
  | .hbm, ⟨4, _⟩ => ⟨S16384x512, .bf16⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x4096x4x128 : Shape := ⟨4, ![4, 4096, 4, 128]⟩
abbrev S4x256x4x128 : Shape := ⟨4, ![4, 256, 4, 128]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S16384x512 : Shape := ⟨2, ![16384, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x256x4x128, .f32⟩
  | .hbm, ⟨2, _⟩ => ⟨S4x256x4x128, .f32⟩
  | .hbm, ⟨3, _⟩ => ⟨S4x4x4096x256, .f32⟩
  | .hbm, ⟨4, _⟩ => ⟨S_, .f32⟩
  | .hbm, ⟨5, _⟩ => ⟨S4x4x4096x256, .f32⟩
  | .hbm, ⟨6, _⟩ => ⟨S4x4x4096x256, .f32⟩
  | .hbm, ⟨7, _⟩ => ⟨S_, .f32⟩
  | .hbm, ⟨8, _⟩ => ⟨S4x4x4096, .f32⟩
  | .hbm, ⟨9, _⟩ => ⟨S_, .f32⟩
  | .hbm, ⟨10, _⟩ => ⟨S4x4x4096, .f32⟩
  | .hbm, ⟨11, _⟩ => ⟨S4x4x4096, .f32⟩
  | .hbm, ⟨12, _⟩ => ⟨S4x4x4096x1, .f32⟩
  | .hbm, ⟨13, _⟩ => ⟨S4x4x4096x256, .f32⟩
  | .hbm, ⟨14, _⟩ => ⟨S4x4x4096x256, .f32⟩
  | .hbm, ⟨15, _⟩ => ⟨S4x4x4096x256, .f32⟩
  | .hbm, ⟨16, _⟩ => ⟨S_, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x128x4096, .f32⟩
  | .hbm, ⟨22, _⟩ => ⟨S4x4096x4x128, .f32⟩
  | .hbm, ⟨23, _⟩ => ⟨S16384x512, .f32⟩
  | .hbm, ⟨24, _⟩ => ⟨S16384x512, .bf16⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Block.lean ====
/-
  One head's work on one block of 256 keys, for a band of `n` query rows: the vector expressions the kernel evaluates,
  with the number of rows left open, and each of them read at an index over the extended reals.
-/
module

public import proofs.«01_k».proof.Proof.Gen.KernelIdeal
public import Idealize.ShloMosaic.Lib.MatmulPlain
public import Idealize.ShloMosaic.Lib.ValueIdx
public import Idealize.ShloMosaic.Lib.IdealHost
public import Idealize.ShloMosaic.Lib.Pipeline.Value

@[expose] public section

set_option maxRecDepth 16384

noncomputable section

namespace Cert.SbPrompt

open Idealize.ShloMosaic Idealize.ShloMosaic.ValueIdx Cert.KernelIdeal Cert.KernelIdeal.Gen

variable {n : ℕ}

/-- `softplus z = max z 0 + log (1 + exp (0 - |z|))` on the extended reals. -/
def sp (z : EReal) : EReal := max z 0 + Ideal.log (1 + Ideal.exp (0 - max z (-z)))

/-- The scores of the band: queries times a block of keys, plus the head's bias. -/
def gZ (q : FVec Ideal ⟨2, ![n, 128]⟩ .bf16) (kt : FVec Ideal S128x256 .bf16) (b : Ideal .f32) :
    FVec Ideal ⟨2, ![n, 256]⟩ .f32 :=
  addf (matmul (DotDims.plain n 128 256) none q kt (constant ⟨2, ![n, 256]⟩ .f32 0x00000000#32)) (broadcast ⟨2, ![n, 256]⟩ b)

/-- The softplus of every score. -/
def gSp (z : FVec Ideal ⟨2, ![n, 256]⟩ .f32) : FVec Ideal ⟨2, ![n, 256]⟩ .f32 :=
  addf (maximumf z (broadcast ⟨2, ![n, 256]⟩ (Scalar.ofBits .f32 0x00000000#32)))
    (log (addf (broadcast ⟨2, ![n, 256]⟩ (Scalar.ofBits .f32 0x3F800000#32))
      (exp (subf (broadcast ⟨2, ![n, 256]⟩ (Scalar.ofBits .f32 0x00000000#32)) (absf z)))))

/-- A masked vector: zero off the mask. -/
def gMask (M : IVec ⟨2, ![n, 256]⟩ 1) (x : FVec Ideal ⟨2, ![n, 256]⟩ .f32) : FVec Ideal ⟨2, ![n, 256]⟩ .f32 :=
  select M x (broadcast ⟨2, ![n, 256]⟩ (Scalar.ofBits .f32 0x00000000#32))

/-- The sums within the block: the product with the triangle of ones. -/
def gCum (s : FVec Ideal ⟨2, ![n, 256]⟩ .f32) (tri : FVec Ideal S256x256 .bf16) : FVec Ideal ⟨2, ![n, 256]⟩ .f32 :=
  matmul (DotDims.plain n 256 256) none (truncf .bf16 s bitsLt_bf16_f32) tri (constant ⟨2, ![n, 256]⟩ .f32 0x00000000#32)

/-- The weights: `exp (z - (cum + carry))`. -/
def gA (hc : Shape.Concatenates [⟨2, ![n, 128]⟩, ⟨2, ![n, 128]⟩] ⟨2, ![n, 256]⟩ 1)
    (z cum : FVec Ideal ⟨2, ![n, 256]⟩ .f32) (car : FVec Ideal ⟨2, ![n, 128]⟩ .f32) : FVec Ideal ⟨2, ![n, 256]⟩ .f32 :=
  exp (subf z (addf cum (concatenate ⟨2, ![n, 256]⟩ 1 [⟨⟨2, ![n, 128]⟩, car⟩, ⟨⟨2, ![n, 128]⟩, car⟩] hc)))

/-- The accumulator's new rows: the old ones plus the weights times the block of values. -/
def gAcc (h1 : (⟨3, ![1, n, 128]⟩ : Shape).ShapeCasts ⟨2, ![n, 128]⟩) (h2 : (⟨2, ![n, 128]⟩ : Shape).ShapeCasts ⟨3, ![1, n, 128]⟩)
    (a : FVec Ideal ⟨2, ![n, 256]⟩ .f32) (vt : FVec Ideal S128x256 .bf16) (old : Vec Ideal ⟨3, ![1, n, 128]⟩ .f32) :
    FVec Ideal ⟨3, ![1, n, 128]⟩ .f32 :=
  shapeCast ⟨3, ![1, n, 128]⟩ (addf (φ := .f32) (shapeCast ⟨2, ![n, 128]⟩ old h1)
    (matmul (DotDims.transposedRhs n 256 128) none (truncf .bf16 a bitsLt_bf16_f32) vt (constant ⟨2, ![n, 128]⟩ .f32 0x00000000#32))) h2

/-- The carry's new rows: the old ones plus the block's whole sum. -/
def gCar (h2 : (⟨2, ![n, 128]⟩ : Shape).ShapeCasts ⟨3, ![1, n, 128]⟩)
    (hs : (⟨2, ![n, 256]⟩ : Shape).Slices ![0, 0] ⟨2, ![n, 1]⟩) (h11 : (⟨2, ![n, 1]⟩ : Shape).ShapeCasts ⟨2, ![n, 1]⟩)
    (hb : (⟨2, ![n, 1]⟩ : Shape).Broadcasts ⟨2, ![n, 128]⟩)
    (car : FVec Ideal ⟨2, ![n, 128]⟩ .f32) (cum : FVec Ideal ⟨2, ![n, 256]⟩ .f32) : FVec Ideal ⟨3, ![1, n, 128]⟩ .f32 :=
  shapeCast ⟨3, ![1, n, 128]⟩ (addf car (broadcastTo ⟨2, ![n, 128]⟩
    (shapeCast ⟨2, ![n, 1]⟩ (extractStridedSlice ⟨2, ![n, 1]⟩ ![0, 0] cum hs) h11) hb)) h2

/-- The word of `+0.0` is zero. -/
theorem zero_bits : (Scalar.ofBits .f32 0x00000000#32 : Ideal .f32) = 0 := Ideal.ofBits_zero_f32

/-- The word of `1.0` is one. -/
theorem one_bits : (Scalar.ofBits .f32 0x3F800000#32 : Ideal .f32) = 1 := Ideal.ofBits_one_f32

/-- A score: the sum over the 128 lanes plus the bias. -/
theorem gZ_apply (q : FVec Ideal ⟨2, ![n, 128]⟩ .bf16) (kt : FVec Ideal S128x256 .bf16) (b : Ideal .f32) (r : Fin n) (c : Fin 256) :
    gZ q kt b (ix2 r c) = (∑ l : Fin 128, q (ix2 r l) * kt (ix2 l c)) + b := by
  have h := Ideal.matmul_plain_apply none q kt (constant ⟨2, ![n, 256]⟩ .f32 0x00000000#32) r c
  have h0 : (constant ⟨2, ![n, 256]⟩ .f32 0x00000000#32 : FVec Ideal _ _) (ix2 r c) = 0 := zero_bits
  rw [h0, zero_add] at h
  exact congrArg (· + b) h

/-- The softplus read at an index. -/
theorem gSp_apply (z : FVec Ideal ⟨2, ![n, 256]⟩ .f32) (j : (⟨2, ![n, 256]⟩ : Shape).Idx) : gSp z j = sp (z j) := by
  have h0 := zero_bits
  show max (z j) (Scalar.ofBits .f32 0x00000000#32 : Ideal .f32) + Ideal.log ((Scalar.ofBits .f32 0x3F800000#32 : Ideal .f32) + Ideal.exp ((Scalar.ofBits .f32 0x00000000#32 : Ideal .f32) - max (z j) (-(z j)))) = _
  rw [h0, one_bits]; rfl

/-- A masked vector read at an index. -/
theorem gMask_apply (M : IVec ⟨2, ![n, 256]⟩ 1) (x : FVec Ideal ⟨2, ![n, 256]⟩ .f32) (j : (⟨2, ![n, 256]⟩ : Shape).Idx) :
    gMask M x j = if M j = 1#1 then x j else 0 := by
  have h0 := zero_bits
  show (if M j = 1#1 then x j else (Scalar.ofBits .f32 0x00000000#32 : Ideal .f32)) = _
  rw [h0]

/-- The sum within the block from column `c` on. -/
theorem gCum_apply (s : FVec Ideal ⟨2, ![n, 256]⟩ .f32) (tri : FVec Ideal S256x256 .bf16)
    (htri : ∀ a b : Fin 256, tri (ix2 a b) = if b ≤ a then 1 else 0) (r : Fin n) (c : Fin 256) :
    gCum s tri (ix2 r c) = ∑ k : Fin 256, if c ≤ k then s (ix2 r k) else 0 := by
  have h := Ideal.matmul_plain_apply none (truncf .bf16 s bitsLt_bf16_f32 : FVec Ideal _ _) tri (constant ⟨2, ![n, 256]⟩ .f32 0x00000000#32) r c
  have h0 : (constant ⟨2, ![n, 256]⟩ .f32 0x00000000#32 : FVec Ideal _ _) (ix2 r c) = 0 := zero_bits
  rw [h0, zero_add] at h
  refine h.trans (Finset.sum_congr rfl fun k _ => ?_)
  rw [htri]
  show s (ix2 r k) * _ = _
  split <;> simp

/-- A weight, when the carry is the same value `C` in every lane of the row. -/
theorem gA_apply (hc : Shape.Concatenates [⟨2, ![n, 128]⟩, ⟨2, ![n, 128]⟩] ⟨2, ![n, 256]⟩ 1)
    (z cum : FVec Ideal ⟨2, ![n, 256]⟩ .f32) (car : FVec Ideal ⟨2, ![n, 128]⟩ .f32) (r : Fin n) (c : Fin 256)
    (C : EReal) (hC : ∀ l : Fin 128, car (ix2 r l) = C) :
    gA hc z cum car (ix2 r c) = Ideal.exp (z (ix2 r c) - (cum (ix2 r c) + C)) := by
  have h : concatenate ⟨2, ![n, 256]⟩ 1 [⟨⟨2, ![n, 128]⟩, car⟩, ⟨⟨2, ![n, 128]⟩, car⟩] hc (ix2 r c) = C := by
    by_cases hlt : c.val < 128
    · exact (concatenate_pair_apply_left (t := ⟨2, ![n, 256]⟩) (s₁ := ⟨2, ![n, 128]⟩) (s₂ := ⟨2, ![n, 128]⟩) (1 : Fin 2) car car hc (ix2 r c) rfl
        (ix2 r ⟨c.val, hlt⟩) (fun b => match b with | ⟨0, _⟩ => rfl | ⟨1, _⟩ => rfl)).trans (hC _)
    · have hc2 : c.val - 128 < 128 := by have := c.isLt; omega
      refine (concatenate_pair_apply_right (t := ⟨2, ![n, 256]⟩) (s₁ := ⟨2, ![n, 128]⟩) (s₂ := ⟨2, ![n, 128]⟩) (1 : Fin 2) car car hc (ix2 r c) rfl rfl
        (ix2 r ⟨c.val - 128, hc2⟩) (fun b hb => ?_) ?_).trans (hC _)
      · match b with
        | ⟨0, _⟩ => rfl
        | ⟨1, _⟩ => exact absurd rfl hb
      · show c.val - 128 + 128 = c.val
        omega
  show Ideal.exp (z (ix2 r c) - (cum (ix2 r c) + concatenate ⟨2, ![n, 256]⟩ 1 [⟨⟨2, ![n, 128]⟩, car⟩, ⟨⟨2, ![n, 128]⟩, car⟩] hc (ix2 r c))) = _
  rw [h]

/-- A rank-3 array with one leading row, seen as rank 2. -/
theorem drop_apply (h1 : (⟨3, ![1, n, 128]⟩ : Shape).ShapeCasts ⟨2, ![n, 128]⟩) (old : Vec Ideal ⟨3, ![1, n, 128]⟩ .f32)
    (r : Fin n) (l : Fin 128) : shapeCast ⟨2, ![n, 128]⟩ old h1 (ix2 r l) = old (ix3 0 r l) :=
  (shapeCast_dropUnit_apply ![n, 128] old h1 (ix2 r l)).trans (congrArg old (funext fun a => match a with
    | ⟨0, _⟩ => rfl | ⟨1, _⟩ => rfl | ⟨2, _⟩ => rfl))

/-- The accumulator's new entry. -/
theorem gAcc_apply (h1 : (⟨3, ![1, n, 128]⟩ : Shape).ShapeCasts ⟨2, ![n, 128]⟩) (h2 : (⟨2, ![n, 128]⟩ : Shape).ShapeCasts ⟨3, ![1, n, 128]⟩)
    (a : FVec Ideal ⟨2, ![n, 256]⟩ .f32) (vt : FVec Ideal S128x256 .bf16) (old : Vec Ideal ⟨3, ![1, n, 128]⟩ .f32) (r : Fin n) (l : Fin 128) :
    gAcc h1 h2 a vt old (ix3 0 r l) = (old (ix3 0 r l) : EReal) + ∑ c : Fin 256, a (ix2 r c) * vt (ix2 l c) := by
  have h := Ideal.matmul_transposedRhs_apply none (truncf .bf16 a bitsLt_bf16_f32 : FVec Ideal _ _) vt (constant ⟨2, ![n, 128]⟩ .f32 0x00000000#32) r l
  have h0 : (constant ⟨2, ![n, 128]⟩ .f32 0x00000000#32 : FVec Ideal _ _) (ix2 r l) = 0 := zero_bits
  rw [h0, zero_add] at h
  refine (shapeCast_addUnit_apply ![n, 128] _ h2 (ix3 0 r l)).trans ?_
  have e : (fun b => (ix3 (0 : Fin 1) r l : (⟨3, ![1, n, 128]⟩ : Shape).Idx) b.succ : (⟨2, ![n, 128]⟩ : Shape).Idx) = ix2 r l :=
    funext fun b => match b with | ⟨0, _⟩ => rfl | ⟨1, _⟩ => rfl
  refine (congrArg _ e).trans ?_
  exact congrArg₂ (fun x y : EReal => x + y) (drop_apply h1 old r l) h

/-- The carry's new entry. -/
theorem gCar_apply (h2 : (⟨2, ![n, 128]⟩ : Shape).ShapeCasts ⟨3, ![1, n, 128]⟩)
    (hs : (⟨2, ![n, 256]⟩ : Shape).Slices ![0, 0] ⟨2, ![n, 1]⟩) (h11 : (⟨2, ![n, 1]⟩ : Shape).ShapeCasts ⟨2, ![n, 1]⟩)
    (hb : (⟨2, ![n, 1]⟩ : Shape).Broadcasts ⟨2, ![n, 128]⟩)
    (car : FVec Ideal ⟨2, ![n, 128]⟩ .f32) (cum : FVec Ideal ⟨2, ![n, 256]⟩ .f32) (r : Fin n) (l : Fin 128) :
    gCar h2 hs h11 hb car cum (ix3 0 r l) = (car (ix2 r l) : EReal) + cum (ix2 r 0) := by
  refine (shapeCast_addUnit_apply ![n, 128] _ h2 (ix3 0 r l)).trans ?_
  have e : (fun b => (ix3 (0 : Fin 1) r l : (⟨3, ![1, n, 128]⟩ : Shape).Idx) b.succ : (⟨2, ![n, 128]⟩ : Shape).Idx) = ix2 r l :=
    funext fun b => match b with | ⟨0, _⟩ => rfl | ⟨1, _⟩ => rfl
  refine (congrArg _ e).trans ?_
  refine congrArg (fun y : EReal => (car (ix2 r l) : EReal) + y) ?_
  refine (broadcastTo_apply _ hb (ix2 r l) (ix2 r 0) (fun a => ?_)).trans ?_
  · match a with
    | ⟨0, _⟩ =>
      show r.val = if n = 1 then 0 else r.val
      split
      · have := r.isLt; omega
      · rfl
    | ⟨1, _⟩ => rfl
  rw [shapeCast_self]
  exact extractStridedSlice_apply _ cum hs (ix2 r 0) (ix2 r 0) fun a => by
    match a with
    | ⟨0, _⟩ => exact (Nat.zero_add _).symm
    | ⟨1, _⟩ => rfl

end Cert.SbPrompt
-- ==== Proof.Tile.lean ====
/-
  What the kernel's two scratch arrays hold while one tile of 2048 queries is worked through, key block after key block
  from the last one down: the carry holds the sum of the visible softplus values of the blocks done so far, the
  accumulator their weighted values. One step of one head over one block keeps this.
-/
module

public import proofs.«01_k».proof.Proof.Block
public import Idealize.ShloMosaic.Lib.WritesUnit
public import Idealize.ShloMosaic.Lib.VecWindow

@[expose] public section

set_option maxRecDepth 16384

noncomputable section

namespace Cert.SbPrompt

open Idealize.ShloMosaic Idealize.ShloMosaic.ValueIdx Cert.KernelIdeal Cert.KernelIdeal.Gen

/-- What one tile of queries reads: the queries of the two heads, the blocks of keys and values, the heads' biases and
    the number of the tile. -/
structure Tile where
  Q : Fin 2 → Fin 2048 → Fin 128 → EReal
  K : ℕ → Fin 128 → Fin 256 → EReal
  V : ℕ → Fin 128 → Fin 256 → EReal
  B : Fin 2 → EReal
  qi : ℕ

namespace Tile

variable (T : Tile)

/-- The score of row `r` against column `c` of key block `j`. -/
def Z (h : Fin 2) (r : Fin 2048) (j : ℕ) (c : Fin 256) : EReal := (∑ l : Fin 128, T.Q h r l * T.K j l c) + T.B h

/-- Row `r` sees column `c` of block `j`: the key comes strictly before the query. -/
def Vis (r : Fin 2048) (j : ℕ) (c : Fin 256) : Prop := 256 * j + c.val < 2048 * T.qi + r.val

instance (r : Fin 2048) (j : ℕ) (c : Fin 256) : Decidable (T.Vis r j c) := inferInstanceAs (Decidable (_ < _))

/-- The visible softplus. -/
def S (h : Fin 2) (r : Fin 2048) (j : ℕ) (c : Fin 256) : EReal := if T.Vis r j c then sp (T.Z h r j c) else 0

/-- Its sum within the block from column `c` on. -/
def Suf (h : Fin 2) (r : Fin 2048) (j : ℕ) (c : Fin 256) : EReal := ∑ k : Fin 256, if c ≤ k then T.S h r j k else 0

/-- Its sum over the blocks `J`, …, up to the tile's last one. -/
def Car (h : Fin 2) (r : Fin 2048) (J : ℕ) : EReal := ∑ j ∈ Finset.Ico J (8 * T.qi + 8), T.Suf h r j 0

/-- The weight of one key. -/
def A (h : Fin 2) (r : Fin 2048) (j : ℕ) (c : Fin 256) : EReal :=
  if T.Vis r j c then Ideal.exp (T.Z h r j c - (T.Suf h r j c + T.Car h r (j + 1))) else 0

/-- The weighted values of one block. -/
def W (h : Fin 2) (r : Fin 2048) (j : ℕ) (l : Fin 128) : EReal := ∑ c : Fin 256, T.A h r j c * T.V j l c

/-- The weighted values of the blocks `J`, …, up to the tile's last one. -/
def Acc (h : Fin 2) (r : Fin 2048) (J : ℕ) (l : Fin 128) : EReal := ∑ j ∈ Finset.Ico J (8 * T.qi + 8), T.W h r j l

theorem Car_step (h : Fin 2) (r : Fin 2048) {j : ℕ} (hj : j < 8 * T.qi + 8) :
    T.Car h r j = T.Car h r (j + 1) + T.Suf h r j 0 := by
  unfold Car; rw [Finset.sum_eq_sum_Ico_succ_bot hj, add_comm]

theorem Acc_step (h : Fin 2) (r : Fin 2048) {j : ℕ} (hj : j < 8 * T.qi + 8) (l : Fin 128) :
    T.Acc h r j l = T.Acc h r (j + 1) l + T.W h r j l := by
  unfold Acc; rw [Finset.sum_eq_sum_Ico_succ_bot hj, add_comm]

/-- A block that the row does not see adds nothing to the carry. -/
theorem Car_blind (h : Fin 2) (r : Fin 2048) {j : ℕ} (hj : j < 8 * T.qi + 8) (hv : ∀ c, ¬ T.Vis r j c) :
    T.Car h r j = T.Car h r (j + 1) := by
  rw [T.Car_step h r hj]
  have : T.Suf h r j 0 = 0 := Finset.sum_eq_zero fun k _ => by
    rw [S, if_neg (hv k)]; exact ite_self 0
  rw [this, add_zero]

/-- A block that the row does not see adds nothing to the accumulator. -/
theorem Acc_blind (h : Fin 2) (r : Fin 2048) {j : ℕ} (hj : j < 8 * T.qi + 8) (hv : ∀ c, ¬ T.Vis r j c) (l : Fin 128) :
    T.Acc h r j l = T.Acc h r (j + 1) l := by
  rw [T.Acc_step h r hj]
  have : T.W h r j l = 0 := Finset.sum_eq_zero fun k _ => by
    rw [A, if_neg (hv k), zero_mul]
  rw [this, add_zero]

end Tile

/-- Row `r` of the band that starts at row `o`. -/
def row {o n : ℕ} (hn : o + n = 2048) (r : Fin n) : Fin 2048 := ⟨o + r.val, by have := r.isLt; omega⟩

section Half

variable (T : Tile) {o n : ℕ} (hn : o + n = 2048) (h : Fin 2) (j : ℕ)
  (q : FVec Ideal ⟨2, ![n, 128]⟩ .bf16) (kt vt : FVec Ideal S128x256 .bf16) (b : Ideal .f32) (tri : FVec Ideal S256x256 .bf16)
  (hq : ∀ r l, q (ix2 r l) = T.Q h (row hn r) l) (hk : ∀ l c, kt (ix2 l c) = T.K j l c) (hb : b = T.B h)
  (hv : ∀ l c, vt (ix2 l c) = T.V j l c)
  (htri : ∀ a b : Fin 256, tri (ix2 a b) = if b ≤ a then 1 else 0)
  (old8 old9 : Vec Ideal ⟨3, ![1, n, 128]⟩ .f32)
  (h8 : ∀ r l, old8 (ix3 0 r l) = T.Acc h (row hn r) (j + 1) l) (h9 : ∀ r l, old9 (ix3 0 r l) = T.Car h (row hn r) (j + 1))
  (hj : j < 8 * T.qi + 8)
  (h1 : (⟨3, ![1, n, 128]⟩ : Shape).ShapeCasts ⟨2, ![n, 128]⟩) (h2 : (⟨2, ![n, 128]⟩ : Shape).ShapeCasts ⟨3, ![1, n, 128]⟩)
  (hc : Shape.Concatenates [⟨2, ![n, 128]⟩, ⟨2, ![n, 128]⟩] ⟨2, ![n, 256]⟩ 1)
  (hs : (⟨2, ![n, 256]⟩ : Shape).Slices ![0, 0] ⟨2, ![n, 1]⟩) (h11 : (⟨2, ![n, 1]⟩ : Shape).ShapeCasts ⟨2, ![n, 1]⟩)
  (hbr : (⟨2, ![n, 1]⟩ : Shape).Broadcasts ⟨2, ![n, 128]⟩)

include hq hk hb in
theorem z_apply (r : Fin n) (c : Fin 256) : gZ q kt b (ix2 r c) = T.Z h (row hn r) j c := by
  rw [gZ_apply, Tile.Z, hb]
  exact congrArg (· + T.B h) (Finset.sum_congr rfl fun l _ => by rw [hq, hk])

include h9 htri hj in
/-- From the masked softplus values: the carry's new rows. -/
theorem car_apply (s : FVec Ideal ⟨2, ![n, 256]⟩ .f32) (hS : ∀ r c, s (ix2 r c) = T.S h (row hn r) j c) (r : Fin n) (l : Fin 128) :
    gCar h2 hs h11 hbr (shapeCast ⟨2, ![n, 128]⟩ old9 h1) (gCum s tri) (ix3 0 r l) = T.Car h (row hn r) j := by
  rw [gCar_apply, gCum_apply s tri htri, T.Car_step h _ hj]
  refine congrArg₂ (fun x y : EReal => x + y) ((drop_apply h1 old9 r l).trans (h9 r l)) (Finset.sum_congr rfl fun k _ => ?_)
  rw [hS]

include hq hk hb h9 htri in
/-- From the masked softplus values: the weights, where the row sees the key. -/
theorem a_apply (s : FVec Ideal ⟨2, ![n, 256]⟩ .f32) (hS : ∀ r c, s (ix2 r c) = T.S h (row hn r) j c) (r : Fin n) (c : Fin 256) :
    gA hc (gZ q kt b) (gCum s tri) (shapeCast ⟨2, ![n, 128]⟩ old9 h1) (ix2 r c)
      = Ideal.exp (T.Z h (row hn r) j c - (T.Suf h (row hn r) j c + T.Car h (row hn r) (j + 1))) := by
  rw [gA_apply hc _ _ _ r c (T.Car h (row hn r) (j + 1)) (fun l => (drop_apply h1 old9 r l).trans (h9 r l)),
    z_apply T hn h j q kt b hq hk hb, gCum_apply s tri htri]
  refine congrArg (fun x => Ideal.exp (T.Z h (row hn r) j c - (x + T.Car h (row hn r) (j + 1)))) (Finset.sum_congr rfl fun k _ => ?_)
  rw [hS]

include hv h8 hj in
/-- From the weights: the accumulator's new rows. -/
theorem acc_apply (a : FVec Ideal ⟨2, ![n, 256]⟩ .f32) (hA : ∀ r c, a (ix2 r c) = T.A h (row hn r) j c) (r : Fin n) (l : Fin 128) :
    gAcc h1 h2 a vt old8 (ix3 0 r l) = T.Acc h (row hn r) j l := by
  rw [gAcc_apply, T.Acc_step h _ hj, h8]
  refine congrArg (T.Acc h (row hn r) (j + 1) l + ·) (Finset.sum_congr rfl fun k _ => ?_)
  rw [hA, hv]

section Masked

variable (M : IVec ⟨2, ![n, 256]⟩ 1) (hM : ∀ r c, M (ix2 r c) = 1#1 ↔ T.Vis (row hn r) j c)

include hq hk hb hM in
theorem s_masked (r : Fin n) (c : Fin 256) : gMask M (gSp (gZ q kt b)) (ix2 r c) = T.S h (row hn r) j c := by
  rw [gMask_apply, gSp_apply, z_apply T hn h j q kt b hq hk hb, Tile.S]
  exact if_congr (hM r c) rfl rfl

include hq hk hb hM h9 htri in
theorem a_masked (r : Fin n) (c : Fin 256) :
    gMask M (gA hc (gZ q kt b) (gCum (gMask M (gSp (gZ q kt b))) tri) (shapeCast ⟨2, ![n, 128]⟩ old9 h1)) (ix2 r c)
      = T.A h (row hn r) j c := by
  rw [gMask_apply, a_apply T hn h j q kt b tri hq hk hb htri old9 h9 h1 hc _ (s_masked T hn h j q kt b hq hk hb M hM), Tile.A]
  exact if_congr (hM r c) rfl rfl

end Masked

section Whole

variable (hV : ∀ r c, T.Vis (row hn r) j c)

include hq hk hb hV in
theorem s_whole (r : Fin n) (c : Fin 256) : gSp (gZ q kt b) (ix2 r c) = T.S h (row hn r) j c := by
  rw [gSp_apply, z_apply T hn h j q kt b hq hk hb, Tile.S, if_pos (hV r c)]

include hq hk hb hV h9 htri in
theorem a_whole (r : Fin n) (c : Fin 256) :
    gA hc (gZ q kt b) (gCum (gSp (gZ q kt b)) tri) (shapeCast ⟨2, ![n, 128]⟩ old9 h1) (ix2 r c) = T.A h (row hn r) j c := by
  rw [a_apply T hn h j q kt b tri hq hk hb htri old9 h9 h1 hc _ (s_whole T hn h j q kt b hq hk hb hV), Tile.A, if_pos (hV r c)]

end Whole

end Half

section Scratch

variable (T : Tile) {sig : RefSig} {κ κ' : Kind} {sp₁ sp₂ : Space} (v8 : View sig κ sp₁ S2x2048x128 .f32) (v9 : View sig κ' sp₂ S2x2048x128 .f32)

/-- The two scratch arrays hold the sums over the blocks from `J h` on, for each head `h`. -/
def Inv (f8 : v8.ty.Contents (Elt Ideal)) (f9 : v9.ty.Contents (Elt Ideal)) (J : Fin 2 → ℕ) : Prop :=
  ∀ (h : Fin 2) (r : Fin 2048) (l : Fin 128), v8.read (Elt Ideal) f8 (ix3 h r l) = T.Acc h r (J h) l
    ∧ v9.read (Elt Ideal) f9 (ix3 h r l) = T.Car h r (J h)

/-- One band of rows of one head, stored over the rest: a row of the band reads the stored row, any other what was there. -/
theorem read_band {v : View sig κ sp₁ S2x2048x128 .f32} (f : v.ty.Contents (Elt Ideal)) {o n : ℕ} (hn : o + n = 2048) (h : Fin 2)
    (inb : ∀ a, (![h.val, o, 0] : Fin 3 → ℕ) a + (![1, n, 128] : Fin 3 → ℕ) a ≤ S2x2048x128.size a)
    (w : Vec Ideal ⟨3, ![1, n, 128]⟩ .f32) (L : List (View.Piece (Elt Ideal) S2x2048x128 .f32)) (G : Fin 2 → Fin 2048 → Fin 128 → EReal)
    (hw : ∀ r l, w (ix3 0 r l) = G h (row hn r) l)
    (hold : ∀ h' r l, (h' ≠ h ∨ r.val < o) → v.read (Elt Ideal) (v.writes (Elt Ideal) f L) (ix3 h' r l) = G h' r l)
    (h' : Fin 2) (r : Fin 2048) (l : Fin 128) :
    v.read (Elt Ideal) (v.writes (Elt Ideal) f (⟨Rect.unit ![h.val, o, 0] ![1, n, 128] inb, w⟩ :: L)) (ix3 h' r l) = G h' r l := by
  by_cases hh : h' = h
  · subst hh
    by_cases hr : r.val < o
    · exact (View.read_writes_cons_unit_of_not_mem v f inb w L (ix3 h' r l) rfl (1 : Fin 3) (Or.inl hr)).trans (hold _ _ _ (Or.inr hr))
    · have hrn : r.val - o < n := by have := r.isLt; omega
      refine (View.read_writes_cons_unit_of_mem v f inb w L (ix3 h' r l) (ix3 (0 : Fin 1) (⟨r.val - o, hrn⟩ : Fin n) l) rfl (fun a => ?_)).trans ?_
      · match a with
        | ⟨0, _⟩ => rfl
        | ⟨1, _⟩ => show r.val = o + (r.val - o); omega
        | ⟨2, _⟩ => show l.val = 0 + l.val; omega
      · refine (hw _ _).trans (congrArg (fun r => G h' r l) (Fin.ext ?_))
        show o + (r.val - o) = r.val
        omega
  · refine (View.read_writes_cons_unit_of_not_mem v f inb w L (ix3 h' r l) rfl (0 : Fin 3) ?_).trans (hold _ _ _ (Or.inl hh))
    show h'.val < h.val ∨ h.val + 1 ≤ h'.val
    have : h'.val ≠ h.val := fun e => hh (Fin.ext e)
    omega

/-- One step keeps the sums: head `h` goes from the blocks after `j` to the blocks from `j` on, if the rows before the
    stored band do not see block `j`. -/
theorem Inv.step {f8 : v8.ty.Contents (Elt Ideal)} {f9 : v9.ty.Contents (Elt Ideal)} {L8 L9 : List (View.Piece (Elt Ideal) S2x2048x128 .f32)}
    {J : Fin 2 → ℕ} (hI : Inv T v8 v9 (v8.writes (Elt Ideal) f8 L8) (v9.writes (Elt Ideal) f9 L9) J)
    {o n : ℕ} (hn : o + n = 2048) (h : Fin 2) (j : ℕ) (hJ : J h = j + 1) (hj : j < 8 * T.qi + 8)
    (hblind : ∀ (r : Fin 2048) c, r.val < o → ¬ T.Vis r j c)
    (inb : ∀ a, (![h.val, o, 0] : Fin 3 → ℕ) a + (![1, n, 128] : Fin 3 → ℕ) a ≤ S2x2048x128.size a)
    (w8 w9 : Vec Ideal ⟨3, ![1, n, 128]⟩ .f32)
    (hw8 : ∀ r l, w8 (ix3 0 r l) = T.Acc h (row hn r) j l) (hw9 : ∀ r l, w9 (ix3 0 r l) = T.Car h (row hn r) j) :
    Inv T v8 v9 (v8.writes (Elt Ideal) f8 (⟨Rect.unit ![h.val, o, 0] ![1, n, 128] inb, w8⟩ :: L8))
      (v9.writes (Elt Ideal) f9 (⟨Rect.unit ![h.val, o, 0] ![1, n, 128] inb, w9⟩ :: L9)) (Function.update J h j) := by
  intro h' r l
  refine ⟨read_band f8 hn h inb w8 L8 (fun h' r l => T.Acc h' r (Function.update J h j h') l) (fun r l => ?_) (fun h' r l hor => ?_) h' r l,
    read_band f9 hn h inb w9 L9 (fun h' r l => T.Car h' r (Function.update J h j h')) (fun r l => ?_) (fun h' r l hor => ?_) h' r l⟩
  · rw [Function.update_self]; exact hw8 r l
  · refine (hI h' r l).1.trans ?_
    by_cases hh : h' = h
    · subst hh
      rw [Function.update_self, hJ]
      exact (T.Acc_blind _ _ hj (fun c => hblind r c (hor.resolve_left fun e => e rfl)) l).symm
    · rw [Function.update_of_ne hh]
  · rw [Function.update_self]; exact hw9 r l
  · refine (hI h' r l).2.trans ?_
    by_cases hh : h' = h
    · subst hh
      rw [Function.update_self, hJ]
      exact (T.Car_blind _ _ hj (fun c => hblind r c (hor.resolve_left fun e => e rfl))).symm
    · rw [Function.update_of_ne hh]

/-- A load of a band of rows of one head reads those rows. -/
theorem readAt_band {v : View sig κ sp₁ S2x2048x128 .f32} (f : v.ty.Contents (Elt Ideal)) {o n : ℕ} (hn : o + n = 2048) (h : Fin 2)
    (inb : ∀ a, (![h.val, o, 0] : Fin 3 → ℕ) a + (![1, n, 128] : Fin 3 → ℕ) a ≤ S2x2048x128.size a) (r : Fin n) (l : Fin 128) :
    (v.readAt (Elt Ideal) (Rect.unit (s := S2x2048x128) (![h.val, o, 0] : Fin 3 → ℕ) (![1, n, 128] : Fin 3 → ℕ) inb).toLoadRect f : Vec Ideal ⟨3, ![1, n, 128]⟩ .f32) (ix3 0 r l)
      = v.read (Elt Ideal) f (ix3 h (row hn r) l) :=
  congrArg (v.read (Elt Ideal) f) (funext fun a => Fin.ext (by
    match a with
    | ⟨0, _⟩ => rfl
    | ⟨1, _⟩ => show o + 1 * r.val = o + r.val; omega
    | ⟨2, _⟩ => show 0 + 1 * l.val = l.val; omega))

end Scratch

end Cert.SbPrompt
-- ==== Proof.Loads.lean ====
/-
  What one grid point of the kernel reads: its two heads' queries, the blocks of keys and values, the biases, the causal
  mask of the diagonal blocks and the triangle of ones, each read at an index.
-/
module

public import proofs.«01_k».proof.Proof.Tile
public import proofs.«01_k».proof.Proof.Gen.KernelIdeal.Skeleton
public import Idealize.ShloMosaic.Lib.WordCmp

@[expose] public section

set_option maxRecDepth 16384

noncomputable section

namespace Cert.SbPrompt

open Idealize.ShloMosaic Idealize.ShloMosaic.ValueIdx Cert.KernelIdeal Cert.KernelIdeal.Gen

/-- The tile that a grid point works on, from the blocks staged for it: biases, queries, keys and values. -/
def tile (i : grid0.Coords) (x0 : Vec Ideal S8 .f32) (x1 : Vec Ideal S2048x128 .bf16) (x2 x3 : Vec Ideal S1x16x128x256 .bf16) : Tile where
  Q h r l := if l.val / 64 = h.val then x1 (ix2 r l) else 0
  K j l c := if hj : j < 16 then x2 (ix4 0 ⟨j, hj⟩ l c) else 0
  V j l c := if hj : j < 16 then x3 (ix4 0 ⟨j, hj⟩ l c) else 0
  B h := x0 (ix1 ⟨2 * (i 1).val + h.val, by have : (i 1).val < 4 := (i 1).isLt; have := h.isLt; omega⟩)
  qi := (i 2).val

theorem coord_lt (i : grid0.Coords) : (i 2).val < 2 := (i 2).isLt

theorem pair_lt (i : grid0.Coords) : (i 1).val < 4 := (i 1).isLt

/-- A diagonal block's place among the blocks. -/
theorem off1_eq (i : grid0.Coords) {s : ℕ} (hs : s < 8) : k0_off1 i (BitVec.ofNat 32 s) = ![0, 8 * (i 2).val + s, 0, 0] := by
  have h := coord_lt i
  unfold k0_off1
  generalize (i 2).val = p at h
  interval_cases p <;> interval_cases s <;> rfl

/-- The place of a head's bias. -/
theorem off2_eq (i : grid0.Coords) {h : ℕ} (hh : h < 2) : k0_off2 i (BitVec.ofNat 32 h) = ![2 * (i 1).val + h] := by
  have hp := pair_lt i
  unfold k0_off2
  generalize (i 1).val = p at hp
  interval_cases p <;> interval_cases h <;> rfl

/-- The loop runs four trips for each tile before this one. -/
theorem trips_eq (i : grid0.Coords) : (k0_t1_loop i).trips = 4 * (i 2).val := by
  have h := coord_lt i
  unfold k0_t1_loop
  generalize (i 2).val = p at h
  interval_cases p <;> rfl

/-- An earlier block's place among the blocks: the first (`b = 1`) or second (`b = 2`) of trip `k`. -/
theorem off3_eq (i : grid0.Coords) (k : Fin (k0_t1_loop i).trips) {b : ℕ} (hb : b = 1 ∨ b = 2) :
    k0_off3 i k (BitVec.ofNat 32 b) = ![0, 8 * (i 2).val - b - 2 * k.val, 0, 0] := by
  have h := coord_lt i
  have hk : k.val < 4 * (i 2).val := by rw [← trips_eq i]; exact k.isLt
  unfold k0_off3
  generalize k.val = q at hk
  generalize (i 2).val = p at h hk
  interval_cases p
  · omega
  · rcases hb with rfl | rfl <;> interval_cases q <;> rfl

/-- A block of keys or values of a staged batch, read at lane and column. -/
theorem block_apply {sig : RefSig} {κ : Kind} {sp : Space} (M : Memref sig κ sp S1x16x128x256 .bf16) (hM : M.IsWhole)
    (x : Vec Ideal S1x16x128x256 .bf16) {off : Fin 4 → ℕ} {J : ℕ} (hJ : J < 16) (ho : off = ![0, J, 0, 0])
    (inb : ∀ a, off a + S1x1x128x256.size a ≤ S1x16x128x256.size a) (hc : S1x1x128x256.ShapeCasts S128x256) (l : Fin 128) (c : Fin 256) :
    shapeCast S128x256 (M.view.readAt (Elt Ideal) (Rect.unit (s := S1x16x128x256) off S1x1x128x256.size inb).toLoadRect (hM.unread x) : Vec Ideal S1x1x128x256 .bf16) hc (ix2 l c)
      = x (ix4 0 ⟨J, hJ⟩ l c) := by
  subst ho
  refine (shapeCast_apply _ hc (ix2 l c) (ix4 (0 : Fin 1) (0 : Fin 1) l c) ?_).trans ?_
  · rw [Shape.rowMajor_val_four, Shape.rowMajor_val_two]
    show ((0 * 1 + 0) * 128 + l.val) * 256 + c.val = l.val * 256 + c.val
    omega
  · refine (congrArg (M.view.read (Elt Ideal) (hM.unread x)) (funext fun a => Fin.ext ?_)).trans (congrFun (hM.read_unread x) (ix4 0 ⟨J, hJ⟩ l c))
    match a with
    | ⟨0, _⟩ => rfl
    | ⟨1, _⟩ => rfl
    | ⟨2, _⟩ => show 0 + 1 * l.val = l.val; omega
    | ⟨3, _⟩ => show 0 + 1 * c.val = c.val; omega

/-- A head's bias. -/
theorem bias_apply {sig : RefSig} {κ : Kind} {sp : Space} (M : Memref sig κ sp S8 .f32) (hM : M.IsWhole)
    (x : Vec Ideal S8 .f32) {off : Fin 1 → ℕ} {p : ℕ} (hp : p < 8) (ho : off = ![p]) (inb : ∀ a, off a + S1.size a ≤ S8.size a) (hpos : 0 < S1.numel) :
    (M.view.readAt (Elt Ideal) (Rect.unit (s := S8) off S1.size inb).toLoadRect (hM.unread x) : Vec Ideal S1 .f32) (Shape.Idx.first hpos)
      = x (ix1 ⟨p, hp⟩) := by
  subst ho
  refine (congrArg (M.view.read (Elt Ideal) (hM.unread x)) (funext fun a => Fin.ext ?_)).trans (congrFun (hM.read_unread x) (ix1 ⟨p, hp⟩))
  match a with
  | ⟨0, _⟩ =>
    have : ((Shape.Idx.first hpos : S1.Idx) 0).val < 1 := ((Shape.Idx.first hpos : S1.Idx) 0).isLt
    show p + 1 * ((Shape.Idx.first hpos : S1.Idx) 0).val = p
    omega

/-- A load of the whole block of queries. -/
theorem query_load {sig : RefSig} {κ : Kind} {sp : Space} (M : Memref sig κ sp S2048x128 .bf16) (hM : M.IsWhole)
    (x : Vec Ideal S2048x128 .bf16) (inb : ∀ a, (![0, 0] : Fin 2 → ℕ) a + S2048x128.size a ≤ S2048x128.size a) :
    M.view.readAt (Elt Ideal) (Rect.unit (s := S2048x128) ![0, 0] S2048x128.size inb).toLoadRect (hM.unread x) = x :=
  (View.readAt_full M.view (hM.unread x) inb).trans (hM.read_unread x)

/-- The lane numbers. -/
theorem iota_lane (r : Fin 2048) (l : Fin 128) : iota .tc S2048x128 32 [1] iota_S2048x128_d1_w32 (ix2 r l) = BitVec.ofNat 32 l.val :=
  iota_single_apply .tc S2048x128 32 1 _ (ix2 r l)

/-- The first head's queries: the lanes below 64. -/
theorem q0_apply (x : Vec Ideal S2048x128 .bf16) (r : Fin 2048) (l : Fin 128) :
    (k0_pay66 x (ix2 r l) : EReal) = if l.val / 64 = 0 then x (ix2 r l) else 0 := by
  have e : k0_pay66 x (ix2 r l) = if IntOp.cmpi .slt (BitVec.ofNat 32 l.val) (BitVec.ofNat 32 64) = 1#1 then
      shapeCast S2048x128 x shapeCasts_S2048x128_S2048x128 (ix2 r l) else (Scalar.ofBits .bf16 0x0000#16 : Ideal .bf16) := by
    rw [← iota_lane r l]; rfl
  rw [e, shapeCast_self]
  have hl := l.isLt
  refine if_congr ((WordCmp.cmpi_slt_ofNat_eq_one_iff (by omega) (by omega)).trans (by omega)) rfl Ideal.ofBits_zero_bf16

/-- The second head's queries: the other lanes. -/
theorem q1_apply (x : Vec Ideal S2048x128 .bf16) (r : Fin 2048) (l : Fin 128) :
    (k0_pay67 x (ix2 r l) : EReal) = if l.val / 64 = 1 then x (ix2 r l) else 0 := by
  have e : k0_pay67 x (ix2 r l) = if IntOp.cmpi .sge (BitVec.ofNat 32 l.val) (BitVec.ofNat 32 64) = 1#1 then
      shapeCast S2048x128 x shapeCasts_S2048x128_S2048x128 (ix2 r l) else (Scalar.ofBits .bf16 0x0000#16 : Ideal .bf16) := by
    rw [← iota_lane r l]; rfl
  rw [e, shapeCast_self]
  have hl := l.isLt
  refine if_congr ((WordCmp.cmpi_sge_ofNat_eq_one_iff (by omega) (by omega)).trans (by omega)) rfl Ideal.ofBits_zero_bf16

/-- The triangle of ones. -/
theorem tri_apply (a b : Fin 256) : (k0_pay68 : FVec Ideal S256x256 .bf16) (ix2 a b) = if b ≤ a then (1 : EReal) else 0 := by
  have e : (k0_pay68 : FVec Ideal S256x256 .bf16) (ix2 a b) = ((((IntOp.cmpi .sge (BitVec.ofNat 32 a.val) (BitVec.ofNat 32 b.val)).zeroExtend 32).toInt : ℝ) : EReal) := by
    rw [show BitVec.ofNat 32 a.val = iota .tc S256x256 32 [0] iota_S256x256_d0_w32 (ix2 a b) from (iota_single_apply .tc S256x256 32 0 _ (ix2 a b)).symm,
      show BitVec.ofNat 32 b.val = iota .tc S256x256 32 [1] iota_S256x256_d1_w32 (ix2 a b) from (iota_single_apply .tc S256x256 32 1 _ (ix2 a b)).symm]
    rfl
  have ha := a.isLt; have hb := b.isLt
  have hc := WordCmp.cmpi_sge_ofNat_eq_one_iff (w := 32) (a := a.val) (b := b.val) (by omega) (by omega)
  rw [e]
  by_cases h : b ≤ a
  · rw [if_pos h, hc.mpr h]; norm_num
  · rw [if_neg h, WordCmp.cmpi_sge_ofNat_eq_zero_iff (by omega) (by omega) |>.mpr (by omega)]; norm_num

/-- A band of rows of the queries. -/
theorem slice_rows {o n : ℕ} (hn : o + n = 2048) (q : FVec Ideal S2048x128 .bf16)
    (hs : S2048x128.Slices ![o, 0] ⟨2, ![n, 128]⟩) (r : Fin n) (l : Fin 128) :
    extractStridedSlice ⟨2, ![n, 128]⟩ ![o, 0] q hs (ix2 r l) = q (ix2 (row hn r) l) :=
  extractStridedSlice_apply _ q hs (ix2 r l) (ix2 (row hn r) l) fun a => by
    match a with
    | ⟨0, _⟩ => rfl
    | ⟨1, _⟩ => show l.val = 0 + l.val; omega

/-- The causal mask of the diagonal block that starts `o` rows into the tile. -/
def gM {n : ℕ} (o : ℕ) (hs : S2048x256.Slices ![o, 0] ⟨2, ![n, 256]⟩) : IVec ⟨2, ![n, 256]⟩ 1 :=
  extractStridedSlice ⟨2, ![n, 256]⟩ ![o, 0]
    (cmpi .slt (addi (iota .tc S2048x256 32 [1] iota_S2048x256_d1_w32) (broadcast S2048x256 (BitVec.ofNat 32 o)))
      (iota .tc S2048x256 32 [0] iota_S2048x256_d0_w32)) hs

theorem gM_apply {o n : ℕ} (hn : o + n = 2048) (hs : S2048x256.Slices ![o, 0] ⟨2, ![n, 256]⟩) (r : Fin n) (c : Fin 256) :
    gM o hs (ix2 r c) = 1#1 ↔ c.val + o < o + r.val := by
  have hr := r.isLt; have hc := c.isLt
  have e : gM o hs (ix2 r c) = IntOp.cmpi .slt (BitVec.ofNat 32 (c.val + o)) (BitVec.ofNat 32 (o + r.val)) := by
    refine (extractStridedSlice_apply _ _ hs (ix2 r c) (ix2 (row hn r) c) fun a => by
      match a with
      | ⟨0, _⟩ => rfl
      | ⟨1, _⟩ => show c.val = 0 + c.val; omega).trans ?_
    show IntOp.cmpi .slt (iota .tc S2048x256 32 [1] iota_S2048x256_d1_w32 (ix2 (row hn r) c) + BitVec.ofNat 32 o)
      (iota .tc S2048x256 32 [0] iota_S2048x256_d0_w32 (ix2 (row hn r) c)) = _
    rw [iota_single_apply .tc S2048x256 32 0 _ (ix2 (row hn r) c), iota_single_apply .tc S2048x256 32 1 _ (ix2 (row hn r) c), BitVec.ofNat_add]
    rfl
  rw [e]
  exact WordCmp.cmpi_slt_ofNat_eq_one_iff (by omega) (by omega)

end Cert.SbPrompt
-- ==== Proof.Step.lean ====
/-
  One key block, both heads: from the sums over the blocks after `j` in the two scratch arrays to the sums over the blocks
  from `j` on. First the diagonal blocks, whose stores cover only the rows that see something of the block and whose weights
  are masked; then the earlier blocks, which every row of the tile sees whole.
-/
module

public import proofs.«01_k».proof.Proof.Loads

@[expose] public section

set_option maxRecDepth 16384

noncomputable section

namespace Cert.SbPrompt

open Idealize.ShloMosaic Idealize.ShloMosaic.ValueIdx Cert.KernelIdeal Cert.KernelIdeal.Gen

section Vectors

variable {n : ℕ}
  (q : FVec Ideal ⟨2, ![n, 128]⟩ .bf16) (M : IVec ⟨2, ![n, 256]⟩ 1) (kt vt : FVec Ideal S128x256 .bf16) (b : Ideal .f32) (tri : FVec Ideal S256x256 .bf16)
  (old8 old9 : Vec Ideal ⟨3, ![1, n, 128]⟩ .f32)

theorem drop_ok (n : ℕ) : (⟨3, ![1, n, 128]⟩ : Shape).ShapeCasts ⟨2, ![n, 128]⟩ := by
  show Shape.numel _ = Shape.numel _
  simp [Shape.numel, Fin.prod_univ_succ]

theorem lift_ok (n : ℕ) : (⟨2, ![n, 128]⟩ : Shape).ShapeCasts ⟨3, ![1, n, 128]⟩ := by
  show Shape.numel _ = Shape.numel _
  simp [Shape.numel, Fin.prod_univ_succ]

theorem twice_ok (n : ℕ) : Shape.Concatenates [⟨2, ![n, 128]⟩, ⟨2, ![n, 128]⟩] ⟨2, ![n, 256]⟩ 1 := by
  refine ⟨le_refl _, fun s hs => ⟨by simp at hs; rw [hs], ?_⟩, rfl⟩
  simp at hs
  subst hs
  intro b hb
  match b with
  | ⟨0, _⟩ => rfl
  | ⟨1, _⟩ => exact absurd rfl hb

theorem col_ok (n : ℕ) : (⟨2, ![n, 256]⟩ : Shape).Slices ![0, 0] ⟨2, ![n, 1]⟩ := by
  refine ⟨rfl, fun a => ?_⟩
  match a with
  | ⟨0, _⟩ => show 0 + n ≤ n; omega
  | ⟨1, _⟩ => show 0 + 1 ≤ 256; omega

theorem col_same (n : ℕ) : (⟨2, ![n, 1]⟩ : Shape).ShapeCasts ⟨2, ![n, 1]⟩ := rfl

theorem spread_ok (n : ℕ) : (⟨2, ![n, 1]⟩ : Shape).Broadcasts ⟨2, ![n, 128]⟩ := by
  refine ⟨le_refl _, fun a => ?_⟩
  match a with
  | ⟨0, _⟩ => exact .inr fun _ => rfl
  | ⟨1, _⟩ => exact .inl rfl

/-- The rows a diagonal block stores in the accumulator. -/
def dAcc : FVec Ideal ⟨3, ![1, n, 128]⟩ .f32 :=
  gAcc (drop_ok n) (lift_ok n) (gMask M (gA (twice_ok n) (gZ q kt b) (gCum (gMask M (gSp (gZ q kt b))) tri) (shapeCast ⟨2, ![n, 128]⟩ old9 (drop_ok n)))) vt old8

/-- The rows a diagonal block stores in the carry. -/
def dCar : FVec Ideal ⟨3, ![1, n, 128]⟩ .f32 :=
  gCar (lift_ok n) (col_ok n) (col_same n) (spread_ok n) (shapeCast ⟨2, ![n, 128]⟩ old9 (drop_ok n)) (gCum (gMask M (gSp (gZ q kt b))) tri)

/-- The rows an earlier block stores in the accumulator. -/
def wAcc : FVec Ideal ⟨3, ![1, n, 128]⟩ .f32 :=
  gAcc (drop_ok n) (lift_ok n) (gA (twice_ok n) (gZ q kt b) (gCum (gSp (gZ q kt b)) tri) (shapeCast ⟨2, ![n, 128]⟩ old9 (drop_ok n))) vt old8

/-- The rows an earlier block stores in the carry. -/
def wCar : FVec Ideal ⟨3, ![1, n, 128]⟩ .f32 :=
  gCar (lift_ok n) (col_ok n) (col_same n) (spread_ok n) (shapeCast ⟨2, ![n, 128]⟩ old9 (drop_ok n)) (gCum (gSp (gZ q kt b)) tri)

end Vectors

section Diagonal

variable (T : Tile) {sig : RefSig} {κ κ' : Kind} {sp₁ sp₂ : Space} (v8 : View sig κ sp₁ S2x2048x128 .f32) (v9 : View sig κ' sp₂ S2x2048x128 .f32)

/-- One head on one diagonal block. -/
theorem diag_step {L8 L9 : List (View.Piece (Elt Ideal) S2x2048x128 .f32)} {J : Fin 2 → ℕ}
    (hI : Inv T v8 v9 (v8.writes (Elt Ideal) v8.junk L8) (v9.writes (Elt Ideal) v9.junk L9) J)
    (o n s : ℕ) (hn : o + n = 2048) (ho : o = 256 * s) (h : Fin 2) (hs8 : s < 8) (hJ : J h = 8 * T.qi + s + 1)
    (inb : ∀ a, (![h.val, o, 0] : Fin 3 → ℕ) a + (![1, n, 128] : Fin 3 → ℕ) a ≤ S2x2048x128.size a)
    (q : FVec Ideal ⟨2, ![n, 128]⟩ .bf16) (M : IVec ⟨2, ![n, 256]⟩ 1) (kt vt : FVec Ideal S128x256 .bf16) (b : Ideal .f32) (tri : FVec Ideal S256x256 .bf16)
    (hq : ∀ r l, q (ix2 r l) = T.Q h (row hn r) l) (hM : ∀ r c, M (ix2 r c) = 1#1 ↔ c.val + o < o + r.val) (hk : ∀ l c, kt (ix2 l c) = T.K (8 * T.qi + s) l c) (hb : b = T.B h)
    (hv : ∀ l c, vt (ix2 l c) = T.V (8 * T.qi + s) l c) (htri : ∀ a b : Fin 256, tri (ix2 a b) = if b ≤ a then 1 else 0)
    (w8 w9 : Vec Ideal ⟨3, ![1, n, 128]⟩ .f32)
    (e8 : w8 = dAcc q M kt vt b tri
      (v8.readCov L8 (Rect.unit (s := S2x2048x128) (![h.val, o, 0] : Fin 3 → ℕ) (![1, n, 128] : Fin 3 → ℕ) inb).toLoadRect)
      (v9.readCov L9 (Rect.unit (s := S2x2048x128) (![h.val, o, 0] : Fin 3 → ℕ) (![1, n, 128] : Fin 3 → ℕ) inb).toLoadRect))
    (e9 : w9 = dCar q M kt b tri
      (v9.readCov L9 (Rect.unit (s := S2x2048x128) (![h.val, o, 0] : Fin 3 → ℕ) (![1, n, 128] : Fin 3 → ℕ) inb).toLoadRect)) :
    Inv T v8 v9 (v8.writes (Elt Ideal) v8.junk (⟨Rect.unit ![h.val, o, 0] ![1, n, 128] inb, w8⟩ :: L8))
      (v9.writes (Elt Ideal) v9.junk (⟨Rect.unit ![h.val, o, 0] ![1, n, 128] inb, w9⟩ :: L9)) (Function.update J h (8 * T.qi + s)) := by
  have hM' : ∀ (r : Fin n) c, M (ix2 r c) = 1#1 ↔ T.Vis (row hn r) (8 * T.qi + s) c := fun r c => by
    rw [hM]
    show _ ↔ 256 * (8 * T.qi + s) + c.val < 2048 * T.qi + (o + r.val)
    omega
  have h8 := fun (r : Fin n) (l : Fin 128) => (readAt_band (v8.writes (Elt Ideal) v8.junk L8) hn h inb r l).trans ((hI h (row hn r) l).1.trans (by rw [hJ]))
  have h9 := fun (r : Fin n) (l : Fin 128) => (readAt_band (v9.writes (Elt Ideal) v9.junk L9) hn h inb r l).trans ((hI h (row hn r) l).2.trans (by rw [hJ]))
  have hj : 8 * T.qi + s < 8 * T.qi + 8 := by omega
  refine hI.step T v8 v9 hn h (8 * T.qi + s) hJ hj (fun r c hr => ?_) inb w8 w9 ?_ ?_
  · show ¬ 256 * (8 * T.qi + s) + c.val < 2048 * T.qi + r.val
    omega
  · subst e8
    exact acc_apply T hn h (8 * T.qi + s) vt hv _ h8 hj _ _ _
      (a_masked T hn h (8 * T.qi + s) _ kt b tri hq hk hb htri _ h9 _ _ _ hM')
  · subst e9
    exact car_apply T hn h (8 * T.qi + s) tri htri _ h9 hj _ _ _ _ _ _
      (s_masked T hn h (8 * T.qi + s) _ kt b hq hk hb _ hM')

/-- Both heads on one diagonal block. -/
theorem diag_pair {L8 L9 : List (View.Piece (Elt Ideal) S2x2048x128 .f32)} (o n s : ℕ)
    (hI : Inv T v8 v9 (v8.writes (Elt Ideal) v8.junk L8) (v9.writes (Elt Ideal) v9.junk L9) (fun _ => 8 * T.qi + s + 1))
    (hn : o + n = 2048) (ho : o = 256 * s) (hs8 : s < 8)
    {inb₀ : ∀ a, (![0, o, 0] : Fin 3 → ℕ) a + (![1, n, 128] : Fin 3 → ℕ) a ≤ S2x2048x128.size a}
    {inb₁ : ∀ a, (![1, o, 0] : Fin 3 → ℕ) a + (![1, n, 128] : Fin 3 → ℕ) a ≤ S2x2048x128.size a}
    {q₀ q₁ : FVec Ideal ⟨2, ![n, 128]⟩ .bf16} {M : IVec ⟨2, ![n, 256]⟩ 1} {kt vt : FVec Ideal S128x256 .bf16} {b₀ b₁ : Ideal .f32} {tri : FVec Ideal S256x256 .bf16}
    (hq₀ : ∀ r l, q₀ (ix2 r l) = T.Q 0 (row hn r) l) (hq₁ : ∀ r l, q₁ (ix2 r l) = T.Q 1 (row hn r) l)
    (hM : ∀ r c, M (ix2 r c) = 1#1 ↔ c.val + o < o + r.val) (hb₀ : b₀ = T.B 0) (hb₁ : b₁ = T.B 1)
    (htri : ∀ a b : Fin 256, tri (ix2 a b) = if b ≤ a then 1 else 0)
    (hk : ∀ l c, kt (ix2 l c) = T.K (8 * T.qi + s) l c)
    (hv : ∀ l c, vt (ix2 l c) = T.V (8 * T.qi + s) l c)
    {w8 w9 w8' w9' : Vec Ideal ⟨3, ![1, n, 128]⟩ .f32}
    (e8 : w8 = dAcc q₀ M kt vt b₀ tri
      (v8.readCov L8 (Rect.unit (s := S2x2048x128) (![0, o, 0] : Fin 3 → ℕ) (![1, n, 128] : Fin 3 → ℕ) inb₀).toLoadRect)
      (v9.readCov L9 (Rect.unit (s := S2x2048x128) (![0, o, 0] : Fin 3 → ℕ) (![1, n, 128] : Fin 3 → ℕ) inb₀).toLoadRect))
    (e9 : w9 = dCar q₀ M kt b₀ tri
      (v9.readCov L9 (Rect.unit (s := S2x2048x128) (![0, o, 0] : Fin 3 → ℕ) (![1, n, 128] : Fin 3 → ℕ) inb₀).toLoadRect))
    (e8' : w8' = dAcc q₁ M kt vt b₁ tri
      (v8.readCov (⟨Rect.unit ![0, o, 0] ![1, n, 128] inb₀, w8⟩ :: L8) (Rect.unit (s := S2x2048x128) (![1, o, 0] : Fin 3 → ℕ) (![1, n, 128] : Fin 3 → ℕ) inb₁).toLoadRect)
      (v9.readCov (⟨Rect.unit ![0, o, 0] ![1, n, 128] inb₀, w9⟩ :: L9) (Rect.unit (s := S2x2048x128) (![1, o, 0] : Fin 3 → ℕ) (![1, n, 128] : Fin 3 → ℕ) inb₁).toLoadRect))
    (e9' : w9' = dCar q₁ M kt b₁ tri
      (v9.readCov (⟨Rect.unit ![0, o, 0] ![1, n, 128] inb₀, w9⟩ :: L9) (Rect.unit (s := S2x2048x128) (![1, o, 0] : Fin 3 → ℕ) (![1, n, 128] : Fin 3 → ℕ) inb₁).toLoadRect)) :
    Inv T v8 v9 (v8.writes (Elt Ideal) v8.junk (⟨Rect.unit ![1, o, 0] ![1, n, 128] inb₁, w8'⟩ :: ⟨Rect.unit ![0, o, 0] ![1, n, 128] inb₀, w8⟩ :: L8))
      (v9.writes (Elt Ideal) v9.junk (⟨Rect.unit ![1, o, 0] ![1, n, 128] inb₁, w9'⟩ :: ⟨Rect.unit ![0, o, 0] ![1, n, 128] inb₀, w9⟩ :: L9))
      (fun _ => 8 * T.qi + s) := by
  have hA := diag_step T v8 v9 hI o n s hn ho 0 hs8 rfl inb₀ q₀ M kt vt b₀ tri hq₀ hM hk hb₀ hv htri w8 w9 e8 e9
  have hB := diag_step T v8 v9 hA o n s hn ho 1 hs8 rfl inb₁ q₁ M kt vt b₁ tri hq₁ hM hk hb₁ hv htri w8' w9' e8' e9'
  have e : Function.update (Function.update (fun _ : Fin 2 => 8 * T.qi + s + 1) 0 (8 * T.qi + s)) 1 (8 * T.qi + s) = fun _ => 8 * T.qi + s := by
    funext x
    match x with
    | 0 => rfl
    | 1 => rfl
  rw [e] at hB
  exact hB

end Diagonal

section Earlier

variable (T : Tile) {sig : RefSig} {κ κ' : Kind} {sp₁ sp₂ : Space} (v8 : View sig κ sp₁ S2x2048x128 .f32) (v9 : View sig κ' sp₂ S2x2048x128 .f32)

/-- One head on one earlier block: the rows it stores are the sums from that block on. -/
theorem whole_step (h : Fin 2) (j : ℕ) (hj : j < 8 * T.qi)
    (q : FVec Ideal S2048x128 .bf16) (kt vt : FVec Ideal S128x256 .bf16) (b : Ideal .f32) (tri : FVec Ideal S256x256 .bf16)
    (hq : ∀ r l, q (ix2 r l) = T.Q h r l) (hk : ∀ l c, kt (ix2 l c) = T.K j l c) (hb : b = T.B h)
    (hv : ∀ l c, vt (ix2 l c) = T.V j l c) (htri : ∀ a b : Fin 256, tri (ix2 a b) = if b ≤ a then 1 else 0)
    (old8 old9 : Vec Ideal S1x2048x128 .f32)
    (h8 : ∀ r l, old8 (ix3 0 r l) = T.Acc h r (j + 1) l) (h9 : ∀ r l, old9 (ix3 0 r l) = T.Car h r (j + 1)) (r : Fin 2048) (l : Fin 128) :
    wAcc q kt vt b tri old8 old9 (ix3 0 r l) = T.Acc h r j l ∧ wCar q kt b tri old9 (ix3 0 r l) = T.Car h r j := by
  have e : ∀ r, row (o := 0) (n := 2048) rfl r = r := fun r => Fin.ext (Nat.zero_add _)
  have hV : ∀ (r : Fin 2048) c, T.Vis (row (o := 0) (n := 2048) rfl r) j c := fun r c => by
    rw [e]; show 256 * j + c.val < 2048 * T.qi + r.val
    have := c.isLt; omega
  have hq' : ∀ (r : Fin 2048) l, q (ix2 r l) = T.Q h (row (o := 0) (n := 2048) rfl r) l := fun r l => by rw [e]; exact hq r l
  have h8' : ∀ (r : Fin 2048) l, old8 (ix3 0 r l) = T.Acc h (row (o := 0) (n := 2048) rfl r) (j + 1) l := fun r l => by rw [e]; exact h8 r l
  have h9' : ∀ (r : Fin 2048) (l : Fin 128), old9 (ix3 0 r l) = T.Car h (row (o := 0) (n := 2048) rfl r) (j + 1) := fun r l => by rw [e]; exact h9 r l
  have hj' : j < 8 * T.qi + 8 := by omega
  constructor
  · refine (acc_apply T (o := 0) (n := 2048) rfl h j vt hv old8 h8' hj' _ _ _
      (a_whole T rfl h j q kt b tri hq' hk hb htri old9 h9' _ _ hV) r l).trans (by rw [e])
  · refine (car_apply T (o := 0) (n := 2048) rfl h j tri htri old9 h9' hj' _ _ _ _ _ _
      (s_whole T rfl h j q kt b hq' hk hb hV) r l).trans (by rw [e])

/-- A store of all rows of both heads leaves the sums whatever was there before. -/
theorem Inv.of_pair (f8 : v8.ty.Contents (Elt Ideal)) (f9 : v9.ty.Contents (Elt Ideal)) (L8 L9 : List (View.Piece (Elt Ideal) S2x2048x128 .f32))
    (J : Fin 2 → ℕ)
    (inb₀ : ∀ a, (![0, 0, 0] : Fin 3 → ℕ) a + (![1, 2048, 128] : Fin 3 → ℕ) a ≤ S2x2048x128.size a)
    (inb₁ : ∀ a, (![1, 0, 0] : Fin 3 → ℕ) a + (![1, 2048, 128] : Fin 3 → ℕ) a ≤ S2x2048x128.size a)
    (w8 w9 w8' w9' : Vec Ideal S1x2048x128 .f32)
    (h₀ : ∀ r l, w8 (ix3 0 r l) = T.Acc 0 r (J 0) l ∧ w9 (ix3 0 r l) = T.Car 0 r (J 0))
    (h₁ : ∀ r l, w8' (ix3 0 r l) = T.Acc 1 r (J 1) l ∧ w9' (ix3 0 r l) = T.Car 1 r (J 1)) :
    Inv T v8 v9 (v8.writes (Elt Ideal) f8 (⟨Rect.unit ![1, 0, 0] ![1, 2048, 128] inb₁, w8'⟩ :: ⟨Rect.unit ![0, 0, 0] ![1, 2048, 128] inb₀, w8⟩ :: L8))
      (v9.writes (Elt Ideal) f9 (⟨Rect.unit ![1, 0, 0] ![1, 2048, 128] inb₁, w9'⟩ :: ⟨Rect.unit ![0, 0, 0] ![1, 2048, 128] inb₀, w9⟩ :: L9)) J := by
  have e : ∀ r, row (o := 0) (n := 2048) rfl r = r := fun r => Fin.ext (Nat.zero_add _)
  have key : ∀ {κ : Kind} {sp : Space} (v : View sig κ sp S2x2048x128 .f32) (f : v.ty.Contents (Elt Ideal)) (L : List (View.Piece (Elt Ideal) S2x2048x128 .f32))
      (w w' : Vec Ideal S1x2048x128 .f32) (G : Fin 2 → Fin 2048 → Fin 128 → EReal) (_ : ∀ r l, w (ix3 0 r l) = G 0 r l) (_ : ∀ r l, w' (ix3 0 r l) = G 1 r l)
      (h : Fin 2) (r : Fin 2048) (l : Fin 128),
      v.read (Elt Ideal) (v.writes (Elt Ideal) f (⟨Rect.unit ![1, 0, 0] ![1, 2048, 128] inb₁, w'⟩ :: ⟨Rect.unit ![0, 0, 0] ![1, 2048, 128] inb₀, w⟩ :: L)) (ix3 h r l) = G h r l := by
    intro κ sp v f L w w' G hw hw' h r l
    refine read_band f (o := 0) (n := 2048) rfl 1 inb₁ w' _ G (fun r l => by rw [e]; exact hw' r l) (fun h' r l hor => ?_) h r l
    match h' with
    | 1 => exact hor.elim (fun x => absurd rfl x) fun x => absurd x (Nat.not_lt_zero _)
    | 0 =>
      refine (read_band f (o := 0) (n := 2048) rfl 0 inb₀ w _
        (fun h r l => if h = 0 then G 0 r l else v.read (Elt Ideal) (v.writes (Elt Ideal) f L) (ix3 h r l)) (fun r l => by rw [e, if_pos rfl]; exact hw r l)
        (fun h' r l hor => ?_) 0 r l).trans (if_pos rfl)
      rw [if_neg (hor.elim id fun x => absurd x (Nat.not_lt_zero _))]
  exact fun h r l => ⟨key v8 f8 L8 w8 w8' (fun h r l => T.Acc h r (J h) l) (fun r l => (h₀ r l).1) (fun r l => (h₁ r l).1) h r l,
    key v9 f9 L9 w9 w9' (fun h r _ => T.Car h r (J h)) (fun r l => (h₀ r l).2) (fun r l => (h₁ r l).2) h r l⟩

end Earlier

end Cert.SbPrompt
-- ==== Proof.Diag.lean ====
/-
  The eight diagonal blocks of a tile: after them the two scratch arrays hold the sums over the tile's own keys.
-/
module

public import proofs.«01_k».proof.Proof.Step
public import proofs.«01_k».proof.Proof.Gen.KernelIdeal.Value
import all proofs.«01_k».proof.Proof.Gen.KernelIdeal.Loops
import all proofs.«01_k».proof.Proof.Gen.KernelIdeal.Frame.RunA

@[expose] public section

set_option maxRecDepth 16384

noncomputable section

namespace Cert.SbPrompt

open Idealize.ShloMosaic Idealize.ShloMosaic.ValueIdx Cert.KernelIdeal Cert.KernelIdeal.Gen

section Loads

variable {i : grid0.Coords} {x0 : Vec Ideal S8 .f32} {x1 : Vec Ideal S2048x128 .bf16} {x2 x3 : Vec Ideal S1x16x128x256 .bf16}
  {sig : RefSig} {κ : Kind} {sp : Space}

theorem tile_q0 (M : Memref sig κ sp S2048x128 .bf16) (hM : M.IsWhole) (inb : ∀ a, (![0, 0] : Fin 2 → ℕ) a + S2048x128.size a ≤ S2048x128.size a)
    (r : Fin 2048) (l : Fin 128) :
    k0_pay66 (M.view.readAt (Elt Ideal) (Rect.unit (s := S2048x128) ![0, 0] S2048x128.size inb).toLoadRect (hM.unread x1)) (ix2 r l)
      = (tile i x0 x1 x2 x3).Q 0 r l := by
  rw [query_load M hM x1 inb]; exact q0_apply x1 r l

theorem tile_q1 (M : Memref sig κ sp S2048x128 .bf16) (hM : M.IsWhole) (inb : ∀ a, (![0, 0] : Fin 2 → ℕ) a + S2048x128.size a ≤ S2048x128.size a)
    (r : Fin 2048) (l : Fin 128) :
    k0_pay67 (M.view.readAt (Elt Ideal) (Rect.unit (s := S2048x128) ![0, 0] S2048x128.size inb).toLoadRect (hM.unread x1)) (ix2 r l)
      = (tile i x0 x1 x2 x3).Q 1 r l := by
  rw [query_load M hM x1 inb]; exact q1_apply x1 r l

theorem tile_k (M : Memref sig κ sp S1x16x128x256 .bf16) (hM : M.IsWhole) {off : Fin 4 → ℕ} {J : ℕ} (hJ : J < 16) (ho : off = ![0, J, 0, 0])
    (inb : ∀ a, off a + S1x1x128x256.size a ≤ S1x16x128x256.size a) (hc : S1x1x128x256.ShapeCasts S128x256) (l : Fin 128) (c : Fin 256) :
    shapeCast S128x256 (M.view.readAt (Elt Ideal) (Rect.unit (s := S1x16x128x256) off S1x1x128x256.size inb).toLoadRect (hM.unread x2) : Vec Ideal S1x1x128x256 .bf16) hc (ix2 l c)
      = (tile i x0 x1 x2 x3).K J l c := by
  refine (block_apply M hM x2 hJ ho inb hc l c).trans ?_
  show _ = if hj : J < 16 then x2 (ix4 0 ⟨J, hj⟩ l c) else (0 : EReal)
  rw [dif_pos hJ]

theorem tile_v (M : Memref sig κ sp S1x16x128x256 .bf16) (hM : M.IsWhole) {off : Fin 4 → ℕ} {J : ℕ} (hJ : J < 16) (ho : off = ![0, J, 0, 0])
    (inb : ∀ a, off a + S1x1x128x256.size a ≤ S1x16x128x256.size a) (hc : S1x1x128x256.ShapeCasts S128x256) (l : Fin 128) (c : Fin 256) :
    shapeCast S128x256 (M.view.readAt (Elt Ideal) (Rect.unit (s := S1x16x128x256) off S1x1x128x256.size inb).toLoadRect (hM.unread x3) : Vec Ideal S1x1x128x256 .bf16) hc (ix2 l c)
      = (tile i x0 x1 x2 x3).V J l c := by
  refine (block_apply M hM x3 hJ ho inb hc l c).trans ?_
  show _ = if hj : J < 16 then x3 (ix4 0 ⟨J, hj⟩ l c) else (0 : EReal)
  rw [dif_pos hJ]

theorem tile_b (M : Memref sig κ sp S8 .f32) (hM : M.IsWhole) (h : Fin 2) {off : Fin 1 → ℕ} (ho : off = ![2 * (i 1).val + h.val])
    (inb : ∀ a, off a + S1.size a ≤ S8.size a) (hpos : 0 < S1.numel) :
    (M.view.readAt (Elt Ideal) (Rect.unit (s := S8) off S1.size inb).toLoadRect (hM.unread x0) : Vec Ideal S1 .f32) (Shape.Idx.first hpos)
      = (tile i x0 x1 x2 x3).B h :=
  bias_apply M hM x0 (by have := pair_lt i; have := h.isLt; omega) ho inb hpos

end Loads

variable (c : Dev nD) (i : grid0.Coords) (arg3 : Memref sig .tc .smem S8 .f32) (harg3 : arg3.IsWhole) (arg4 : Memref sig .tc .vmem S2048x128 .bf16) (harg4 : arg4.IsWhole) (arg5 : Memref sig .tc .vmem S1x16x128x256 .bf16) (harg5 : arg5.IsWhole) (arg6 : Memref sig .tc .vmem S1x16x128x256 .bf16) (harg6 : arg6.IsWhole) (arg8 : Memref sig .tc .vmem S2x2048x128 .f32) (arg9 : Memref sig .tc .vmem S2x2048x128 .f32)
  (x0 : Vec Ideal S8 .f32) (x1 : Vec Ideal S2048x128 .bf16) (x2 x3 : Vec Ideal S1x16x128x256 .bf16)

/-- Two scratch arrays filled with zeros hold the sums over no block. -/
theorem inv_start (T : Tile) :
    Inv T arg8.view arg9.view (arg8.view.writes (Elt Ideal) arg8.view.junk kernelRun0_A.sl.HS0_1)
      (arg9.view.writes (Elt Ideal) arg9.view.junk kernelRun0_A.sl.HS1_1) (fun _ => 8 * T.qi + 7 + 1) := by
  intro h r l
  have hA : T.Acc h r (8 * T.qi + 7 + 1) l = 0 := by
    unfold Tile.Acc; rw [show 8 * T.qi + 7 + 1 = 8 * T.qi + 8 from rfl, Finset.Ico_self, Finset.sum_empty]
  have hC : T.Car h r (8 * T.qi + 7 + 1) = 0 := by
    unfold Tile.Car; rw [show 8 * T.qi + 7 + 1 = 8 * T.qi + 8 from rfl, Finset.Ico_self, Finset.sum_empty]
  rw [hA, hC]
  constructor
  · refine (congrFun (View.read_writes_full arg8.view _ _ _ []) _).trans ?_
    exact (congrFun (shapeCast_self (broadcast S2x2048x128 (Scalar.ofBits .f32 0x00000000#32 : Ideal .f32)) _) _).trans zero_bits
  · refine (congrFun (View.read_writes_full arg9.view _ _ _ []) _).trans ?_
    exact (congrFun (shapeCast_self (broadcast S2x2048x128 (Scalar.ofBits .f32 0x00000000#32 : Ideal .f32)) _) _).trans zero_bits

section Chain

variable {L8 L9 : List (View.Piece (Elt Ideal) S2x2048x128 .f32)} (o n s : ℕ)
  (inbq : ∀ a, (![0, 0] : Fin 2 → ℕ) a + S2048x128.size a ≤ S2048x128.size a)
  (inbk : ∀ a, k0_off1 i (BitVec.ofNat 32 s) a + S1x1x128x256.size a ≤ S1x16x128x256.size a)
  (inbh : ∀ (h : Fin 2) a, k0_off2 i (BitVec.ofNat 32 h.val) a + S1.size a ≤ S8.size a)
  (hpos : 0 < S1.numel) (hcast : S1x1x128x256.ShapeCasts S128x256)

/-- A block of keys or values, as loaded. -/
def ldBlk (M : Memref sig .tc .vmem S1x16x128x256 .bf16) (hM : M.IsWhole) (x : Vec Ideal S1x16x128x256 .bf16) : FVec Ideal S128x256 .bf16 :=
  shapeCast S128x256 (M.view.readAt (Elt Ideal) (Rect.unit (s := S1x16x128x256) (k0_off1 i (BitVec.ofNat 32 s)) S1x1x128x256.size inbk).toLoadRect (hM.unread x) : Vec Ideal S1x1x128x256 .bf16) hcast

/-- The queries, as loaded. -/
def ldQ (M : Memref sig .tc .vmem S2048x128 .bf16) (hM : M.IsWhole) : Vec Ideal S2048x128 .bf16 :=
  M.view.readAt (Elt Ideal) (Rect.unit (s := S2048x128) ![0, 0] S2048x128.size inbq).toLoadRect (hM.unread x1)

/-- A head's bias, as loaded. -/
def ldB (M : Memref sig .tc .smem S8 .f32) (hM : M.IsWhole) (h : Fin 2) : Ideal .f32 :=
  (M.view.readAt (Elt Ideal) (Rect.unit (s := S8) (k0_off2 i (BitVec.ofNat 32 h.val)) S1.size (inbh h)).toLoadRect (hM.unread x0) : Vec Ideal S1 .f32) (Shape.Idx.first hpos)

/-- One diagonal block from the loaded vectors. -/
theorem tile_diag
    (hI : Inv (tile i x0 x1 x2 x3) arg8.view arg9.view (arg8.view.writes (Elt Ideal) arg8.view.junk L8)
      (arg9.view.writes (Elt Ideal) arg9.view.junk L9) (fun _ => 8 * (i 2).val + s + 1))
    (hn : o + n = 2048) (ho : o = 256 * s) (hs8 : s < 8)
    {inb₀ : ∀ a, (![0, o, 0] : Fin 3 → ℕ) a + (![1, n, 128] : Fin 3 → ℕ) a ≤ S2x2048x128.size a}
    {inb₁ : ∀ a, (![1, o, 0] : Fin 3 → ℕ) a + (![1, n, 128] : Fin 3 → ℕ) a ≤ S2x2048x128.size a}
    {qs₀ qs₁ : FVec Ideal ⟨2, ![n, 128]⟩ .bf16} {M : IVec ⟨2, ![n, 256]⟩ 1}
    (hq₀ : ∀ r l, qs₀ (ix2 r l) = k0_pay66 (ldQ x1 inbq arg4 harg4) (ix2 (row hn r) l))
    (hq₁ : ∀ r l, qs₁ (ix2 r l) = k0_pay67 (ldQ x1 inbq arg4 harg4) (ix2 (row hn r) l))
    (hM : ∀ r c, M (ix2 r c) = 1#1 ↔ c.val + o < o + r.val)
    {w8 w9 w8' w9' : Vec Ideal ⟨3, ![1, n, 128]⟩ .f32}
    (e8 : w8 = dAcc qs₀ M (ldBlk i s inbk hcast arg5 harg5 x2) (ldBlk i s inbk hcast arg6 harg6 x3)
      (ldB i x0 inbh hpos arg3 harg3 0) k0_pay68
      (arg8.view.readCov L8 (Rect.unit (s := S2x2048x128) (![0, o, 0] : Fin 3 → ℕ) (![1, n, 128] : Fin 3 → ℕ) inb₀).toLoadRect)
      (arg9.view.readCov L9 (Rect.unit (s := S2x2048x128) (![0, o, 0] : Fin 3 → ℕ) (![1, n, 128] : Fin 3 → ℕ) inb₀).toLoadRect))
    (e9 : w9 = dCar qs₀ M (ldBlk i s inbk hcast arg5 harg5 x2)
      (ldB i x0 inbh hpos arg3 harg3 0) k0_pay68
      (arg9.view.readCov L9 (Rect.unit (s := S2x2048x128) (![0, o, 0] : Fin 3 → ℕ) (![1, n, 128] : Fin 3 → ℕ) inb₀).toLoadRect))
    (e8' : w8' = dAcc qs₁ M (ldBlk i s inbk hcast arg5 harg5 x2) (ldBlk i s inbk hcast arg6 harg6 x3)
      (ldB i x0 inbh hpos arg3 harg3 1) k0_pay68
      (arg8.view.readCov (⟨Rect.unit ![0, o, 0] ![1, n, 128] inb₀, w8⟩ :: L8) (Rect.unit (s := S2x2048x128) (![1, o, 0] : Fin 3 → ℕ) (![1, n, 128] : Fin 3 → ℕ) inb₁).toLoadRect)
      (arg9.view.readCov (⟨Rect.unit ![0, o, 0] ![1, n, 128] inb₀, w9⟩ :: L9) (Rect.unit (s := S2x2048x128) (![1, o, 0] : Fin 3 → ℕ) (![1, n, 128] : Fin 3 → ℕ) inb₁).toLoadRect))
    (e9' : w9' = dCar qs₁ M (ldBlk i s inbk hcast arg5 harg5 x2)
      (ldB i x0 inbh hpos arg3 harg3 1) k0_pay68
      (arg9.view.readCov (⟨Rect.unit ![0, o, 0] ![1, n, 128] inb₀, w9⟩ :: L9) (Rect.unit (s := S2x2048x128) (![1, o, 0] : Fin 3 → ℕ) (![1, n, 128] : Fin 3 → ℕ) inb₁).toLoadRect)) :
    Inv (tile i x0 x1 x2 x3) arg8.view arg9.view
      (arg8.view.writes (Elt Ideal) arg8.view.junk (⟨Rect.unit ![1, o, 0] ![1, n, 128] inb₁, w8'⟩ :: ⟨Rect.unit ![0, o, 0] ![1, n, 128] inb₀, w8⟩ :: L8))
      (arg9.view.writes (Elt Ideal) arg9.view.junk (⟨Rect.unit ![1, o, 0] ![1, n, 128] inb₁, w9'⟩ :: ⟨Rect.unit ![0, o, 0] ![1, n, 128] inb₀, w9⟩ :: L9))
      (fun _ => 8 * (i 2).val + s) :=
  have hJ : 8 * (i 2).val + s < 16 := by have := coord_lt i; omega
  diag_pair (tile i x0 x1 x2 x3) arg8.view arg9.view o n s hI hn ho hs8
    (fun r l => (hq₀ r l).trans (tile_q0 arg4 harg4 inbq _ l)) (fun r l => (hq₁ r l).trans (tile_q1 arg4 harg4 inbq _ l)) hM (tile_b arg3 harg3 0 (off2_eq i (h := 0) (by decide)) _ hpos)
    (tile_b arg3 harg3 1 (off2_eq i (h := 1) (by decide)) _ hpos) tri_apply
    (tile_k arg5 harg5 hJ (off1_eq i hs8) inbk hcast) (tile_v arg6 harg6 hJ (off1_eq i hs8) inbk hcast) e8 e9 e8' e9'

end Chain

theorem off2_inb (h : Fin 2) (a : Fin 1) : k0_off2 i (BitVec.ofNat 32 h.val) a + S1.size a ≤ S8.size a := by
  rw [off2_eq i h.isLt]
  match a with
  | ⟨0, _⟩ => have := pair_lt i; have := h.isLt; show 2 * (i 1).val + h.val + 1 ≤ 8; omega

theorem off1_inb {s : ℕ} (hs8 : s < 8) (a : Fin 4) : k0_off1 i (BitVec.ofNat 32 s) a + S1x1x128x256.size a ≤ S1x16x128x256.size a := by
  rw [off1_eq i hs8]
  match a with
  | ⟨0, _⟩ => show 0 + 1 ≤ 1; omega
  | ⟨1, _⟩ => have := coord_lt i; show 8 * (i 2).val + s + 1 ≤ 16; omega
  | ⟨2, _⟩ => show 0 + 128 ≤ 128; omega
  | ⟨3, _⟩ => show 0 + 256 ≤ 256; omega

theorem numel1_pos : 0 < S1.numel := by rw [numel1_S1]; exact Nat.one_pos

/-- The first row of the whole band is the tile's. -/
theorem row_zero (r : Fin 2048) : row (o := 0) (n := 2048) rfl r = r := Fin.ext (Nat.zero_add _)

/-- The mask of the first diagonal block, which needs no band. -/
theorem mask_zero (r : Fin 2048) (c : Fin 256) :
    cmpi .slt (addi (iota .tc S2048x256 32 [1] iota_S2048x256_d1_w32) (broadcast S2048x256 (BitVec.ofNat 32 0)))
      (iota .tc S2048x256 32 [0] iota_S2048x256_d0_w32) (ix2 r c) = 1#1 ↔ c.val + 0 < 0 + r.val := by
  have h : S2048x256.Slices ![0, 0] ⟨2, ![2048, 256]⟩ := ⟨rfl, fun a => by
    match a with
    | ⟨0, _⟩ => exact le_refl 2048
    | ⟨1, _⟩ => exact le_refl 256⟩
  rw [← gM_apply (o := 0) (n := 2048) rfl h r c]
  refine iff_of_eq (congrArg (· = 1#1) (extractStridedSlice_apply _ _ h (ix2 r c) (ix2 r c) fun a => ?_).symm)
  match a with
  | ⟨0, _⟩ => show r.val = 0 + r.val; omega
  | ⟨1, _⟩ => show c.val = 0 + c.val; omega

theorem inv_3 :
    Inv (tile i x0 x1 x2 x3) arg8.view arg9.view
      (arg8.view.writes (Elt Ideal) arg8.view.junk (kernelRun0_A.sl.HS0_3 c i arg3 harg3 arg4 harg4 arg5 harg5 arg6 harg6 arg8 arg9 x0 x1 x2 x3))
      (arg9.view.writes (Elt Ideal) arg9.view.junk (kernelRun0_A.sl.HS1_3 c i arg3 harg3 arg4 harg4 arg5 harg5 arg9 x0 x1 x2)) (fun _ => 8 * (i 2).val + 7) :=
  tile_diag i arg3 harg3 arg4 harg4 arg5 harg5 arg6 harg6 arg8 arg9 x0 x1 x2 x3 1792 256 7 inb_S2048x128_S2048x128_0_0
    (off1_inb i (by decide)) (off2_inb i) numel1_pos shapeCasts_S1x1x128x256_S128x256 (inv_start arg8 arg9 _) rfl rfl (by decide)
    (slice_rows rfl _ slices_S2048x128_o1792_0_S256x128) (slice_rows rfl _ slices_S2048x128_o1792_0_S256x128) (gM_apply rfl slices_S2048x256_o1792_0_S256x256) rfl rfl rfl rfl

theorem inv_5 :
    Inv (tile i x0 x1 x2 x3) arg8.view arg9.view
      (arg8.view.writes (Elt Ideal) arg8.view.junk (kernelRun0_A.sl.HS0_5 c i arg3 harg3 arg4 harg4 arg5 harg5 arg6 harg6 arg8 arg9 x0 x1 x2 x3))
      (arg9.view.writes (Elt Ideal) arg9.view.junk (kernelRun0_A.sl.HS1_5 c i arg3 harg3 arg4 harg4 arg5 harg5 arg9 x0 x1 x2)) (fun _ => 8 * (i 2).val + 6) :=
  tile_diag i arg3 harg3 arg4 harg4 arg5 harg5 arg6 harg6 arg8 arg9 x0 x1 x2 x3 1536 512 6 inb_S2048x128_S2048x128_0_0
    (off1_inb i (by decide)) (off2_inb i) numel1_pos shapeCasts_S1x1x128x256_S128x256 (inv_3 c i arg3 harg3 arg4 harg4 arg5 harg5 arg6 harg6 arg8 arg9 x0 x1 x2 x3) rfl rfl (by decide)
    (slice_rows rfl _ slices_S2048x128_o1536_0_S512x128) (slice_rows rfl _ slices_S2048x128_o1536_0_S512x128) (gM_apply rfl slices_S2048x256_o1536_0_S512x256) rfl rfl rfl rfl

theorem inv_7 :
    Inv (tile i x0 x1 x2 x3) arg8.view arg9.view
      (arg8.view.writes (Elt Ideal) arg8.view.junk (kernelRun0_A.sl.HS0_7 c i arg3 harg3 arg4 harg4 arg5 harg5 arg6 harg6 arg8 arg9 x0 x1 x2 x3))
      (arg9.view.writes (Elt Ideal) arg9.view.junk (kernelRun0_A.sl.HS1_7 c i arg3 harg3 arg4 harg4 arg5 harg5 arg9 x0 x1 x2)) (fun _ => 8 * (i 2).val + 5) :=
  tile_diag i arg3 harg3 arg4 harg4 arg5 harg5 arg6 harg6 arg8 arg9 x0 x1 x2 x3 1280 768 5 inb_S2048x128_S2048x128_0_0
    (off1_inb i (by decide)) (off2_inb i) numel1_pos shapeCasts_S1x1x128x256_S128x256 (inv_5 c i arg3 harg3 arg4 harg4 arg5 harg5 arg6 harg6 arg8 arg9 x0 x1 x2 x3) rfl rfl (by decide)
    (slice_rows rfl _ slices_S2048x128_o1280_0_S768x128) (slice_rows rfl _ slices_S2048x128_o1280_0_S768x128) (gM_apply rfl slices_S2048x256_o1280_0_S768x256) rfl rfl rfl rfl

theorem inv_9 :
    Inv (tile i x0 x1 x2 x3) arg8.view arg9.view
      (arg8.view.writes (Elt Ideal) arg8.view.junk (kernelRun0_A.sl.HS0_9 c i arg3 harg3 arg4 harg4 arg5 harg5 arg6 harg6 arg8 arg9 x0 x1 x2 x3))
      (arg9.view.writes (Elt Ideal) arg9.view.junk (kernelRun0_A.sl.HS1_9 c i arg3 harg3 arg4 harg4 arg5 harg5 arg9 x0 x1 x2)) (fun _ => 8 * (i 2).val + 4) :=
  tile_diag i arg3 harg3 arg4 harg4 arg5 harg5 arg6 harg6 arg8 arg9 x0 x1 x2 x3 1024 1024 4 inb_S2048x128_S2048x128_0_0
    (off1_inb i (by decide)) (off2_inb i) numel1_pos shapeCasts_S1x1x128x256_S128x256 (inv_7 c i arg3 harg3 arg4 harg4 arg5 harg5 arg6 harg6 arg8 arg9 x0 x1 x2 x3) rfl rfl (by decide)
    (slice_rows rfl _ slices_S2048x128_o1024_0_S1024x128) (slice_rows rfl _ slices_S2048x128_o1024_0_S1024x128) (gM_apply rfl slices_S2048x256_o1024_0_S1024x256) rfl rfl rfl rfl

theorem inv_11 :
    Inv (tile i x0 x1 x2 x3) arg8.view arg9.view
      (arg8.view.writes (Elt Ideal) arg8.view.junk (kernelRun0_A.sl.HS0_11 c i arg3 harg3 arg4 harg4 arg5 harg5 arg6 harg6 arg8 arg9 x0 x1 x2 x3))
      (arg9.view.writes (Elt Ideal) arg9.view.junk (kernelRun0_A.sl.HS1_11 c i arg3 harg3 arg4 harg4 arg5 harg5 arg9 x0 x1 x2)) (fun _ => 8 * (i 2).val + 3) :=
  tile_diag i arg3 harg3 arg4 harg4 arg5 harg5 arg6 harg6 arg8 arg9 x0 x1 x2 x3 768 1280 3 inb_S2048x128_S2048x128_0_0
    (off1_inb i (by decide)) (off2_inb i) numel1_pos shapeCasts_S1x1x128x256_S128x256 (inv_9 c i arg3 harg3 arg4 harg4 arg5 harg5 arg6 harg6 arg8 arg9 x0 x1 x2 x3) rfl rfl (by decide)
    (slice_rows rfl _ slices_S2048x128_o768_0_S1280x128) (slice_rows rfl _ slices_S2048x128_o768_0_S1280x128) (gM_apply rfl slices_S2048x256_o768_0_S1280x256) rfl rfl rfl rfl

theorem inv_13 :
    Inv (tile i x0 x1 x2 x3) arg8.view arg9.view
      (arg8.view.writes (Elt Ideal) arg8.view.junk (kernelRun0_A.sl.HS0_13 c i arg3 harg3 arg4 harg4 arg5 harg5 arg6 harg6 arg8 arg9 x0 x1 x2 x3))
      (arg9.view.writes (Elt Ideal) arg9.view.junk (kernelRun0_A.sl.HS1_13 c i arg3 harg3 arg4 harg4 arg5 harg5 arg9 x0 x1 x2)) (fun _ => 8 * (i 2).val + 2) :=
  tile_diag i arg3 harg3 arg4 harg4 arg5 harg5 arg6 harg6 arg8 arg9 x0 x1 x2 x3 512 1536 2 inb_S2048x128_S2048x128_0_0
    (off1_inb i (by decide)) (off2_inb i) numel1_pos shapeCasts_S1x1x128x256_S128x256 (inv_11 c i arg3 harg3 arg4 harg4 arg5 harg5 arg6 harg6 arg8 arg9 x0 x1 x2 x3) rfl rfl (by decide)
    (slice_rows rfl _ slices_S2048x128_o512_0_S1536x128) (slice_rows rfl _ slices_S2048x128_o512_0_S1536x128) (gM_apply rfl slices_S2048x256_o512_0_S1536x256) rfl rfl rfl rfl

theorem inv_15 :
    Inv (tile i x0 x1 x2 x3) arg8.view arg9.view
      (arg8.view.writes (Elt Ideal) arg8.view.junk (kernelRun0_A.sl.HS0_15 c i arg3 harg3 arg4 harg4 arg5 harg5 arg6 harg6 arg8 arg9 x0 x1 x2 x3))
      (arg9.view.writes (Elt Ideal) arg9.view.junk (kernelRun0_A.sl.HS1_15 c i arg3 harg3 arg4 harg4 arg5 harg5 arg9 x0 x1 x2)) (fun _ => 8 * (i 2).val + 1) :=
  tile_diag i arg3 harg3 arg4 harg4 arg5 harg5 arg6 harg6 arg8 arg9 x0 x1 x2 x3 256 1792 1 inb_S2048x128_S2048x128_0_0
    (off1_inb i (by decide)) (off2_inb i) numel1_pos shapeCasts_S1x1x128x256_S128x256 (inv_13 c i arg3 harg3 arg4 harg4 arg5 harg5 arg6 harg6 arg8 arg9 x0 x1 x2 x3) rfl rfl (by decide)
    (slice_rows rfl _ slices_S2048x128_o256_0_S1792x128) (slice_rows rfl _ slices_S2048x128_o256_0_S1792x128) (gM_apply rfl slices_S2048x256_o256_0_S1792x256) rfl rfl rfl rfl

theorem inv_17 :
    Inv (tile i x0 x1 x2 x3) arg8.view arg9.view
      (arg8.view.writes (Elt Ideal) arg8.view.junk (kernelRun0_A.sl.HS0_17 c i arg3 harg3 arg4 harg4 arg5 harg5 arg6 harg6 arg8 arg9 x0 x1 x2 x3))
      (arg9.view.writes (Elt Ideal) arg9.view.junk (kernelRun0_A.sl.HS1_17 c i arg3 harg3 arg4 harg4 arg5 harg5 arg9 x0 x1 x2)) (fun _ => 8 * (i 2).val + 0) :=
  tile_diag i arg3 harg3 arg4 harg4 arg5 harg5 arg6 harg6 arg8 arg9 x0 x1 x2 x3 0 2048 0 inb_S2048x128_S2048x128_0_0
    (off1_inb i (by decide)) (off2_inb i) numel1_pos shapeCasts_S1x1x128x256_S128x256 (inv_15 c i arg3 harg3 arg4 harg4 arg5 harg5 arg6 harg6 arg8 arg9 x0 x1 x2 x3) rfl rfl (by decide)
    (fun r l => by rw [row_zero]; rfl) (fun r l => by rw [row_zero]; rfl) mask_zero rfl rfl rfl rfl

end Cert.SbPrompt
-- ==== Proof.Loop.lean ====
/-
  The loop over the earlier blocks, two to a trip: after `k` trips the scratch arrays hold the sums over all but the first
  `8·qi − 2k` blocks, and after the last trip the sums over all of them.
-/
module

public import proofs.«01_k».proof.Proof.Diag
import all proofs.«01_k».proof.Proof.Gen.KernelIdeal.Loops
import all proofs.«01_k».proof.Proof.Gen.KernelIdeal.Frame.RunA

@[expose] public section

set_option maxRecDepth 16384

noncomputable section

namespace Cert.SbPrompt

open Idealize.ShloMosaic Idealize.ShloMosaic.ValueIdx Cert.KernelIdeal Cert.KernelIdeal.Gen

section Pair

variable (T : Tile) {sig : RefSig} {κ κ' : Kind} {sp₁ sp₂ : Space} (v8 : View sig κ sp₁ S2x2048x128 .f32) (v9 : View sig κ' sp₂ S2x2048x128 .f32)
  (inb₀ : ∀ a, (![0, 0, 0] : Fin 3 → ℕ) a + (![1, 2048, 128] : Fin 3 → ℕ) a ≤ S2x2048x128.size a)
  (inb₁ : ∀ a, (![1, 0, 0] : Fin 3 → ℕ) a + (![1, 2048, 128] : Fin 3 → ℕ) a ≤ S2x2048x128.size a)

/-- A load of one head's rows from scratch arrays that hold the sums from `J` on. -/
theorem Inv.load {v8 : View sig κ sp₁ S2x2048x128 .f32} {v9 : View sig κ' sp₂ S2x2048x128 .f32} {f8 : v8.ty.Contents (Elt Ideal)} {f9 : v9.ty.Contents (Elt Ideal)}
    {T : Tile} {J : Fin 2 → ℕ} (hI : Inv T v8 v9 f8 f9 J) (h : Fin 2)
    (inb : ∀ a, (![h.val, 0, 0] : Fin 3 → ℕ) a + (![1, 2048, 128] : Fin 3 → ℕ) a ≤ S2x2048x128.size a) {j : ℕ} (hJ : J h = j) (r : Fin 2048) (l : Fin 128) :
    (v8.readAt (Elt Ideal) (Rect.unit (s := S2x2048x128) (![h.val, 0, 0] : Fin 3 → ℕ) (![1, 2048, 128] : Fin 3 → ℕ) inb).toLoadRect f8 : Vec Ideal S1x2048x128 .f32) (ix3 0 r l) = T.Acc h r j l
    ∧ (v9.readAt (Elt Ideal) (Rect.unit (s := S2x2048x128) (![h.val, 0, 0] : Fin 3 → ℕ) (![1, 2048, 128] : Fin 3 → ℕ) inb).toLoadRect f9 : Vec Ideal S1x2048x128 .f32) (ix3 0 r l) = T.Car h r j := by
  subst hJ
  have e : row (o := 0) (n := 2048) rfl r = r := row_zero r
  exact ⟨((readAt_band f8 (o := 0) (n := 2048) rfl h inb r l).trans (by rw [e])).trans (hI h r l).1,
    ((readAt_band f9 (o := 0) (n := 2048) rfl h inb r l).trans (by rw [e])).trans (hI h r l).2⟩

/-- Two earlier blocks, both heads, the second block's loads reading what the first block stored. -/
theorem two_blocks (f8 : v8.ty.Contents (Elt Ideal)) (f9 : v9.ty.Contents (Elt Ideal)) (j : ℕ) (hj : j + 1 < 8 * T.qi)
    (hI : Inv T v8 v9 f8 f9 (fun _ => j + 2))
    {q₀ q₁ : FVec Ideal S2048x128 .bf16} {kt vt kt' vt' : FVec Ideal S128x256 .bf16} {b₀ b₁ : Ideal .f32} {tri : FVec Ideal S256x256 .bf16}
    (hq₀ : ∀ r l, q₀ (ix2 r l) = T.Q 0 r l) (hq₁ : ∀ r l, q₁ (ix2 r l) = T.Q 1 r l) (hb₀ : b₀ = T.B 0) (hb₁ : b₁ = T.B 1)
    (htri : ∀ a b : Fin 256, tri (ix2 a b) = if b ≤ a then 1 else 0)
    (hk : ∀ l c, kt (ix2 l c) = T.K (j + 1) l c) (hv : ∀ l c, vt (ix2 l c) = T.V (j + 1) l c)
    (hk' : ∀ l c, kt' (ix2 l c) = T.K j l c) (hv' : ∀ l c, vt' (ix2 l c) = T.V j l c)
    {a8 a9 b8 b9 c8 c9 d8 d9 : Vec Ideal S1x2048x128 .f32}
    (ea8 : a8 = wAcc q₀ kt vt b₀ tri
      (v8.readAt (Elt Ideal) (Rect.unit (s := S2x2048x128) (![0, 0, 0] : Fin 3 → ℕ) (![1, 2048, 128] : Fin 3 → ℕ) inb₀).toLoadRect f8)
      (v9.readAt (Elt Ideal) (Rect.unit (s := S2x2048x128) (![0, 0, 0] : Fin 3 → ℕ) (![1, 2048, 128] : Fin 3 → ℕ) inb₀).toLoadRect f9))
    (ea9 : a9 = wCar q₀ kt b₀ tri
      (v9.readAt (Elt Ideal) (Rect.unit (s := S2x2048x128) (![0, 0, 0] : Fin 3 → ℕ) (![1, 2048, 128] : Fin 3 → ℕ) inb₀).toLoadRect f9))
    (eb8 : b8 = wAcc q₁ kt vt b₁ tri
      (v8.readAt (Elt Ideal) (Rect.unit (s := S2x2048x128) (![1, 0, 0] : Fin 3 → ℕ) (![1, 2048, 128] : Fin 3 → ℕ) inb₁).toLoadRect f8)
      (v9.readAt (Elt Ideal) (Rect.unit (s := S2x2048x128) (![1, 0, 0] : Fin 3 → ℕ) (![1, 2048, 128] : Fin 3 → ℕ) inb₁).toLoadRect f9))
    (eb9 : b9 = wCar q₁ kt b₁ tri
      (v9.readAt (Elt Ideal) (Rect.unit (s := S2x2048x128) (![1, 0, 0] : Fin 3 → ℕ) (![1, 2048, 128] : Fin 3 → ℕ) inb₁).toLoadRect f9))
    {H8 H9 H8' H9' : List (View.Piece (Elt Ideal) S2x2048x128 .f32)}
    (eH8 : H8 = [⟨Rect.unit ![1, 0, 0] ![1, 2048, 128] inb₁, b8⟩, ⟨Rect.unit ![0, 0, 0] ![1, 2048, 128] inb₀, a8⟩])
    (eH9 : H9 = [⟨Rect.unit ![1, 0, 0] ![1, 2048, 128] inb₁, b9⟩, ⟨Rect.unit ![0, 0, 0] ![1, 2048, 128] inb₀, a9⟩])
    (ec8 : c8 = wAcc q₀ kt' vt' b₀ tri
      (v8.readCov H8 (Rect.unit (s := S2x2048x128) (![0, 0, 0] : Fin 3 → ℕ) (![1, 2048, 128] : Fin 3 → ℕ) inb₀).toLoadRect)
      (v9.readCov H9 (Rect.unit (s := S2x2048x128) (![0, 0, 0] : Fin 3 → ℕ) (![1, 2048, 128] : Fin 3 → ℕ) inb₀).toLoadRect))
    (ec9 : c9 = wCar q₀ kt' b₀ tri
      (v9.readCov H9 (Rect.unit (s := S2x2048x128) (![0, 0, 0] : Fin 3 → ℕ) (![1, 2048, 128] : Fin 3 → ℕ) inb₀).toLoadRect))
    (eH8' : H8' = ⟨Rect.unit ![0, 0, 0] ![1, 2048, 128] inb₀, c8⟩ :: H8)
    (eH9' : H9' = ⟨Rect.unit ![0, 0, 0] ![1, 2048, 128] inb₀, c9⟩ :: H9)
    (ed8 : d8 = wAcc q₁ kt' vt' b₁ tri
      (v8.readCov H8' (Rect.unit (s := S2x2048x128) (![1, 0, 0] : Fin 3 → ℕ) (![1, 2048, 128] : Fin 3 → ℕ) inb₁).toLoadRect)
      (v9.readCov H9' (Rect.unit (s := S2x2048x128) (![1, 0, 0] : Fin 3 → ℕ) (![1, 2048, 128] : Fin 3 → ℕ) inb₁).toLoadRect))
    (ed9 : d9 = wCar q₁ kt' b₁ tri
      (v9.readCov H9' (Rect.unit (s := S2x2048x128) (![1, 0, 0] : Fin 3 → ℕ) (![1, 2048, 128] : Fin 3 → ℕ) inb₁).toLoadRect)) :
    Inv T v8 v9 (v8.writes (Elt Ideal) f8 (⟨Rect.unit ![1, 0, 0] ![1, 2048, 128] inb₁, d8⟩ :: H8'))
      (v9.writes (Elt Ideal) f9 (⟨Rect.unit ![1, 0, 0] ![1, 2048, 128] inb₁, d9⟩ :: H9')) (fun _ => j) := by
  subst ea8 ea9 eb8 eb9 eH8 eH9 ec8 ec9 eH8' eH9' ed8 ed9
  have i0 := fun r l => hI.load 0 inb₀ (j := j + 1 + 1) rfl r l
  have i1 := fun r l => hI.load 1 inb₁ (j := j + 1 + 1) rfl r l
  have A := whole_step T 0 (j + 1) hj q₀ kt vt b₀ tri hq₀ hk hb₀ hv htri _ _ (fun r l => (i0 r l).1) (fun r l => (i0 r l).2)
  have B := whole_step T 1 (j + 1) hj q₁ kt vt b₁ tri hq₁ hk hb₁ hv htri _ _ (fun r l => (i1 r l).1) (fun r l => (i1 r l).2)
  have I₁ := Inv.of_pair T v8 v9 v8.junk v9.junk [] [] (fun _ => j + 1) inb₀ inb₁ _ _ _ _ A B
  have k0 := fun r l => I₁.load 0 inb₀ (j := j + 1) rfl r l
  have C := whole_step T 0 j (by omega) q₀ kt' vt' b₀ tri hq₀ hk' hb₀ hv' htri _ _ (fun r l => (k0 r l).1) (fun r l => (k0 r l).2)
  have I₂ := I₁.step T v8 v9 (o := 0) (n := 2048) rfl 0 j rfl (by omega) (fun r c hr => absurd hr (Nat.not_lt_zero _)) inb₀ _ _
    (fun r l => by rw [row_zero]; exact (C r l).1) (fun r l => by rw [row_zero]; exact (C r l).2)
  have k1 := fun r l => I₂.load 1 inb₁ (j := j + 1) rfl r l
  have D := whole_step T 1 j (by omega) q₁ kt' vt' b₁ tri hq₁ hk' hb₁ hv' htri _ _ (fun r l => (k1 r l).1) (fun r l => (k1 r l).2)
  exact Inv.of_pair T v8 v9 f8 f9 _ _ (fun _ => j) inb₀ inb₁ _ _ _ _ C D

end Pair

variable (c : Dev nD) (i : grid0.Coords) (arg3 : Memref sig .tc .smem S8 .f32) (harg3 : arg3.IsWhole) (arg4 : Memref sig .tc .vmem S2048x128 .bf16) (harg4 : arg4.IsWhole) (arg5 : Memref sig .tc .vmem S1x16x128x256 .bf16) (harg5 : arg5.IsWhole) (arg6 : Memref sig .tc .vmem S1x16x128x256 .bf16) (harg6 : arg6.IsWhole) (arg7 : Memref sig .tc .vmem S2048x128 .bf16) (harg7 : arg7.IsWhole) (arg8 : Memref sig .tc .vmem S2x2048x128 .f32) (harg8 : arg8.IsWhole) (arg9 : Memref sig .tc .vmem S2x2048x128 .f32) (harg9 : arg9.IsWhole)
  (x0 : Vec Ideal S8 .f32) (x1 : Vec Ideal S2048x128 .bf16) (x2 x3 : Vec Ideal S1x16x128x256 .bf16)
  (a1 a2 : BitVec 32) (q₀ q₁ : FVec Ideal S2048x128 .bf16)
  (hq₀ : ∀ r l, q₀ (ix2 r l) = (tile i x0 x1 x2 x3).Q 0 r l) (hq₁ : ∀ r l, q₁ (ix2 r l) = (tile i x0 x1 x2 x3).Q 1 r l)

include hq₀ hq₁ in
/-- One trip. -/
theorem trip_inv (k : Fin (k0_t1_loop i).trips) (f8 : arg8.view.ty.Contents (Elt Ideal)) (f9 : arg9.view.ty.Contents (Elt Ideal))
    (hI : Inv (tile i x0 x1 x2 x3) arg8.view arg9.view f8 f9 (fun _ => 8 * (i 2).val - 2 * k.val)) :
    Inv (tile i x0 x1 x2 x3) arg8.view arg9.view
      (arg8.view.writes (Elt Ideal) f8 ((tripL_k0_t1 (F := Ideal) Variants.none c none i arg3 harg3 arg4 harg4 arg5 harg5 arg6 harg6 arg7 harg7 arg8 harg8 arg9 harg9 a1 a2 q₀ q₁ k0_pay68 0#32 (harg3.unread x0) (harg5.unread x2) (harg6.unread x3) k f8 f9).1))
      (arg9.view.writes (Elt Ideal) f9 ((tripL_k0_t1 (F := Ideal) Variants.none c none i arg3 harg3 arg4 harg4 arg5 harg5 arg6 harg6 arg7 harg7 arg8 harg8 arg9 harg9 a1 a2 q₀ q₁ k0_pay68 0#32 (harg3.unread x0) (harg5.unread x2) (harg6.unread x3) k f8 f9).2))
      (fun _ => 8 * (i 2).val - 2 * (k.val + 1)) := by
  have hk : k.val < 4 * (i 2).val := by rw [← trips_eq i]; exact k.isLt
  have hi := coord_lt i
  have o1 := off3_eq i k (b := 1) (.inl rfl)
  have o2 := off3_eq i k (b := 2) (.inr rfl)
  have e2 : 8 * (i 2).val - 2 * k.val = (8 * (i 2).val - 2 * (k.val + 1)) + 2 := by omega
  have e1 : 8 * (i 2).val - 1 - 2 * k.val = (8 * (i 2).val - 2 * (k.val + 1)) + 1 := by omega
  have e0 : 8 * (i 2).val - 2 - 2 * k.val = 8 * (i 2).val - 2 * (k.val + 1) := by omega
  rw [e2] at hI; rw [e1] at o1; rw [e0] at o2
  have hJ : 8 * (i 2).val - 2 * (k.val + 1) + 1 < 8 * (i 2).val := by omega
  generalize 8 * (i 2).val - 2 * (k.val + 1) = j at *
  unfold tripL_k0_t1 trip_k0_t1
  exact two_blocks (tile i x0 x1 x2 x3) arg8.view arg9.view inb_S2x2048x128_S1x2048x128_0_0_0 inb_S2x2048x128_S1x2048x128_1_0_0 f8 f9 j hJ hI
    hq₀ hq₁ (tile_b arg3 harg3 0 (off2_eq i (h := 0) (by decide)) (off2_inb i 0) numel1_pos) (tile_b arg3 harg3 1 (off2_eq i (h := 1) (by decide)) (off2_inb i 1) numel1_pos) tri_apply
    (tile_k arg5 harg5 (by omega) o1 _ shapeCasts_S1x1x128x256_S128x256) (tile_v arg6 harg6 (by omega) o1 _ shapeCasts_S1x1x128x256_S128x256)
    (tile_k arg5 harg5 (by omega) o2 _ shapeCasts_S1x1x128x256_S128x256) (tile_v arg6 harg6 (by omega) o2 _ shapeCasts_S1x1x128x256_S128x256)
    rfl rfl rfl rfl rfl rfl rfl rfl rfl rfl rfl rfl

include hq₀ hq₁ in
/-- All trips up to trip `n`. -/
theorem trips_inv (f8 : arg8.view.ty.Contents (Elt Ideal)) (f9 : arg9.view.ty.Contents (Elt Ideal))
    (hI : Inv (tile i x0 x1 x2 x3) arg8.view arg9.view f8 f9 (fun _ => 8 * (i 2).val)) (n : ℕ) (hn : n ≤ (k0_t1_loop i).trips) :
    Inv (tile i x0 x1 x2 x3) arg8.view arg9.view
      (arg8.view.writes (Elt Ideal) f8 (pb_k0_t1 (F := Ideal) Variants.none c none i arg3 harg3 arg4 harg4 arg5 harg5 arg6 harg6 arg7 harg7 arg8 harg8 arg9 harg9 a1 a2 q₀ q₁ k0_pay68 0#32 (harg3.unread x0) (harg5.unread x2) (harg6.unread x3) f8 f9 n).1)
      (arg9.view.writes (Elt Ideal) f9 (pb_k0_t1 (F := Ideal) Variants.none c none i arg3 harg3 arg4 harg4 arg5 harg5 arg6 harg6 arg7 harg7 arg8 harg8 arg9 harg9 a1 a2 q₀ q₁ k0_pay68 0#32 (harg3.unread x0) (harg5.unread x2) (harg6.unread x3) f8 f9 n).2)
      (fun _ => 8 * (i 2).val - 2 * n) := by
  induction n with
  | zero => exact hI
  | succ n ih =>
    have h := pb_k0_t1_succ (F := Ideal) Variants.none c none i arg3 harg3 arg4 harg4 arg5 harg5 arg6 harg6 arg7 harg7 arg8 harg8 arg9 harg9 a1 a2 q₀ q₁ k0_pay68 0#32 (harg3.unread x0) (harg5.unread x2) (harg6.unread x3) f8 f9 ⟨n, hn⟩
    rw [h]
    dsimp only
    rw [View.writes_append, View.writes_append]
    exact trip_inv c i arg3 harg3 arg4 harg4 arg5 harg5 arg6 harg6 arg7 harg7 arg8 harg8 arg9 harg9 x0 x1 x2 x3 a1 a2 q₀ q₁ hq₀ hq₁ ⟨n, hn⟩ _ _ (ih (by omega))

end Cert.SbPrompt
-- ==== Proof.Out.lean ====
/-
  What one grid point leaves in its block of the result: the sums over all sixteen blocks of keys, the first head's in the
  lanes below 64, the second head's in the others.
-/
module

public import proofs.«01_k».proof.Proof.Loop
import all proofs.«01_k».proof.Proof.Gen.KernelIdeal.Loops
import all proofs.«01_k».proof.Proof.Gen.KernelIdeal.Frame.RunA

@[expose] public section

set_option maxRecDepth 16384

noncomputable section

namespace Cert.SbPrompt

open Idealize.ShloMosaic Idealize.ShloMosaic.ValueIdx Cert.KernelIdeal Cert.KernelIdeal.Gen

/-- The first head's lanes from one vector, the second head's from another. -/
theorem join_apply (x y : Vec Ideal S1x2048x128 .f32) (r : Fin 2048) (l : Fin 128) :
    (k0_pay9 (iota .tc S2048x128 32 [1] iota_S2048x128_d1_w32) x y (ix2 r l) : EReal)
      = if l.val / 64 = 0 then x (ix3 0 r l) else y (ix3 0 r l) := by
  have e : (k0_pay9 (iota .tc S2048x128 32 [1] iota_S2048x128_d1_w32) x y (ix2 r l) : EReal)
      = if IntOp.cmpi .slt (BitVec.ofNat 32 l.val) (BitVec.ofNat 32 64) = 1#1 then
        (shapeCast S2048x128 x shapeCasts_S1x2048x128_S2048x128 (ix2 r l) : EReal) else shapeCast S2048x128 y shapeCasts_S1x2048x128_S2048x128 (ix2 r l) := by
    rw [← iota_lane r l]; rfl
  have hl := l.isLt
  rw [e]
  exact if_congr ((WordCmp.cmpi_slt_ofNat_eq_one_iff (by omega) (by omega)).trans (by omega))
    (drop_apply shapeCasts_S1x2048x128_S2048x128 x r l) (drop_apply shapeCasts_S1x2048x128_S2048x128 y r l)

variable (c : Dev nD) (i : grid0.Coords) (arg3 : Memref sig .tc .smem S8 .f32) (harg3 : arg3.IsWhole) (arg4 : Memref sig .tc .vmem S2048x128 .bf16) (harg4 : arg4.IsWhole) (arg5 : Memref sig .tc .vmem S1x16x128x256 .bf16) (harg5 : arg5.IsWhole) (arg6 : Memref sig .tc .vmem S1x16x128x256 .bf16) (harg6 : arg6.IsWhole) (arg7 : Memref sig .tc .vmem S2048x128 .bf16) (harg7 : arg7.IsWhole) (arg8 : Memref sig .tc .vmem S2x2048x128 .f32) (harg8 : arg8.IsWhole) (arg9 : Memref sig .tc .vmem S2x2048x128 .f32) (harg9 : arg9.IsWhole)
  (x0 : Vec Ideal S8 .f32) (x1 : Vec Ideal S2048x128 .bf16) (x2 x3 : Vec Ideal S1x16x128x256 .bf16)

/-- The loop's remainder has no trip. -/
theorem rest_eq : Scf.trips (k0_t2_loop i).lb (k0_t2_loop i).ub (k0_t2_loop i).st = 0 := by
  have h := coord_lt i
  unfold k0_t2_loop
  generalize (i 2).val = p at h
  interval_cases p <;> rfl

/-- The accumulator at the end: the sums over all blocks. -/
theorem inv_end :
    Inv (tile i x0 x1 x2 x3) arg8.view arg9.view
      (arg8.view.writes (Elt Ideal) arg8.view.junk ((pb_k0_t1 (F := Ideal) Variants.none c none i arg3 harg3 arg4 harg4 arg5 harg5 arg6 harg6 arg7 harg7 arg8 harg8 arg9 harg9 (BitVec.ofNat 32 (i 1).val) (BitVec.ofNat 32 (i 2).val)
        (kernelRun0_A.sl.r c arg4 harg4 x1) (kernelRun0_A.sl.r_1 c arg4 harg4 x1) k0_pay68 0#32 (harg3.unread x0) (harg5.unread x2) (harg6.unread x3)
        (arg8.view.writes (Elt Ideal) arg8.view.junk (kernelRun0_A.sl.HS0_17 c i arg3 harg3 arg4 harg4 arg5 harg5 arg6 harg6 arg8 arg9 x0 x1 x2 x3))
        (arg9.view.writes (Elt Ideal) arg9.view.junk (kernelRun0_A.sl.HS1_17 c i arg3 harg3 arg4 harg4 arg5 harg5 arg9 x0 x1 x2)) (k0_t1_loop i).trips).1
        ++ kernelRun0_A.sl.HS0_17 c i arg3 harg3 arg4 harg4 arg5 harg5 arg6 harg6 arg8 arg9 x0 x1 x2 x3))
      (arg9.view.writes (Elt Ideal) arg9.view.junk ((pb_k0_t1 (F := Ideal) Variants.none c none i arg3 harg3 arg4 harg4 arg5 harg5 arg6 harg6 arg7 harg7 arg8 harg8 arg9 harg9 (BitVec.ofNat 32 (i 1).val) (BitVec.ofNat 32 (i 2).val)
        (kernelRun0_A.sl.r c arg4 harg4 x1) (kernelRun0_A.sl.r_1 c arg4 harg4 x1) k0_pay68 0#32 (harg3.unread x0) (harg5.unread x2) (harg6.unread x3)
        (arg8.view.writes (Elt Ideal) arg8.view.junk (kernelRun0_A.sl.HS0_17 c i arg3 harg3 arg4 harg4 arg5 harg5 arg6 harg6 arg8 arg9 x0 x1 x2 x3))
        (arg9.view.writes (Elt Ideal) arg9.view.junk (kernelRun0_A.sl.HS1_17 c i arg3 harg3 arg4 harg4 arg5 harg5 arg9 x0 x1 x2)) (k0_t1_loop i).trips).2
        ++ kernelRun0_A.sl.HS1_17 c i arg3 harg3 arg4 harg4 arg5 harg5 arg9 x0 x1 x2)) (fun _ => 0) := by
  have h := trips_inv c i arg3 harg3 arg4 harg4 arg5 harg5 arg6 harg6 arg7 harg7 arg8 harg8 arg9 harg9 x0 x1 x2 x3
    (BitVec.ofNat 32 (i 1).val) (BitVec.ofNat 32 (i 2).val) (kernelRun0_A.sl.r c arg4 harg4 x1) (kernelRun0_A.sl.r_1 c arg4 harg4 x1)
    (tile_q0 arg4 harg4 _) (tile_q1 arg4 harg4 _) _ _
    (inv_17 c i arg3 harg3 arg4 harg4 arg5 harg5 arg6 harg6 arg8 arg9 x0 x1 x2 x3) (k0_t1_loop i).trips (le_refl _)
  rw [View.writes_append, View.writes_append]
  have e : 8 * (i 2).val - 2 * (k0_t1_loop i).trips = 0 := by rw [trips_eq]; omega
  rw [e] at h
  exact h

/-- What the body leaves in the result's block. -/
theorem block_out (r : Fin 2048) (l : Fin 128) :
    (out0_A_4 c i arg3 harg3 arg4 harg4 arg5 harg5 arg6 harg6 arg7 harg7 arg8 harg8 arg9 harg9 x0 x1 x2 x3 (ix2 r l) : EReal)
      = if l.val / 64 = 0 then (tile i x0 x1 x2 x3).Acc 0 r 0 l else (tile i x0 x1 x2 x3).Acc 1 r 0 l := by
  have hI := inv_end c i arg3 harg3 arg4 harg4 arg5 harg5 arg6 harg6 arg7 harg7 arg8 harg8 arg9 harg9 x0 x1 x2 x3
  have h0 := fun r l => (hI.load 0 inb_S2x2048x128_S1x2048x128_0_0_0 (j := 0) rfl r l).1
  have h1 := fun r l => (hI.load 1 inb_S2x2048x128_S1x2048x128_1_0_0 (j := 0) rfl r l).1
  have e0 : ∀ r l, kernelRun0_A.sl.v847 c i arg3 harg3 arg4 harg4 arg5 harg5 arg6 harg6 arg7 harg7 arg8 harg8 arg9 harg9 x0 x1 x2 x3 (ix3 0 r l) = (tile i x0 x1 x2 x3).Acc 0 r 0 l := by
    intro r l
    refine Eq.trans ?_ (h0 r l)
    unfold kernelRun0_A.sl.v847
    rw [rest_eq]
    rfl
  have e1 : ∀ r l, kernelRun0_A.sl.v849 c i arg3 harg3 arg4 harg4 arg5 harg5 arg6 harg6 arg7 harg7 arg8 harg8 arg9 harg9 x0 x1 x2 x3 (ix3 0 r l) = (tile i x0 x1 x2 x3).Acc 1 r 0 l := by
    intro r l
    refine Eq.trans ?_ (h1 r l)
    unfold kernelRun0_A.sl.v849
    rw [rest_eq]
    rfl
  unfold out0_A_4 kernelRun0_A
  refine (congrFun (View.read_writes_full VO0_4 _ _ _ []) _).trans ?_
  refine (join_apply _ _ r l).trans ?_
  rw [e0, e1]

end Cert.SbPrompt
-- ==== Proof.Host.lean ====
/-
  What the kernel's launch stages: the arrays prepared from the arguments, read at an index, and each grid point's blocks of
  them.
-/
module

public import proofs.«01_k».proof.Proof.Out
public import Idealize.ShloMosaic.Lib.Pipeline.ValueKit

@[expose] public section

set_option maxRecDepth 16384

noncomputable section

namespace Cert.SbPrompt

open Idealize.ShloMosaic hiding ix1 ix2 ix3 ix4
open Idealize.ShloMosaic.ValueIdx Idealize.ShloMosaic.TcCoe Idealize.ShloMosaic.StableHlo Cert.KernelIdeal Cert.KernelIdeal.Gen

/-- The scale of the scores. -/
def scale : EReal := Ideal.ofBits .f32 0x3E000000#32

variable (m : (ℓ : Loc nD τ sig) → Buf (Elt Ideal) ℓ) (c : Dev nD)

/-- The argument arrays. -/
def qArr : S4x4096x8x64.Idx → EReal := m ((c : Thread nD τ).loc main_arg0)
def kArr : S4x4096x8x64.Idx → EReal := m ((c : Thread nD τ).loc main_arg1)
def vArr : S4x4096x8x64.Idx → EReal := m ((c : Thread nD τ).loc main_arg2)
def bArr : S8.Idx → EReal := m ((c : Thread nD τ).loc main_arg3)

/-- The queries' rows, scaled. -/
theorem V_q (b : Fin 4) (s : Fin 4096) (h : Fin 8) (d : Fin 64) :
    (V m c main_v3 (ix2 ⟨4096 * b.val + s.val, by omega⟩ ⟨64 * h.val + d.val, by omega⟩) : EReal)
      = qArr m c (ix4 b s h d) * scale := by
  unfold_abbrev_sides
  after_results
  show (shapeCast S16384x512 (qArr m c) shapeCasts_S4x4096x8x64_S16384x512 _ : EReal) * scale = _
  refine congrArg (· * scale) (shapeCast_apply _ _ _ (ix4 b s h d) ?_)
  rw [Shape.rowMajor_val_two, Shape.rowMajor_val_four]
  show ((b.val * 4096 + s.val) * 8 + h.val) * 64 + d.val = (4096 * b.val + s.val) * 512 + (64 * h.val + d.val)
  omega

/-- A blocked array: block `j` of batch `b` holds rows 256·j, … of the argument, one row a column. -/
theorem blocked_apply (X : S4x4096x8x64.Idx → EReal) (b : Fin 4) (j : Fin 16) (h : Fin 8) (d : Fin 64) (k : Fin 256) :
    (transpose S4x16x512x256 [0, 1, 3, 2] (shapeCast S4x16x256x512 X shapeCasts_S4x4096x8x64_S4x16x256x512)
      transposes_S4x16x256x512_S4x16x512x256_0_1_3_2 (ix4 b j ⟨64 * h.val + d.val, by omega⟩ k) : EReal)
      = X (ix4 b ⟨256 * j.val + k.val, by omega⟩ h d) := by
  rw [transpose_apply _ _ _ _ (ix4 b j k ⟨64 * h.val + d.val, by omega⟩) (by intro a; fin_cases a <;> rfl)]
  rw [shapeCast_apply _ _ _ (ix4 b ⟨256 * j.val + k.val, by omega⟩ h d)]
  rw [Shape.rowMajor_val_four, Shape.rowMajor_val_four]
  show ((b.val * 4096 + (256 * j.val + k.val)) * 8 + h.val) * 64 + d.val = ((b.val * 16 + j.val) * 256 + k.val) * 512 + (64 * h.val + d.val)
  omega

theorem V_k (b : Fin 4) (j : Fin 16) (h : Fin 8) (d : Fin 64) (k : Fin 256) :
    (V m c main_v6 (ix4 b j ⟨64 * h.val + d.val, by omega⟩ k) : EReal) = kArr m c (ix4 b ⟨256 * j.val + k.val, by omega⟩ h d) := by
  unfold_abbrev_sides
  after_results
  exact blocked_apply (kArr m c) b j h d k

theorem V_v (b : Fin 4) (j : Fin 16) (h : Fin 8) (d : Fin 64) (k : Fin 256) :
    (V m c main_v9 (ix4 b j ⟨64 * h.val + d.val, by omega⟩ k) : EReal) = vArr m c (ix4 b ⟨256 * j.val + k.val, by omega⟩ h d) := by
  unfold_abbrev_sides
  after_results
  exact blocked_apply (vArr m c) b j h d k

/-- The blocks' places. -/
theorem index_all : ∀ t : Fin grid0.N, win0_0.index t = ![0]
    ∧ win0_1.index t = ![2 * (grid0.coords t 0).val + (grid0.coords t 2).val, (grid0.coords t 1).val]
    ∧ win0_2.index t = ![(grid0.coords t 0).val, 0, (grid0.coords t 1).val, 0]
    ∧ win0_3.index t = ![(grid0.coords t 0).val, 0, (grid0.coords t 1).val, 0]
    ∧ win0_4.index t = ![2 * (grid0.coords t 0).val + (grid0.coords t 2).val, (grid0.coords t 1).val] := by decide +kernel

theorem index_0 (t : Fin grid0.N) : win0_0.index t = ![0] := (index_all t).1
theorem index_1 (t : Fin grid0.N) : win0_1.index t = ![2 * (grid0.coords t 0).val + (grid0.coords t 2).val, (grid0.coords t 1).val] :=
  (index_all t).2.1
theorem index_2 (t : Fin grid0.N) : win0_2.index t = ![(grid0.coords t 0).val, 0, (grid0.coords t 1).val, 0] := (index_all t).2.2.1
theorem index_3 (t : Fin grid0.N) : win0_3.index t = ![(grid0.coords t 0).val, 0, (grid0.coords t 1).val, 0] := (index_all t).2.2.2.1
theorem index_4 (t : Fin grid0.N) : win0_4.index t = ![2 * (grid0.coords t 0).val + (grid0.coords t 2).val, (grid0.coords t 1).val] :=
  (index_all t).2.2.2.2

/-- A grid point's batch, pair of heads and half of the queries. -/
def batch (t : Fin grid0.N) : Fin 4 := grid0.coords t 0
def pair (t : Fin grid0.N) : Fin 4 := grid0.coords t 1
def half (t : Fin grid0.N) : Fin 2 := grid0.coords t 2

theorem blk_b (t : Fin grid0.N) (h : Fin 8) : (iblk m c 0 t (ix1 h) : EReal) = bArr m c (ix1 h) := by
  show V m c main_arg3 _ = _
  rw [V_main_arg3]
  unfold bArr
  blk_ext [index_0 t]

/-- The staged queries: row `r`, lane 64·h + d of the pair's 128. -/
theorem blk_q (t : Fin grid0.N) (r : Fin 2048) (h : Fin 2) (d : Fin 64) :
    (iblk m c 1 t (ix2 r ⟨64 * h.val + d.val, by omega⟩) : EReal)
      = qArr m c (ix4 (batch t) ⟨2048 * (half t).val + r.val, by omega⟩ ⟨2 * (pair t).val + h.val, by omega⟩ d) * scale := by
  rw [← V_q]
  show V m c main_v3 _ = _
  have e0 : (batch t).val = (grid0.coords t 0).val := rfl
  have e1 : (pair t).val = (grid0.coords t 1).val := rfl
  blk_ext [index_1 t]
  show _ * 2048 + r.val = 4096 * (grid0.coords t 0).val + (2048 * (grid0.coords t 2).val + r.val)
  omega

theorem blk_k (t : Fin grid0.N) (j : Fin 16) (h : Fin 2) (d : Fin 64) (k : Fin 256) :
    (iblk m c 2 t (ix4 0 j ⟨64 * h.val + d.val, by omega⟩ k) : EReal)
      = kArr m c (ix4 (batch t) ⟨256 * j.val + k.val, by omega⟩ ⟨2 * (pair t).val + h.val, by omega⟩ d) := by
  rw [← V_k]
  show V m c main_v6 _ = _
  have e0 : (batch t).val = (grid0.coords t 0).val := rfl
  have e1 : (pair t).val = (grid0.coords t 1).val := rfl
  blk_ext [index_2 t]
  rfl

theorem blk_v (t : Fin grid0.N) (j : Fin 16) (h : Fin 2) (d : Fin 64) (k : Fin 256) :
    (iblk m c 3 t (ix4 0 j ⟨64 * h.val + d.val, by omega⟩ k) : EReal)
      = vArr m c (ix4 (batch t) ⟨256 * j.val + k.val, by omega⟩ ⟨2 * (pair t).val + h.val, by omega⟩ d) := by
  rw [← V_v]
  show V m c main_v9 _ = _
  have e0 : (batch t).val = (grid0.coords t 0).val := rfl
  have e1 : (pair t).val = (grid0.coords t 1).val := rfl
  blk_ext [index_3 t]
  rfl

end Cert.SbPrompt
-- ==== Proof.Weight.lean ====
/-
  The weight of one key, as the kernel forms it from softpluses and as the reference forms it from log-probabilities: the
  same extended real, whatever the scores are.
-/
module

public import proofs.«01_k».proof.Proof.Block

@[expose] public section

noncomputable section

namespace Cert.SbPrompt

open Idealize.ShloMosaic

/-- The softplus of a real. -/
def rsp (x : ℝ) : ℝ := max x 0 + Real.log (1 + Real.exp (-|x|))

theorem rsp_neg (x : ℝ) : rsp (-x) = rsp x - x := by
  unfold rsp
  rw [abs_neg]
  have : max (-x) 0 = max x 0 - x := by
    rcases le_total x 0 with h | h
    · rw [max_eq_left (by linarith), max_eq_right h]; ring
    · rw [max_eq_right (by linarith), max_eq_left h]; ring
  rw [this]; ring

theorem rsp_nonneg (x : ℝ) : 0 ≤ rsp x :=
  add_nonneg (le_max_right _ _) (Real.log_nonneg (by linarith [Real.exp_pos (-|x|)]))

theorem coe_max (x y : ℝ) : ((max x y : ℝ) : EReal) = max (x : EReal) (y : EReal) := EReal.coe_strictMono.monotone.map_max

theorem sp_coe (x : ℝ) : sp (x : EReal) = (rsp x : EReal) := by
  unfold sp rsp
  have h1 : max (x : EReal) (-(x : EReal)) = ((|x| : ℝ) : EReal) := by
    rw [← EReal.coe_neg, ← coe_max]; rfl
  have h2 : (0 : EReal) - ((|x| : ℝ) : EReal) = ((-|x| : ℝ) : EReal) := by rw [zero_sub, EReal.coe_neg]
  have h3 : (1 : EReal) + ((Real.exp (-|x|) : ℝ) : EReal) = ((1 + Real.exp (-|x|) : ℝ) : EReal) := by
    rw [EReal.coe_add]; rfl
  rw [h1, h2, Ideal.exp_coe, h3, Ideal.log_coe, if_neg (by linarith [Real.exp_pos (-|x|)]), EReal.coe_add, coe_max]
  rfl

theorem log_one : Ideal.log 1 = 0 := by
  show Ideal.log ((1 : ℝ) : EReal) = 0
  rw [Ideal.log_coe, if_neg (by norm_num), Real.log_one]; rfl

theorem sp_top : sp ⊤ = ⊤ := by
  unfold sp
  rw [EReal.neg_top, max_eq_left bot_le, max_eq_left le_top, zero_sub, EReal.neg_top, Ideal.exp_bot, add_zero, log_one, add_zero]

theorem sp_bot : sp ⊥ = 0 := by
  unfold sp
  rw [EReal.neg_bot, max_eq_right bot_le, max_eq_right bot_le, zero_sub, EReal.neg_top, Ideal.exp_bot, add_zero, log_one, add_zero]

theorem sp_nonneg (z : EReal) : 0 ≤ sp z := by
  induction z with
  | bot => rw [sp_bot]
  | top => rw [sp_top]; exact le_top
  | coe x => rw [sp_coe]; exact EReal.coe_nonneg.2 (rsp_nonneg x)

/-- The reference's exponent is the kernel's: `R` is the softplus summed over the later keys. -/
theorem exponent (z R : EReal) (hR : 0 ≤ R) : -(sp (-z)) + (-(sp z) + -R) - -(sp z) = z - (sp z + R) := by
  induction z with
  | bot =>
    rw [EReal.neg_bot, sp_top, sp_bot, EReal.neg_top, EReal.bot_add, zero_add, EReal.bot_sub, EReal.bot_sub]
  | top =>
    have hT : (⊤ : EReal) + R = ⊤ := EReal.top_add_of_ne_bot (ne_of_gt (lt_of_lt_of_le EReal.bot_lt_zero hR))
    rw [EReal.neg_top, sp_bot, sp_top, hT, EReal.neg_top, EReal.bot_add, EReal.add_bot, EReal.bot_sub, EReal.sub_top]
  | coe x =>
    have e : -((x : ℝ) : EReal) = ((-x : ℝ) : EReal) := (EReal.coe_neg x).symm
    rw [e, sp_coe, sp_coe, rsp_neg]
    induction R with
    | bot => exact absurd hR (by simp)
    | top =>
      rw [EReal.neg_top, EReal.add_bot, EReal.add_bot, EReal.bot_sub, EReal.coe_add_top, EReal.sub_top]
    | coe r =>
      norm_cast
      ring_nf

/-- Minus a sum of terms that are not negative. -/
theorem neg_sum {α : Type} (S : Finset α) (f : α → EReal) (hf : ∀ a, 0 ≤ f a) : ∑ a ∈ S, -(f a) = -∑ a ∈ S, f a := by
  classical
  induction S using Finset.induction_on with
  | empty => simp
  | insert a S ha ih =>
    have h1 : f a ≠ ⊥ := ne_of_gt (lt_of_lt_of_le EReal.bot_lt_zero (hf a))
    have h2 : ∑ a ∈ S, f a ≠ ⊥ := ne_of_gt (lt_of_lt_of_le EReal.bot_lt_zero (Finset.sum_nonneg fun a _ => hf a))
    rw [Finset.sum_insert ha, Finset.sum_insert ha, ih, EReal.neg_add (Or.inl h1) (Or.inr h2), sub_eq_add_neg]

variable (z : ℕ → EReal) (s : ℕ)

/-- The softplus of the scores of the keys before `s`. -/
def seen (t : ℕ) : EReal := if t < s then sp (z t) else 0

theorem seen_nonneg (t : ℕ) : 0 ≤ seen z s t := by
  unfold seen; split
  · exact sp_nonneg _
  · exact le_refl _

/-- The weight of key `t` for the query at place `s`. -/
def wt (t : ℕ) : EReal := if t < s then Ideal.exp (z t - ∑ u ∈ Finset.Ico t 4096, seen z s u) else 0

/-- The weight from the log-probabilities. -/
theorem wt_eq (t : ℕ) (ht : t < 4096) (hs : t < s) :
    wt z s t = Ideal.exp (-(sp (-(z t))) + ∑ u ∈ Finset.Ico t 4096, (if u < s then -(sp (z u)) else 0) - (if t < s then -(sp (z t)) else 0)) := by
  have e : ∀ u, (if u < s then -(sp (z u)) else 0) = -(seen z s u) := fun u => by unfold seen; split <;> simp
  rw [wt, if_pos hs, if_pos hs]
  simp only [e]
  rw [neg_sum _ _ (seen_nonneg z s), Finset.sum_eq_sum_Ico_succ_bot ht]
  have h0 : seen z s t = sp (z t) := if_pos hs
  have hR : 0 ≤ ∑ u ∈ Finset.Ico (t + 1) 4096, seen z s u := Finset.sum_nonneg fun u _ => seen_nonneg z s u
  rw [h0, EReal.neg_add (Or.inl (ne_of_gt (lt_of_lt_of_le EReal.bot_lt_zero (sp_nonneg _))))
    (Or.inr (ne_of_gt (lt_of_lt_of_le EReal.bot_lt_zero hR))), sub_eq_add_neg (-(sp (z t))), exponent _ _ hR]

end Cert.SbPrompt
-- ==== Proof.Blocks.lean ====
/-
  A tile's blocks of 256 keys put together: its sums over blocks and columns are sums over the 4096 keys.
-/
module

public import proofs.«01_k».proof.Proof.Tile
public import proofs.«01_k».proof.Proof.Weight

@[expose] public section

noncomputable section

namespace Cert.SbPrompt

open Idealize.ShloMosaic

/-- Sums over consecutive blocks of 256. -/
theorem sum_blocks (f : ℕ → EReal) {J N : ℕ} (h : J ≤ N) :
    ∑ j ∈ Finset.Ico J N, ∑ c : Fin 256, f (256 * j + c.val) = ∑ t ∈ Finset.Ico (256 * J) (256 * N), f t := by
  induction N, h using Nat.le_induction with
  | base => simp
  | succ N hN ih =>
    rw [Finset.sum_Ico_succ_top hN, ih, ← Finset.sum_Ico_consecutive f (Nat.mul_le_mul_left 256 hN) (Nat.mul_le_mul_left 256 (Nat.le_succ N))]
    congr 1
    rw [Finset.sum_Ico_eq_sum_range, ← Fin.sum_univ_eq_sum_range (fun c => f (256 * N + c))]
    have : 256 * (N + 1) - 256 * N = 256 := by omega
    rw [this]

/-- A block's sum from a column on. -/
theorem sum_from (f : ℕ → EReal) (j : ℕ) (c : Fin 256) :
    (∑ k : Fin 256, if c ≤ k then f (256 * j + k.val) else 0) = ∑ t ∈ Finset.Ico (256 * j + c.val) (256 * (j + 1)), f t := by
  have e : ∀ k : Fin 256, (if c ≤ k then f (256 * j + k.val) else 0) = (fun k : ℕ => if c.val ≤ k then f (256 * j + k) else 0) k.val := fun k => rfl
  rw [Finset.sum_congr rfl fun k _ => e k, Fin.sum_univ_eq_sum_range (fun k : ℕ => if c.val ≤ k then f (256 * j + k) else 0) 256, ← Finset.sum_filter]
  rw [Finset.sum_Ico_eq_sum_range]
  have hc := c.isLt
  refine Finset.sum_bij' (fun k _ => k - c.val) (fun k _ => k + c.val) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; omega
  · intro k hk; simp only [Finset.mem_filter, Finset.mem_range] at hk ⊢; congr 1; omega

/-- Terms that are zero from `a` on can be added. -/
theorem sum_extend (f : ℕ → EReal) {i a b : ℕ} (h : i ≤ a) (hab : a ≤ b) (hf : ∀ t, a ≤ t → f t = 0) :
    ∑ t ∈ Finset.Ico i a, f t = ∑ t ∈ Finset.Ico i b, f t := by
  rw [← Finset.sum_Ico_consecutive f h hab, Finset.sum_eq_zero (s := Finset.Ico a b) fun t ht => hf t (Finset.mem_Ico.1 ht).1, add_zero]

namespace Tile

variable (T : Tile) (h : Fin 2) (r : Fin 2048) (z : ℕ → EReal)

theorem S_eq (hZ : ∀ j c, j < 16 → T.Z h r j c = z (256 * j + c.val)) {j : ℕ} (hj : j < 16) (c : Fin 256) :
    T.S h r j c = seen z (2048 * T.qi + r.val) (256 * j + c.val) := by
  unfold S seen
  rw [hZ j c hj]; rfl

theorem Suf_eq (hZ : ∀ j c, j < 16 → T.Z h r j c = z (256 * j + c.val)) {j : ℕ} (hj : j < 16) (c : Fin 256) :
    T.Suf h r j c = ∑ t ∈ Finset.Ico (256 * j + c.val) (256 * (j + 1)), seen z (2048 * T.qi + r.val) t := by
  rw [← sum_from]
  refine Finset.sum_congr rfl fun k _ => ?_
  rw [T.S_eq h r z hZ hj]

theorem Car_eq (hqi : T.qi < 2) (hZ : ∀ j c, j < 16 → T.Z h r j c = z (256 * j + c.val)) {J : ℕ} (hJ : J ≤ 8 * T.qi + 8) :
    T.Car h r J = ∑ t ∈ Finset.Ico (256 * J) (256 * (8 * T.qi + 8)), seen z (2048 * T.qi + r.val) t := by
  unfold Car
  rw [← sum_blocks _ hJ]
  refine Finset.sum_congr rfl fun j hj => ?_
  have hj := Finset.mem_Ico.1 hj
  rw [Suf]
  refine Finset.sum_congr rfl fun k _ => ?_
  rw [if_pos (Fin.zero_le k), T.S_eq h r z hZ (by omega)]

/-- The weight of a key. -/
theorem A_eq (hqi : T.qi < 2) (hZ : ∀ j c, j < 16 → T.Z h r j c = z (256 * j + c.val)) {j : ℕ} (hj : j < 8 * T.qi + 8) (c : Fin 256) :
    T.A h r j c = wt z (2048 * T.qi + r.val) (256 * j + c.val) := by
  have hr := r.isLt
  have hc := c.isLt
  unfold A wt
  rw [hZ j c (by omega), T.Suf_eq h r z hZ (by omega), T.Car_eq h r z hqi hZ (by omega), Finset.sum_Ico_consecutive _ (by omega) (by omega),
    sum_extend (seen z (2048 * T.qi + r.val)) (by omega) (show 256 * (8 * T.qi + 8) ≤ 4096 by omega) (fun t ht => if_neg (by omega))]
  rfl

/-- The sum over a tile's blocks is the sum over all keys. -/
theorem Acc_eq (hqi : T.qi < 2) (hZ : ∀ j c, j < 16 → T.Z h r j c = z (256 * j + c.val)) (l : Fin 128) (v : ℕ → EReal)
    (hV : ∀ j c, j < 16 → T.V j l c = v (256 * j + c.val)) :
    T.Acc h r 0 l = ∑ t ∈ Finset.Ico 0 4096, wt z (2048 * T.qi + r.val) t * v t := by
  have hr := r.isLt
  unfold Acc
  refine Eq.trans (Eq.trans ?_ (sum_blocks (fun t => wt z (2048 * T.qi + r.val) t * v t) (Nat.zero_le (8 * T.qi + 8))))
    (sum_extend (fun t => wt z (2048 * T.qi + r.val) t * v t) (Nat.zero_le _) (show 256 * (8 * T.qi + 8) ≤ 4096 by omega)
      (fun t ht => by show wt z _ t * v t = 0; unfold wt; rw [if_neg (show ¬ t < 2048 * T.qi + r.val by omega), zero_mul]))
  refine Finset.sum_congr rfl fun j hj => ?_
  have hj := Finset.mem_Ico.1 hj
  rw [W]
  refine Finset.sum_congr rfl fun c _ => ?_
  rw [T.A_eq h r z hqi hZ hj.2, hV j c (by omega)]

end Tile

end Cert.SbPrompt
-- ==== Proof.Array.lean ====
/-
  The kernel's result array: each element is the attention of one query, head and feature over the 4096 keys.
-/
module

public import proofs.«01_k».proof.Proof.Host
public import proofs.«01_k».proof.Proof.Blocks
public import proofs.«01_k».proof.Proof.Gen.KernelIdeal.Value

@[expose] public section

set_option maxRecDepth 16384

noncomputable section

namespace Cert.SbPrompt

open Idealize.ShloMosaic hiding ix1 ix2 ix3 ix4
open Idealize.ShloMosaic.ValueIdx Idealize.ShloMosaic.TcCoe

section Attention

variable (q k v : (⟨4, ![4, 4096, 8, 64]⟩ : Shape).Idx → EReal) (bi : (⟨1, ![8]⟩ : Shape).Idx → EReal)

/-- The score of a query against key `t`. -/
def zk (b : Fin 4) (h : Fin 8) (s : Fin 4096) (t : ℕ) : EReal :=
  if ht : t < 4096 then (∑ d : Fin 64, q (ix4 b s h d) * scale * k (ix4 b ⟨t, ht⟩ h d)) + bi (ix1 h) else 0

/-- One feature of key `t`'s value. -/
def vk (b : Fin 4) (h : Fin 8) (d : Fin 64) (t : ℕ) : EReal := if ht : t < 4096 then v (ix4 b ⟨t, ht⟩ h d) else 0

/-- One feature of the stick-breaking attention of one query and head. -/
def attn (b : Fin 4) (s : Fin 4096) (h : Fin 8) (d : Fin 64) : EReal :=
  ∑ t ∈ Finset.Ico 0 4096, wt (zk q k bi b h s) s.val t * vk v b h d t

/-- The attention laid out as the result array. -/
def attnArr (i : (⟨2, ![16384, 512]⟩ : Shape).Idx) : EReal :=
  attn q k v bi ⟨(i 0).val / 4096, by have : (i 0).val < 16384 := (i 0).isLt; omega⟩ ⟨(i 0).val % 4096, by omega⟩
    ⟨(i 1).val / 64, by have : (i 1).val < 512 := (i 1).isLt; omega⟩ ⟨(i 1).val % 64, by omega⟩

theorem attnArr_at (i : (⟨2, ![16384, 512]⟩ : Shape).Idx) (b : Fin 4) (s : Fin 4096) (h : Fin 8) (d : Fin 64)
    (h0 : (i 0).val = 4096 * b.val + s.val) (h1 : (i 1).val = 64 * h.val + d.val) : attnArr q k v bi i = attn q k v bi b s h d := by
  have hb := b.isLt
  have hs := s.isLt
  have hh := h.isLt
  have hd := d.isLt
  unfold attnArr
  have e0 : (⟨(i 0).val / 4096, by omega⟩ : Fin 4) = b := Fin.ext (by show (i 0).val / 4096 = b.val; omega)
  have e1 : (⟨(i 0).val % 4096, by omega⟩ : Fin 4096) = s := Fin.ext (by show (i 0).val % 4096 = s.val; omega)
  have e2 : (⟨(i 1).val / 64, by omega⟩ : Fin 8) = h := Fin.ext (by show (i 1).val / 64 = h.val; omega)
  have e3 : (⟨(i 1).val % 64, by omega⟩ : Fin 64) = d := Fin.ext (by show (i 1).val % 64 = d.val; omega)
  rw [e0, e1, e2, e3]

end Attention

/-- A sum over the pair's 128 lanes of which only one head's count is a sum over that head's 64. -/
theorem sum_lanes (h : Fin 2) (f g : Fin 128 → EReal) :
    ∑ l : Fin 128, (if l.val / 64 = h.val then f l else 0) * g l
      = ∑ d : Fin 64, f ⟨64 * h.val + d.val, by omega⟩ * g ⟨64 * h.val + d.val, by omega⟩ := by
  rw [Fin.sum_univ_add (a := 64) (b := 64)]
  have lo : ∀ d : Fin 64, ((Fin.castAdd 64 d : Fin 128).val) / 64 = 0 := fun d => by show d.val / 64 = 0; omega
  have hi : ∀ d : Fin 64, ((Fin.natAdd 64 d : Fin 128).val) / 64 = 1 := fun d => by show (64 + d.val) / 64 = 1; omega
  simp only [lo, hi]
  fin_cases h
  · rw [Finset.sum_eq_zero (s := Finset.univ) (f := fun d : Fin 64 => (if 1 = 0 then f (Fin.natAdd 64 d) else 0) * g (Fin.natAdd 64 d)) (fun d _ => by simp)]
    rw [add_zero]
    refine Finset.sum_congr rfl fun d _ => ?_
    have e : (Fin.castAdd 64 d : Fin 128) = ⟨64 * 0 + d.val, by omega⟩ := Fin.ext (by show d.val = 64 * 0 + d.val; omega)
    rw [e]; rfl
  · rw [Finset.sum_eq_zero (s := Finset.univ) (f := fun d : Fin 64 => (if 0 = 1 then f (Fin.castAdd 64 d) else 0) * g (Fin.castAdd 64 d)) (fun d _ => by simp)]
    rw [zero_add]
    refine Finset.sum_congr rfl fun d _ => ?_
    have e : (Fin.natAdd 64 d : Fin 128) = ⟨64 * 1 + d.val, by omega⟩ := Fin.ext (by show 64 + d.val = 64 * 1 + d.val; omega)
    rw [e]; rfl

open Cert.KernelIdeal Cert.KernelIdeal.Gen

variable (m : (ℓ : Loc nD τ sig) → Buf (Elt Ideal) ℓ) (c : Dev nD)

/-- A grid point's tile. -/
def tileAt (t : Fin grid0.N) : Tile := tile (grid0.coords t) (iblk m c 0 t) (iblk m c 1 t) (iblk m c 2 t) (iblk m c 3 t)

/-- The tile's scores are the query's. -/
theorem tileAt_Z (t : Fin grid0.N) (h : Fin 2) (r : Fin 2048) (j : ℕ) (k : Fin 256) (hj : j < 16) :
    (tileAt m c t).Z h r j k = zk (qArr m c) (kArr m c) (bArr m c) (batch t) ⟨2 * (pair t).val + h.val, by omega⟩
      ⟨2048 * (half t).val + r.val, by omega⟩ (256 * j + k.val) := by
  unfold zk
  rw [dif_pos (by omega)]
  unfold Tile.Z
  refine congrArg₂ (· + ·) ?_ (blk_b m c t _)
  refine (sum_lanes h (fun l => iblk m c 1 t (ix2 r l)) (fun l => (tileAt m c t).K j l k)).trans ?_
  refine Finset.sum_congr rfl fun d _ => ?_
  refine congrArg₂ (· * ·) (blk_q m c t r h d) ?_
  refine Eq.trans ?_ (blk_k m c t ⟨j, hj⟩ h d k)
  show (if hj : j < 16 then (iblk m c 2 t (ix4 0 ⟨j, hj⟩ _ k) : EReal) else (0 : EReal)) = _
  rw [dif_pos hj]

theorem tileAt_V (t : Fin grid0.N) (h : Fin 2) (d : Fin 64) (j : ℕ) (k : Fin 256) (hj : j < 16) :
    (tileAt m c t).V j ⟨64 * h.val + d.val, by omega⟩ k
      = vk (vArr m c) (batch t) ⟨2 * (pair t).val + h.val, by omega⟩ d (256 * j + k.val) := by
  unfold vk
  rw [dif_pos (by omega)]
  refine Eq.trans ?_ (blk_v m c t ⟨j, hj⟩ h d k)
  show (if hj : j < 16 then (iblk m c 3 t (ix4 0 ⟨j, hj⟩ _ k) : EReal) else (0 : EReal)) = _
  rw [dif_pos hj]

theorem tileAt_Acc (t : Fin grid0.N) (h : Fin 2) (r : Fin 2048) (d : Fin 64) :
    (tileAt m c t).Acc h r 0 ⟨64 * h.val + d.val, by omega⟩
      = attn (qArr m c) (kArr m c) (vArr m c) (bArr m c) (batch t) ⟨2048 * (half t).val + r.val, by omega⟩
        ⟨2 * (pair t).val + h.val, by omega⟩ d :=
  (tileAt m c t).Acc_eq h r _ (half t).isLt (fun j k hj => tileAt_Z m c t h r j k hj) _ _ (fun j k hj => tileAt_V m c t h d j k hj)

/-- What the kernel leaves in its result array. -/
theorem kernel_arr : (dats m 0 c).arrAt 4 (cfgs 0).N = attnArr (qArr m c) (kArr m c) (vArr m c) (bArr m c) := by
  refine (dats m 0 c).arrAt_eq_of_covers 4 _ (by decide +kernel) fun t hf y => ?_
  obtain ⟨r, l, rfl⟩ : ∃ (r : Fin 2048) (l : Fin 128), y = ix2 r l := ⟨y 0, y 1, by funext a; fin_cases a <;> rfl⟩
  have hl := l.isLt
  have e0 : (batch t).val = (grid0.coords t 0).val := rfl
  have e1 : (pair t).val = (grid0.coords t 1).val := rfl
  have e2 : (half t).val = (grid0.coords t 2).val := rfl
  have hp := (pair t).isLt
  have hh := (half t).isLt
  rw [attnArr_at _ _ _ _ _ (batch t) ⟨2048 * (half t).val + r.val, by omega⟩ ⟨2 * (pair t).val + l.val / 64, by omega⟩ ⟨l.val % 64, by omega⟩
    (by blk_simp [index_4 t]; show _ * 2048 + r.val = 4096 * (grid0.coords t 0).val + (2048 * (grid0.coords t 2).val + r.val); omega)
    (by blk_simp [index_4 t]; show _ * 128 + l.val = 64 * (2 * (grid0.coords t 1).val + l.val / 64) + l.val % 64; omega)]
  blk_simp
  rw [after0_4]
  unfold outsAt0
  refine (block_out _ _ _ _ _ _ _ _ _ _ _ _ _ _ _ _ _ _ _ _ r l).trans ?_
  have key := tileAt_Acc m c t ⟨l.val / 64, by omega⟩ r ⟨l.val % 64, by omega⟩
  have el : (⟨64 * (l.val / 64) + l.val % 64, by omega⟩ : Fin 128) = l := Fin.ext (by show 64 * (l.val / 64) + l.val % 64 = l.val; omega)
  refine Eq.trans ?_ (el ▸ key)
  have h2 : l.val / 64 < 2 := by omega
  rcases (by omega : l.val / 64 = 0 ∨ l.val / 64 = 1) with h | h
  · rw [if_pos h]
    exact congrArg (fun x : Fin 2 => (tileAt m c t).Acc x r 0 l) (Fin.ext h.symm)
  · rw [if_neg (by omega)]
    exact congrArg (fun x : Fin 2 => (tileAt m c t).Acc x r 0 l) (Fin.ext h.symm)

end Cert.SbPrompt
-- ==== Proof.Ref.lean ====
/-
  What the reference computes, read at an index: the scores, the reverse running sum of the log-probabilities of passing a
  key by, the weights and the weighted values.
-/
module

public import proofs.«01_k».proof.Proof.Block
public import proofs.«01_k».proof.Proof.Gen.ReferenceIdeal.Run
public import Idealize.ShloMosaic.Lib.Pointwise
public import Idealize.ShloMosaic.Lib.WordCmp

@[expose] public section

set_option maxRecDepth 16384

noncomputable section

namespace Cert.SbPrompt.Ref

open Idealize.ShloMosaic hiding ix1 ix2 ix3 ix4
open Idealize.ShloMosaic.ValueIdx Idealize.ShloMosaic.TcCoe Cert.ReferenceIdeal Cert.ReferenceIdeal.Gen Cert.ReferenceIdeal.Value

abbrev A4 := FVec Ideal S4x8x4096x4096 .f32

/-- The zero array that the selections fall back on. -/
def zeros : A4 := broadcastInDim S4x8x4096x4096 ![] bcast_S_S4x8x4096x4096 (constant (F := Ideal) S_ .f32 0x00000000#32)

/-- The scores. -/
def scores (q k : FVec Ideal S4x4096x8x64 .f32) (b : FVec Ideal S8 .f32) : A4 :=
  addf (mulf (Host.dotGeneral dot_S4x4096x8x64_S4x4096x8x64_S4x8x4096x4096_3_3_1_1_02_02 none q k) (broadcastInDim S4x8x4096x4096 ![] bcast_S_S4x8x4096x4096 (constant (F := Ideal) S_ .f32 0x3E000000#32)))
    (broadcastInDim S4x8x4096x4096 ![0, 1, 2, 3] bcast_S1x8x1x1_S4x8x4096x4096_0_1_2_3 (broadcastInDim S1x8x1x1 ![1] bcast_S8_S1x8x1x1_1 b))

/-- The keys strictly before the query. -/
def causal : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The softplus of an array, as the reference writes it. -/
def soft (x : A4) : A4 :=
  select (cmpf .une (subf x zeros) (subf x zeros)) (addf x zeros)
    (addf (maximumf x zeros) (Host.log1p (Host.exp (Host.negf (Host.absf (subf x zeros))))))

/-- The log-probability of passing a key by, zero where the key is not seen. -/
def logKeep (z : A4) : A4 := select causal (Host.negf (soft (Host.negf (Host.negf z)))) zeros

/-- The reverse running sum along the keys. -/
def tails (x : A4) : A4 :=
  Host.reduceWindowAdd ![1, 1, 1, 4096] ![1, 1, 1, 1] ![0, 0, 0, 0] ![0, 0, 0, 4095] x (broadcastInDim S_ ![] bcast_S_S_ (constant (F := Ideal) S_ .f32 0x00000000#32))
    reduceWindows_S4x8x4096x4096_S4x8x4096x4096_w1s1p0_0_w1s1p0_0_w1s1p0_0_w4096s1p0_4095 h_S_

/-- The weights. -/
def weights (z : A4) : A4 :=
  select causal (Host.exp (subf (addf (Host.negf (soft (Host.negf z))) (tails (logKeep z))) (logKeep z))) zeros

/-- The result, from the weights and the values. -/
def out (v : FVec Ideal S4x4096x8x64 .f32) (a : A4) : FVec Ideal S16384x512 .bf16 :=
  truncf .bf16 (shapeCast S16384x512 (transpose S4x4096x8x64 [0, 3, 1, 2] (Host.dotGeneral dot_S4x4096x8x64_S4x8x4096x4096_S4x8x64x4096_1_3_3_2_02_01 none v a)
    transposes_S4x8x64x4096_S4x4096x8x64_0_3_1_2) shapeCasts_S4x4096x8x64_S16384x512) bitsLt_bf16_f32

/-- The reference's result is built of these. -/
theorem res_eq (m : (ℓ : Loc nD τ sig) → Buf (Elt Ideal) ℓ) (c : Dev nD) :
    res_main_v24 m c = out (m ((c.tc : Thread nD τ).loc main_arg2))
      (weights (scores (m ((c.tc : Thread nD τ).loc main_arg0)) (m ((c.tc : Thread nD τ).loc main_arg1)) (m ((c.tc : Thread nD τ).loc main_arg3)))) := by
  unfold res_main_v24
  rfl

/-- A left fold of additions is the sum. -/
theorem foldl_add {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

abbrev W4 : Shape := ⟨4, ![1, 1, 1, 4096]⟩

theorem numel_W4 : W4.numel = 4096 := by
  show ∏ a : Fin 4, (![1, 1, 1, 4096] : Fin 4 → Nat) a = 4096
  rw [Fin.prod_univ_four]; rfl

theorem symm_W4 (n : Fin W4.numel) : W4.rowMajor.symm n = ix4 (0 : Fin 1) (0 : Fin 1) (0 : Fin 1) (n.cast numel_W4) :=
  (W4.rowMajor.symm_apply_eq).2 (Fin.ext (by
    rw [Shape.rowMajor_val_four]
    show n.val = ((0 * 1 + 0) * 1 + 0) * 4096 + n.val
    omega))

/-- The reverse running sum at a key adds up the entries from that key on. -/
theorem tails_apply (x : A4) (b : Fin 4) (h : Fin 8) (s t : Fin 4096) :
    (tails x (ix4 b h s t) : EReal) = ∑ w : Fin 4096, if ht : t.val + w.val < 4096 then (x (ix4 b h s ⟨t.val + w.val, ht⟩) : EReal) else 0 := by
  have hz : (broadcastInDim S_ ![] bcast_S_S_ (constant (F := Ideal) S_ .f32 0x00000000#32)) (Shape.Idx.first h_S_) = (0 : EReal) := Ideal.ofBits_zero_f32
  unfold tails Host.reduceWindowAdd
  rw [Ideal.hostReduceWindowAdd_def]
  unfold Ideal.hostReduceWindowAdd Host.reduceWindow
  rw [hz]
  refine (foldl_add _ _ _).trans ?_
  rw [zero_add, ← Fin.sum_univ_def]
  refine Fintype.sum_equiv (finCongr numel_W4) _ _ fun n => ?_
  have e0 : (W4.rowMajor.symm n 0).val = 0 := by rw [symm_W4]; rfl
  have e1 : (W4.rowMajor.symm n 1).val = 0 := by rw [symm_W4]; rfl
  have e2 : (W4.rowMajor.symm n 2).val = 0 := by rw [symm_W4]; rfl
  have e3 : (W4.rowMajor.symm n 3).val = n.val := by rw [symm_W4]; rfl
  have hb := b.isLt
  have hh := h.isLt
  have hs := s.isLt
  dsimp only
  split
  · next hin =>
    have h3 := (hin 3).2
    change t.val * 1 + (W4.rowMajor.symm n 3).val - 0 < 4096 at h3
    rw [e3] at h3
    have ht : t.val + (finCongr numel_W4 n).val < 4096 := by show t.val + n.val < 4096; omega
    rw [dif_pos ht]
    refine congrArg x (funext fun a => Fin.ext ?_)
    fin_cases a
    · show b.val * 1 + (W4.rowMajor.symm n 0).val - 0 = b.val; omega
    · show h.val * 1 + (W4.rowMajor.symm n 1).val - 0 = h.val; omega
    · show s.val * 1 + (W4.rowMajor.symm n 2).val - 0 = s.val; omega
    · show t.val * 1 + (W4.rowMajor.symm n 3).val - 0 = t.val + n.val; omega
  · next hin =>
    rw [dif_neg fun ht => hin fun a => ?_]
    change t.val + n.val < 4096 at ht
    fin_cases a
    · show 0 ≤ b.val * 1 + (W4.rowMajor.symm n 0).val ∧ b.val * 1 + (W4.rowMajor.symm n 0).val - 0 < 4; omega
    · show 0 ≤ h.val * 1 + (W4.rowMajor.symm n 1).val ∧ h.val * 1 + (W4.rowMajor.symm n 1).val - 0 < 8; omega
    · show 0 ≤ s.val * 1 + (W4.rowMajor.symm n 2).val ∧ s.val * 1 + (W4.rowMajor.symm n 2).val - 0 < 4096; omega
    · show 0 ≤ t.val * 1 + (W4.rowMajor.symm n 3).val ∧ t.val * 1 + (W4.rowMajor.symm n 3).val - 0 < 4096; omega

theorem zeros_apply (i : S4x8x4096x4096.Idx) : (zeros i : EReal) = 0 := Ideal.ofBits_zero_f32

theorem scores_apply (q k : FVec Ideal S4x4096x8x64 .f32) (bi : FVec Ideal S8 .f32) (b : Fin 4) (h : Fin 8) (s t : Fin 4096) :
    (scores q k bi (ix4 b h s t) : EReal)
      = (∑ d : Fin 64, (q (ix4 b s h d) : EReal) * k (ix4 b t h d)) * Ideal.ofBits .f32 0x3E000000#32 + bi (ix1 h) := by
  unfold scores
  pointwise
  rfl

theorem causal_apply (b : Fin 4) (h : Fin 8) (s t : Fin 4096) : causal (ix4 b h s t) = 1#1 ↔ t.val < s.val := by
  have e : causal (ix4 b h s t) = IntOp.cmpi .slt (BitVec.ofNat 32 t.val) (BitVec.ofNat 32 s.val) := by
    unfold causal
    pointwise
  rw [e]
  exact WordCmp.cmpi_slt_ofNat_eq_one_iff (by omega) (by omega)

theorem out_apply (v : FVec Ideal S4x4096x8x64 .f32) (a : A4) (b : Fin 4) (s : Fin 4096) (h : Fin 8) (d : Fin 64) :
    (out v a (ix2 ⟨4096 * b.val + s.val, by omega⟩ ⟨64 * h.val + d.val, by omega⟩) : EReal)
      = ∑ t : Fin 4096, (v (ix4 b t h d) : EReal) * a (ix4 b h s t) := by
  unfold out
  rw [truncf_apply, shapeCast_apply _ _ _ (ix4 b s h d)]
  · rw [transpose_apply _ _ _ _ (ix4 b h d s) (by intro a; fin_cases a <;> rfl)]
    pointwise
    rfl
  · rw [Shape.rowMajor_val_two, Shape.rowMajor_val_four]
    show ((b.val * 4096 + s.val) * 8 + h.val) * 64 + d.val = (4096 * b.val + s.val) * 512 + (64 * h.val + d.val)
    omega

/-- The reference's softplus is the softplus. -/
theorem soft_apply (x : A4) (i : S4x8x4096x4096.Idx) : (soft x i : EReal) = sp (x i) := by
  have e : (soft x i : EReal) = if Ideal.cmp .une ((x i : EReal) - zeros i) ((x i : EReal) - zeros i) = 1#1 then (x i : EReal) + zeros i
      else max (x i : EReal) (zeros i) + Ideal.log (1 + Ideal.exp (-(max ((x i : EReal) - zeros i) (-((x i : EReal) - zeros i))))) := rfl
  rw [e, zeros_apply, sub_zero]
  rw [if_neg (by simp [Ideal.cmp]), sp, zero_sub]

end Cert.SbPrompt.Ref
-- ==== Proof.Equation.lean ====
/-
  The reference's result is the same attention.
-/
module

public import proofs.«01_k».proof.Proof.Array
public import proofs.«01_k».proof.Proof.Ref

@[expose] public section

set_option maxRecDepth 16384

noncomputable section

namespace Cert.SbPrompt

open Idealize.ShloMosaic hiding ix1 ix2 ix3 ix4
open Idealize.ShloMosaic.ValueIdx

theorem scale_eq : scale = (((1 : ℝ) / 8 : ℝ) : EReal) := by
  unfold scale
  simp [Ideal.ofBits, Ideal.ieee, -EReal.coe_mul]; norm_num

/-- The scale may be taken out of a sum. -/
theorem sum_scale {n : ℕ} (f : Fin n → EReal) : (∑ d, f d) * scale = ∑ d, f d * scale := by
  classical
  have h0 : (0 : EReal) ≤ scale := by rw [scale_eq]; exact EReal.coe_nonneg.2 (by norm_num)
  have h1 : scale ≠ ⊤ := by rw [scale_eq]; exact EReal.coe_ne_top _
  have key : ∀ S : Finset (Fin n), (∑ d ∈ S, f d) * scale = ∑ d ∈ S, f d * scale := fun S => by
    induction S using Finset.induction_on with
    | empty => simp
    | insert a S ha ih => rw [Finset.sum_insert ha, Finset.sum_insert ha, EReal.right_distrib_of_nonneg_of_ne_top h0 h1, ih]
  exact key _

variable (q k v : (⟨4, ![4, 4096, 8, 64]⟩ : Shape).Idx → EReal) (bi : (⟨1, ![8]⟩ : Shape).Idx → EReal)

/-- The reference's scores are the kernel's. -/
theorem scores_eq (b : Fin 4) (h : Fin 8) (s t : Fin 4096) : (Ref.scores q k bi (ix4 b h s t) : EReal) = zk q k bi b h s t.val := by
  rw [Ref.scores_apply]
  unfold zk
  rw [dif_pos t.isLt]
  refine congrArg (· + _) ((sum_scale _).trans ?_)
  exact Finset.sum_congr rfl fun d _ => mul_right_comm _ _ _

/-- The log-probability of passing a key by. -/
def lk (z : ℕ → EReal) (s u : ℕ) : EReal := if u < s then -(sp (z u)) else 0

theorem logKeep_eq (b : Fin 4) (h : Fin 8) (s t : Fin 4096) :
    (Ref.logKeep (Ref.scores q k bi) (ix4 b h s t) : EReal) = lk (zk q k bi b h s) s.val t.val := by
  have e : (Ref.logKeep (Ref.scores q k bi) (ix4 b h s t) : EReal)
      = if Ref.causal (ix4 b h s t) = 1#1 then -(Ref.soft (Host.negf (Host.negf (Ref.scores q k bi))) (ix4 b h s t) : EReal) else Ref.zeros (ix4 b h s t) := rfl
  rw [e, Ref.soft_apply, Ref.zeros_apply]
  have e2 : ((Host.negf (Host.negf (Ref.scores q k bi)) : Ref.A4) (ix4 b h s t) : EReal) = - -(Ref.scores q k bi (ix4 b h s t) : EReal) := rfl
  rw [e2, neg_neg, scores_eq]
  unfold lk
  exact if_congr (Ref.causal_apply b h s t) rfl rfl

/-- Their sum over the keys from `t` on. -/
theorem tails_eq (b : Fin 4) (h : Fin 8) (s t : Fin 4096) :
    (Ref.tails (Ref.logKeep (Ref.scores q k bi)) (ix4 b h s t) : EReal) = ∑ u ∈ Finset.Ico t.val 4096, lk (zk q k bi b h s) s.val u := by
  rw [Ref.tails_apply]
  have e : ∀ w : Fin 4096, (if ht : t.val + w.val < 4096 then (Ref.logKeep (Ref.scores q k bi) (ix4 b h s ⟨t.val + w.val, ht⟩) : EReal) else 0)
      = (fun w : ℕ => if t.val + w < 4096 then lk (zk q k bi b h s) s.val (t.val + w) else 0) w.val := fun w => by
    by_cases ht : t.val + w.val < 4096
    · rw [dif_pos ht, logKeep_eq]; exact (if_pos ht).symm
    · rw [dif_neg ht]; exact (if_neg ht).symm
  rw [Finset.sum_congr rfl fun w _ => e w,
    Fin.sum_univ_eq_sum_range (fun w : ℕ => if t.val + w < 4096 then lk (zk q k bi b h s) s.val (t.val + w) else 0) 4096,
    ← Finset.sum_filter, Finset.sum_Ico_eq_sum_range]
  refine Finset.sum_congr (Finset.ext fun w => ?_) fun _ _ => rfl
  simp only [Finset.mem_filter, Finset.mem_range]
  omega

/-- The reference's weights are the kernel's. -/
theorem weights_eq (b : Fin 4) (h : Fin 8) (s t : Fin 4096) :
    (Ref.weights (Ref.scores q k bi) (ix4 b h s t) : EReal) = wt (zk q k bi b h s) s.val t.val := by
  have e : (Ref.weights (Ref.scores q k bi) (ix4 b h s t) : EReal)
      = if Ref.causal (ix4 b h s t) = 1#1 then Ideal.exp (-(Ref.soft (Host.negf (Ref.scores q k bi)) (ix4 b h s t) : EReal)
          + Ref.tails (Ref.logKeep (Ref.scores q k bi)) (ix4 b h s t) - Ref.logKeep (Ref.scores q k bi) (ix4 b h s t)) else Ref.zeros (ix4 b h s t) := rfl
  have e2 : ((Host.negf (Ref.scores q k bi) : Ref.A4) (ix4 b h s t) : EReal) = -(Ref.scores q k bi (ix4 b h s t) : EReal) := rfl
  rw [e, Ref.soft_apply, Ref.zeros_apply, e2, scores_eq, tails_eq, logKeep_eq]
  by_cases hs : t.val < s.val
  · rw [if_pos ((Ref.causal_apply b h s t).2 hs), wt_eq _ _ _ t.isLt hs]; rfl
  · rw [if_neg (fun hc => hs ((Ref.causal_apply b h s t).1 hc)), wt, if_neg hs]

/-- One element of the reference's result. -/
theorem reference_at (b : Fin 4) (s : Fin 4096) (h : Fin 8) (d : Fin 64) :
    (Ref.out v (Ref.weights (Ref.scores q k bi)) (ix2 ⟨4096 * b.val + s.val, by omega⟩ ⟨64 * h.val + d.val, by omega⟩) : EReal)
      = attn q k v bi b s h d := by
  rw [Ref.out_apply]
  unfold attn
  rw [Finset.sum_congr rfl (g := fun t : Fin 4096 => (fun t : ℕ => wt (zk q k bi b h s) s.val t * vk v b h d t) t.val) fun t _ => ?_]
  · rw [Fin.sum_univ_eq_sum_range (fun t : ℕ => wt (zk q k bi b h s) s.val t * vk v b h d t) 4096, Finset.range_eq_Ico]
  · rw [weights_eq]
    have : vk v b h d t.val = v (ix4 b t h d) := dif_pos t.isLt
    show _ = _ * vk v b h d t.val
    rw [this, mul_comm]

/-- The reference's result array. -/
theorem reference_arr : (Ref.out v (Ref.weights (Ref.scores q k bi)) : (⟨2, ![16384, 512]⟩ : Shape).Idx → EReal) = attnArr q k v bi := by
  funext i
  have h0 : (i 0).val < 16384 := (i 0).isLt
  have h1 : (i 1).val < 512 := (i 1).isLt
  have e := reference_at q k v bi ⟨(i 0).val / 4096, by omega⟩ ⟨(i 0).val % 4096, by omega⟩ ⟨(i 1).val / 64, by omega⟩ ⟨(i 1).val % 64, by omega⟩
  refine Eq.trans (congrArg _ ?_) e
  funext a
  fin_cases a
  · exact Fin.ext (by show (i 0).val = 4096 * ((i 0).val / 4096) + (i 0).val % 4096; omega)
  · exact Fin.ext (by show (i 1).val = 64 * ((i 1).val / 64) + (i 1).val % 64; omega)

end Cert.SbPrompt
-- ==== Proof.Norm.lean ====
/-
  The arithmetic that the projections share: an entry of a vector over its root mean square, and a product of a normed row
  with a column of weights.
-/
module

public import Idealize.ShloMosaic.Lib.Pointwise
public import Idealize.ShloMosaic.Lib.ValueIdx

@[expose] public section

noncomputable section

namespace Cert.Layer

open Idealize.ShloMosaic

/-- What is added to a mean square before its root is taken. -/
def eps : EReal := Ideal.ofBits .f32 0x358637BD#32

/-- The length of a row, and of a head's part of it. -/
def wide : EReal := Ideal.ofBits .f32 0x44800000#32
def narrow : EReal := Ideal.ofBits .f32 0x43000000#32

/-- An entry of a vector over the vector's root mean square. -/
def nrm {n : ℕ} (N : EReal) (x : Fin n → EReal) (k : Fin n) : EReal :=
  x k * Ideal.rsqrt (Ideal.div (∑ j, x j * x j) N + eps)

/-- The product of a normed row with a column of weights. -/
def proj (x g w : Fin 1024 → EReal) : EReal := ∑ k, nrm wide x k * g k * w k

end Cert.Layer
-- ==== Proof.Rows.lean ====
/-
  What the input projections make of one row: its gated inputs, queries, gates and gated convolution branch. The row `x`, the
  norm's weights `g` and the weights are arrays of extended reals.
-/
module

public import proofs.«01_k».proof.Proof.Norm

@[expose] public section

noncomputable section

namespace Cert.InProj

open Idealize.ShloMosaic hiding ix1 ix2 ix3 ix4
open Idealize.ShloMosaic.ValueIdx Cert.Layer

variable (x : Fin 1024 → EReal) (g : (⟨1, ![1024]⟩ : Shape).Idx → EReal) (w : (⟨2, ![1024, 6656]⟩ : Shape).Idx → EReal)

/-- Column `l` of the normed row's product with the weights. -/
def prow (l : Fin 6656) : EReal := proj x (fun k => g (ix1 k)) (fun k => w (ix2 k l))

/-- The gated inputs of the convolution. -/
def urow (l : Fin 512) : EReal := prow x g w ⟨512 + l.val, by omega⟩ * prow x g w ⟨0 + l.val, by omega⟩

/-- The attention's queries, scaled. -/
def qrow (l : Fin 512) : EReal := prow x g w ⟨1536 + l.val, by omega⟩ * Ideal.ofBits .f32 0x3E000000#32

/-- The memory's queries, each head's 128 normed. -/
def qxrow (n : (⟨1, ![128]⟩ : Shape).Idx → EReal) (h : Fin 4) (d : Fin 128) : EReal :=
  nrm narrow (fun j : Fin 128 => prow x g w ⟨3072 + (128 * h.val + j.val), by omega⟩) d * n (ix1 d)

/-- The three branches' gates. -/
def gate0row (l : Fin 1024) : EReal := Ideal.logistic (prow x g w ⟨3584 + l.val, by omega⟩)
def gate1row (l : Fin 1024) : EReal := Ideal.logistic (prow x g w ⟨4608 + l.val, by omega⟩)
def gate2row (l : Fin 1024) : EReal := Ideal.logistic (prow x g w ⟨5632 + l.val, by omega⟩)

/-- The convolution of three consecutive inputs. -/
def conv3 (cw : (⟨2, ![3, 512]⟩ : Shape).Idx → EReal) (u2 u1 u0 : EReal) (l : Fin 512) : EReal :=
  (u2 * cw (ix2 0 l) + u1 * cw (ix2 1 l)) + u0 * cw (ix2 2 l)

/-- The gated branch after the convolution, from the two rows of inputs before this one. -/
def branchrow (cw : (⟨2, ![3, 512]⟩ : Shape).Idx → EReal) (wb : (⟨3, ![3, 512, 1024]⟩ : Shape).Idx → EReal) (u2 u1 : Fin 512 → EReal)
    (l : Fin 1024) : EReal :=
  gate0row x g w l * ∑ j : Fin 512, (prow x g w ⟨1024 + j.val, by omega⟩ * conv3 cw (u2 j) (u1 j) (urow x g w j) j) * wb (ix3 0 j l)

end Cert.InProj
-- ==== Proof.InPay.lean ====
/-
  The values that one grid point of the input projections computes, read at an index.
-/
module

public import proofs.«01_k».proof.Proof.Norm
public import proofs.«01_k».proof.Proof.Gen.Kernel2Ideal.Skeleton
public import Idealize.ShloMosaic.Lib.Pipeline.ValueKit
public import Idealize.ShloMosaic.Lib.WordCmp

@[expose] public section

set_option maxRecDepth 16384

noncomputable section

namespace Cert.InProj

open Idealize.ShloMosaic hiding ix1 ix2 ix3 ix4
open Idealize.ShloMosaic.ValueIdx Idealize.ShloMosaic.TcCoe Cert.Layer Cert.Kernel2Ideal Cert.Kernel2Ideal.Gen

/-- An entry of the normed rows. -/
theorem normed_apply (x : Vec Ideal S512x1024 .f32) (g : Vec Ideal S1x1024 .f32) (r : Fin 512) (k : Fin 1024) :
    (k0_pay4 x g (ix2 r k) : EReal) = nrm wide (fun j => (x (ix2 r j) : EReal)) k * g (ix2 0 k) := by
  unfold k0_pay4
  pointwise
  rfl

/-- An entry of the keys' and values' product, which is laid out one row a column. -/
theorem kv_apply (x : Vec Ideal S512x1024 .f32) (g : Vec Ideal S1x1024 .f32) (w : Vec Ideal S1024x1024 .bf16) (l : Fin 1024) (r : Fin 512) :
    (k0_pay5 x g w (ix2 l r) : EReal) = proj (fun k => x (ix2 r k)) (fun k => g (ix2 0 k)) (fun k => w (ix2 l k)) := by
  have e : (k0_pay5 x g w (ix2 l r) : EReal) = ∑ k : Fin 1024, (w (ix2 l k) : EReal) * k0_pay4 x g (ix2 r k) := by
    unfold k0_pay5
    pointwise
    rfl
  rw [e]
  unfold proj
  refine Finset.sum_congr rfl fun k _ => ?_
  rw [normed_apply, mul_comm]

theorem kt_apply (x : Vec Ideal S512x1024 .f32) (g : Vec Ideal S1x1024 .f32) (w : Vec Ideal S1024x1024 .bf16) (l r : Fin 512) :
    (k0_pay6 x g w (ix3 0 l r) : EReal) = k0_pay5 x g w (ix2 ⟨l.val, by omega⟩ r) := by
  unfold k0_pay6
  pointwise
  rfl

theorem vt_apply (x : Vec Ideal S512x1024 .f32) (g : Vec Ideal S1x1024 .f32) (w : Vec Ideal S1024x1024 .bf16) (l r : Fin 512) :
    (k0_pay7 x g w (ix3 0 l r) : EReal) = k0_pay5 x g w (ix2 ⟨512 + l.val, by omega⟩ r) := by
  unfold k0_pay7
  pointwise
  rfl

theorem kb0_apply (x : Vec Ideal S512x1024 .f32) (g : Vec Ideal S1x1024 .f32) (w : Vec Ideal S1024x1024 .bf16) (l : Fin 512) (r : Fin 256) :
    (k0_pay8 x g w (ix4 0 0 l r) : EReal) = k0_pay5 x g w (ix2 ⟨l.val, by omega⟩ ⟨r.val, by omega⟩) := by
  unfold k0_pay8
  pointwise
  rfl

theorem vb0_apply (x : Vec Ideal S512x1024 .f32) (g : Vec Ideal S1x1024 .f32) (w : Vec Ideal S1024x1024 .bf16) (l : Fin 512) (r : Fin 256) :
    (k0_pay10 (k0_pay9 x g w) (ix4 0 0 l r) : EReal) = k0_pay5 x g w (ix2 ⟨512 + l.val, by omega⟩ ⟨r.val, by omega⟩) := by
  unfold k0_pay10 k0_pay9
  pointwise
  rfl

theorem kb1_apply (p : FVec Ideal S1024x512 .f32) (l : Fin 512) (r : Fin 256) :
    (k0_pay11 p (ix4 0 0 l r) : EReal) = p (ix2 ⟨l.val, by omega⟩ ⟨256 + r.val, by omega⟩) := by
  unfold k0_pay11
  pointwise
  rfl

theorem vb1_apply (p : FVec Ideal S1024x512 .f32) (l : Fin 512) (r : Fin 256) :
    (k0_pay12 p (ix4 0 0 l r) : EReal) = p (ix2 ⟨512 + l.val, by omega⟩ ⟨256 + r.val, by omega⟩) := by
  unfold k0_pay12
  pointwise
  rfl

/-- The product of the rows with some columns of the weights. -/
def cols {n : ℕ} (x : FVec Ideal S512x1024 .bf16) (w : (⟨2, ![1024, n]⟩ : Shape).Idx → EReal) (r : Fin 512) (l : Fin n) : EReal :=
  ∑ k : Fin 1024, (x (ix2 r k) : EReal) * w (ix2 k l)

variable (x : FVec Ideal S512x1024 .bf16)

theorem q_apply (w : Vec Ideal S1024x512 .bf16) (r l : Fin 512) :
    (k0_pay13 x w (ix2 r l) : EReal) = cols x w r l * Ideal.ofBits .f32 0x3E000000#32 := by
  unfold k0_pay13
  pointwise
  rfl

theorem qx_apply (w : Vec Ideal S1024x512 .bf16) (r l : Fin 512) : (k0_pay14 x w (ix2 r l) : EReal) = cols x w r l := by
  unfold k0_pay14
  pointwise
  rfl

/-- One entry of a row's normed queries. -/
def qn (p : FVec Ideal S512x512 .f32) (n : Vec Ideal S1x128 .f32) (r : Fin 512) (h : Fin 4) (d : Fin 128) : EReal :=
  nrm narrow (fun j : Fin 128 => (p (ix2 r ⟨128 * h.val + j.val, by omega⟩) : EReal)) d * n (ix2 0 d)

theorem qn_zero (p : FVec Ideal S512x512 .f32) (n : Vec Ideal S1x128 .f32) (r : Fin 512) (d : Fin 128) :
    qn p n r 0 d = nrm narrow (fun j : Fin 128 => (p (ix2 r ⟨j.val, by omega⟩) : EReal)) d * n (ix2 0 d) := by
  unfold qn
  refine congrArg (· * _) (congrFun (congrArg (nrm narrow) (funext fun j => congrArg p (congrArg (ix2 r) (Fin.ext ?_)))) d)
  show 128 * 0 + j.val = j.val
  omega

theorem head0_apply (w : Vec Ideal S1024x512 .bf16) (n : Vec Ideal S1x128 .f32) (r : Fin 512) (d : Fin 128) :
    (k0_pay18 (k0_pay15 x w) (k0_pay16 n) (k0_pay17 x w) (Scalar.ofBits .f32 0x358637BD#32) (ix2 r d) : EReal) = qn (k0_pay14 x w) n r 0 d := by
  rw [qn_zero]
  unfold k0_pay18 k0_pay16 k0_pay17
  pointwise
  unfold k0_pay15
  pointwise
  rfl

theorem head1_apply (p : FVec Ideal S512x512 .f32) (n : Vec Ideal S1x128 .f32) (r : Fin 512) (d : Fin 128) :
    (k0_pay19 p n (ix2 r d) : EReal) = qn p n r 1 d := by
  unfold k0_pay19
  pointwise
  rfl

theorem head2_apply (p : FVec Ideal S512x512 .f32) (n : Vec Ideal S1x128 .f32) (r : Fin 512) (d : Fin 128) :
    (k0_pay20 p n (ix2 r d) : EReal) = qn p n r 2 d := by
  unfold k0_pay20
  pointwise
  rfl

theorem head3_apply (p : FVec Ideal S512x512 .f32) (n : Vec Ideal S1x128 .f32) (r : Fin 512) (d : Fin 128) :
    (k0_pay21 p n (ix2 r d) : EReal) = qn p n r 3 d := by
  unfold k0_pay21
  pointwise
  rfl

theorem u_apply (w0 w1 : Vec Ideal S1024x512 .bf16) (r l : Fin 512) : (k0_pay22 x w0 w1 (ix2 r l) : EReal) = cols x w0 r l * cols x w1 r l := by
  unfold k0_pay22
  pointwise
  rfl

theorem zero_apply (a : Fin 8) (l : Fin 512) : (k0_pay23 (F := Ideal) (ix2 a l) : EReal) = 0 := by
  unfold k0_pay23
  pointwise

theorem last_apply (u : FVec Ideal S512x512 .f32) (a : Fin 8) (l : Fin 512) : (k0_pay24 u (ix2 a l) : EReal) = u (ix2 ⟨504 + a.val, by omega⟩ l) := by
  unfold k0_pay24
  pointwise
  rfl

theorem tail_apply (u : FVec Ideal S512x512 .f32) (a : Fin 8) (l : Fin 512) : (k0_pay25 u (ix3 0 a l) : EReal) = u (ix2 ⟨504 + a.val, by omega⟩ l) := by
  unfold k0_pay25
  pointwise
  rfl

theorem gate0_apply (w : Vec Ideal S1024x1024 .bf16) (r : Fin 512) (l : Fin 1024) :
    (k0_pay26 x w (ix2 r l) : EReal) = Ideal.logistic (cols x w r l) := by
  unfold k0_pay26
  pointwise
  rfl

theorem gate1_apply (w : Vec Ideal S1024x1024 .bf16) (r : Fin 512) (l : Fin 1024) :
    (k0_pay2 x w (ix2 r l) : EReal) = Ideal.logistic (cols x w r l) := by
  unfold k0_pay2
  pointwise
  rfl

theorem gate2_apply (w : Vec Ideal S1024x1024 .bf16) (r : Fin 512) (l : Fin 1024) :
    (k0_pay3 x w (ix2 r l) : EReal) = Ideal.logistic (cols x w r l) := by
  unfold k0_pay3
  pointwise
  rfl

theorem branch_apply (g : FVec Ideal S512x1024 .f32) (y : FVec Ideal S512x512 .bf16) (w : Vec Ideal S512x1024 .bf16) (r : Fin 512) (l : Fin 1024) :
    (k0_pay1 g y (k0_pay28 w) (ix2 r l) : EReal) = g (ix2 r l) * ∑ j : Fin 512, (y (ix2 r j) : EReal) * w (ix2 j l) := by
  unfold k0_pay1 k0_pay28
  pointwise
  rfl

/-- The rows before: row `r - k` of the tile, or of the eight rows before the tile. -/
def past (u : FVec Ideal S512x512 .f32) (p : Vec Ideal S8x512 .f32) (k : Fin 8) (r l : Fin 512) : EReal :=
  if h : r.val < k.val then p (ix2 ⟨8 + r.val - k.val, by omega⟩ l) else u (ix2 ⟨r.val - k.val, by omega⟩ l)

theorem past_eq (u : FVec Ideal S512x512 .f32) (p : Vec Ideal S8x512 .f32) (k : Fin 8) (r l : Fin 512) :
    (if h : (8 + r.val + 520 - k.val) % 520 < 8 then (p (ix2 ⟨(8 + r.val + 520 - k.val) % 520, h⟩ l) : EReal)
      else u (ix2 ⟨(8 + r.val + 520 - k.val) % 520 - 8, by omega⟩ l)) = past u p k r l := by
  have hk := k.isLt
  have hr := r.isLt
  have e : (8 + r.val + 520 - k.val) % 520 = 8 + r.val - k.val := by omega
  unfold past
  by_cases h : r.val < k.val
  · rw [dif_pos (by omega), dif_pos h]
    exact congrArg (fun a => p (ix2 a l)) (Fin.ext e)
  · rw [dif_neg (by omega), dif_neg h]
    refine congrArg (fun a => u (ix2 a l)) (Fin.ext ?_)
    show (8 + r.val + 520 - k.val) % 520 - 8 = r.val - k.val
    omega

/-- The convolution along the rows, times its factor. -/
theorem conv_apply (u : FVec Ideal S512x512 .f32) (p : Vec Ideal S8x512 .f32) (cw : Vec Ideal S3x512 .f32) (w : Vec Ideal S1024x512 .bf16) (r l : Fin 512) :
    (k0_pay27 x u p cw w (ix2 r l) : EReal)
      = cols x w r l * ((past u p 2 r l * cw (ix2 0 l) + past u p 1 r l * cw (ix2 1 l)) + u (ix2 r l) * cw (ix2 2 l)) := by
  unfold k0_pay27
  pointwise
  rw [← past_eq, ← past_eq]
  rfl

end Cert.InProj
-- ==== Proof.InTile.lean ====
/-
  What one grid point of the input projections leaves in its blocks and in the eight rows it keeps for the next.
-/
module

public import proofs.«01_k».proof.Proof.InPay
public import proofs.«01_k».proof.Proof.Gen.Kernel2Ideal.Frame
public import Idealize.ShloMosaic.Lib.VecWindow
import all proofs.«01_k».proof.Proof.Gen.Kernel2Ideal.Frame.RunA
import all proofs.«01_k».proof.Proof.Gen.Kernel2Ideal.Frame.RunB

@[expose] public section

set_option maxRecDepth 16384

noncomputable section

namespace Cert.InProj

open Idealize.ShloMosaic hiding ix1 ix2 ix3 ix4
open Idealize.ShloMosaic.ValueIdx Idealize.ShloMosaic.TcCoe Cert.Layer Cert.Kernel2Ideal Cert.Kernel2Ideal.Gen

/-- A load from a buffer that holds `x`. -/
theorem load_eq {sig : RefSig} {κ : Kind} {sp : Space} {s : Shape} {e : EltTy} (M : Memref sig κ sp s e) (hM : M.IsWhole)
    (x : Vec Ideal s e) (r : Rect s) : M.view.readAt (Elt Ideal) r.toLoadRect (hM.unread x) = View.ld x r :=
  funext fun y => congrFun (hM.read_unread x) (r.idx y)

theorem load_whole {sig : RefSig} {κ : Kind} {sp : Space} {s : Shape} {e : EltTy} (M : Memref sig κ sp s e) (hM : M.IsWhole)
    (x : Vec Ideal s e) {off : Fin s.rank → ℕ} (inb : ∀ a, off a + s.size a ≤ s.size a) (h : ∀ a, off a = 0) :
    M.view.readAt (Elt Ideal) (Rect.unit off s.size inb).toLoadRect (hM.unread x) = x :=
  (load_eq M hM x _).trans (View.ld_unit_lit inb x h)

theorem unit_idx (y : S1x1x512x256.Idx) : y = ix4 (0 : Fin 1) (0 : Fin 1) (y 2) (y 3) := by
  funext a
  fin_cases a
  · exact (Subsingleton.elim (α := Fin 1) _ _)
  · exact (Subsingleton.elim (α := Fin 1) _ _)
  · rfl
  · rfl

theorem zero2 : ∀ a : Fin 2, (![0, 0] : Fin 2 → ℕ) a = 0 := by decide

/-- The block of normed queries. -/
def qBlk (p : FVec Ideal S512x512 .f32) (n : Vec Ideal S1x128 .f32) (i : S512x512.Idx) : EReal :=
  qn p n ⟨(i 0).val, (i 0).isLt⟩ ⟨(i 1).val / 128, by have : (i 1).val < 512 := (i 1).isLt; omega⟩ ⟨(i 1).val % 128, by omega⟩

theorem qBlk_at (p : FVec Ideal S512x512 .f32) (n : Vec Ideal S1x128 .f32) (i : S512x512.Idx) (r : Fin 512) (h : Fin 4) (d : Fin 128)
    (h0 : (i 0).val = r.val) (h1 : (i 1).val = 128 * h.val + d.val) : qBlk p n i = qn p n r h d := by
  unfold qBlk
  have hd := d.isLt
  congr 1 <;> apply Fin.ext
  · exact h0
  · show (i 1).val / 128 = h.val; omega
  · show (i 1).val % 128 = d.val; omega

/-- The two blocks of keys (`o = 0`) or values (`o = 512`) of 256 rows each. -/
def kvBlk (p : FVec Ideal S1024x512 .f32) (o : Fin 513) (i : S1x2x512x256.Idx) : EReal :=
  p (ix2 ⟨o.val + (i 2).val, by have : (i 2).val < 512 := (i 2).isLt; omega⟩
    ⟨256 * (i 1).val + (i 3).val, by have : (i 1).val < 2 := (i 1).isLt; have : (i 3).val < 256 := (i 3).isLt; omega⟩)

theorem kvBlk_at (p : FVec Ideal S1024x512 .f32) (o : Fin 513) (i : S1x2x512x256.Idx) (l : Fin 1024) (r : Fin 512)
    (h0 : o.val + (i 2).val = l.val) (h1 : 256 * (i 1).val + (i 3).val = r.val) : kvBlk p o i = p (ix2 l r) :=
  congrArg p (congrArg₂ (fun (a : Fin 1024) (b : Fin 512) => ix2 a b) (Fin.ext h0) (Fin.ext h1))

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6656 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S3x512 .f32) (harg6 : arg6.IsWhole) (arg7 : Memref sig .tc .vmem S1x128 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S1x8x512 .f32) (harg15 : arg15.IsWhole) (arg16 : Memref sig .tc .vmem S1x2x512x256 .bf16) (harg16 : arg16.IsWhole) (arg17 : Memref sig .tc .vmem S1x2x512x256 .bf16) (harg17 : arg17.IsWhole) (arg18 : Memref sig .tc .vmem S8x512 .f32) (harg18 : arg18.IsWhole)
  (x0 : Vec Ideal S512x1024 .f32) (x1 : Vec Ideal S1x1024 .f32) (x2 : Vec Ideal S1024x6656 .bf16) (x3 : Vec Ideal S1024x1024 .bf16) (x4 : Vec Ideal S512x1024 .bf16) (x5 : Vec Ideal S3x512 .f32) (x6 : Vec Ideal S1x128 .f32) (xs0 : Vec Ideal S8x512 .f32)

/-- The tile's gated inputs of the convolution. -/
def uTile : FVec Ideal S512x512 .f32 := k0_pay22 (k0_pay4 x0 x1) (View.ld x2 (Rect.unit (s := S1024x6656) ![0, 512] S1024x512.size inb_S1024x6656_S1024x512_0_512)) (View.ld x2 (Rect.unit (s := S1024x6656) ![0, 0] S1024x512.size inb_S1024x6656_S1024x512_0_0))

/-- The tile's branch after the convolution, with the eight rows before it. -/
def branchTile (p : Vec Ideal S8x512 .f32) : FVec Ideal S512x1024 .f32 :=
  k0_pay1 (k0_pay26 (k0_pay4 x0 x1) (View.ld x2 (Rect.unit (s := S1024x6656) ![0, 3584] S1024x1024.size inb_S1024x6656_S1024x1024_0_3584)))
    (k0_pay27 (k0_pay4 x0 x1) (uTile x0 x1 x2) p x5 (View.ld x2 (Rect.unit (s := S1024x6656) ![0, 1024] S1024x512.size inb_S1024x6656_S1024x512_0_1024))) (k0_pay28 x4)

/-- The tile's queries before the norm. -/
def qTile : FVec Ideal S512x512 .f32 := k0_pay14 (k0_pay4 x0 x1) (View.ld x2 (Rect.unit (s := S1024x6656) ![0, 3072] S1024x512.size inb_S1024x6656_S1024x512_0_3072))

theorem kept_zero : kernelRun0_A.sl.v146 (F := Ideal) c arg18 = (k0_pay23 (F := Ideal) : Vec Ideal S8x512 .f32) := by
  unfold kernelRun0_A.sl.v146 kernelRun0_A.sl.HS0_1
  exact View.readCov_full _ _ _ _ _

theorem normedA : kernelRun0_A.sl.r c arg1 harg1 arg2 harg2 x0 x1 = k0_pay4 x0 x1 := by
  unfold kernelRun0_A.sl.r
  rw [load_whole arg1 harg1 x0 _ zero2, load_whole arg2 harg2 x1 _ zero2]

theorem kvA : kernelRun0_A.sl.r_1 c arg1 harg1 arg2 harg2 arg4 harg4 x0 x1 x3 = k0_pay5 x0 x1 x3 := by
  unfold kernelRun0_A.sl.r_1
  rw [load_whole arg1 harg1 x0 _ zero2, load_whole arg2 harg2 x1 _ zero2, load_whole arg4 harg4 x3 _ zero2]

theorem uA : kernelRun0_A.sl.r_8 c arg1 harg1 arg2 harg2 arg3 harg3 x0 x1 x2 = uTile x0 x1 x2 := by
  unfold kernelRun0_A.sl.r_8 uTile
  rw [normedA, load_eq, load_eq]

theorem qA : kernelRun0_A.sl.r_3 c arg1 harg1 arg2 harg2 arg3 harg3 x0 x1 x2 = qTile x0 x1 x2 := by
  unfold kernelRun0_A.sl.r_3 qTile
  rw [normedA, load_eq]

theorem outA_7 (hc : cond0_0 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay6 x0 x1 x3 := by
  unfold out0_A_7 kernelRun0_A
  refine (View.read_writes_full VO0_7 _ _ _ []).trans ?_
  rw [load_whole arg1 harg1 x0 _ zero2, load_whole arg2 harg2 x1 _ zero2, load_whole arg4 harg4 x3 _ zero2]

theorem outA_8 (hc : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay7 x0 x1 x3 := by
  unfold out0_A_8 kernelRun0_A
  refine (View.read_writes_full VO0_8 _ _ _ []).trans ?_
  rw [load_whole arg1 harg1 x0 _ zero2, load_whole arg2 harg2 x1 _ zero2, load_whole arg4 harg4 x3 _ zero2]

theorem outA_9 (hc : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay13 (k0_pay4 x0 x1) (View.ld x2 (Rect.unit (s := S1024x6656) ![0, 1536] S1024x512.size inb_S1024x6656_S1024x512_0_1536)) := by
  unfold out0_A_9 kernelRun0_A
  refine (View.read_writes_full VO0_9 _ _ _ []).trans ?_
  rw [normedA, load_eq]

theorem outA_10 (hc : cond0_0 i) (y : S512x512.Idx) : (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 y : EReal) = qBlk (qTile x0 x1 x2) x6 y := by
  have h := cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 y
  unfold out0_A_10
  refine View.read_writes_apply_of_pieces (Val := Elt Ideal) VO0_10 VO0_10.junk (qBlk (qTile x0 x1 x2) x6) _ ?_ y h
  unfold kernelRun0_A
  intro pc hpc y
  simp only [List.mem_cons, List.not_mem_nil, or_false] at hpc
  have e7 := load_whole arg7 harg7 x6 inb_S1x128_S1x128_0_0 zero2
  rcases hpc with rfl | rfl | rfl | rfl
  · obtain ⟨r, l, rfl⟩ : ∃ (r : Fin 512) (l : Fin 128), y = ix2 r l := ⟨y 0, y 1, by funext a; fin_cases a <;> rfl⟩
    dsimp only
    rw [qA, e7]
    refine (head3_apply _ _ r l).trans (qBlk_at _ _ _ r 3 l ?_ ?_).symm
    · show 0 + 1 * r.val = r.val; omega
    · show 384 + 1 * l.val = 384 + l.val; omega
  · obtain ⟨r, l, rfl⟩ : ∃ (r : Fin 512) (l : Fin 128), y = ix2 r l := ⟨y 0, y 1, by funext a; fin_cases a <;> rfl⟩
    dsimp only
    unfold kernelRun0_A.sl.r_7
    rw [qA, e7]
    refine (head2_apply _ _ r l).trans (qBlk_at _ _ _ r 2 l ?_ ?_).symm
    · show 0 + 1 * r.val = r.val; omega
    · show 256 + 1 * l.val = 256 + l.val; omega
  · obtain ⟨r, l, rfl⟩ : ∃ (r : Fin 512) (l : Fin 128), y = ix2 r l := ⟨y 0, y 1, by funext a; fin_cases a <;> rfl⟩
    dsimp only
    rw [qA, e7]
    refine (head1_apply _ _ r l).trans (qBlk_at _ _ _ r 1 l ?_ ?_).symm
    · show 0 + 1 * r.val = r.val; omega
    · show 128 + 1 * l.val = 128 + l.val; omega
  · obtain ⟨r, l, rfl⟩ : ∃ (r : Fin 512) (l : Fin 128), y = ix2 r l := ⟨y 0, y 1, by funext a; fin_cases a <;> rfl⟩
    dsimp only
    unfold kernelRun0_A.sl.r_4 kernelRun0_A.sl.r_5 kernelRun0_A.sl.r_6 kernelRun0_A.sl.cst_40
    rw [normedA, e7, load_eq]
    refine (head0_apply _ _ _ r l).trans (qBlk_at _ _ _ r 0 l ?_ ?_).symm
    · show 0 + 1 * r.val = r.val; omega
    · show 0 + 1 * l.val = 0 + l.val; omega

theorem outA_11 (hc : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay2 (k0_pay4 x0 x1) (View.ld x2 (Rect.unit (s := S1024x6656) ![0, 4608] S1024x1024.size inb_S1024x6656_S1024x1024_0_4608)) := by
  unfold out0_A_11 kernelRun0_A
  refine (View.read_writes_full VO0_11 _ _ _ []).trans ?_
  rw [normedA]
  exact congrArg _ (load_eq arg3 harg3 x2 _)

theorem outA_12 (hc : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay3 (k0_pay4 x0 x1) (View.ld x2 (Rect.unit (s := S1024x6656) ![0, 5632] S1024x1024.size inb_S1024x6656_S1024x1024_0_5632)) := by
  unfold out0_A_12 kernelRun0_A
  refine (View.read_writes_full VO0_12 _ _ _ []).trans ?_
  rw [normedA]
  exact congrArg _ (load_eq arg3 harg3 x2 _)

theorem outA_13 (hc : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = branchTile x0 x1 x2 x4 x5 (k0_pay23 (F := Ideal)) := by
  unfold out0_A_13 kernelRun0_A
  refine (View.read_writes_full VO0_13 _ _ _ []).trans ?_
  unfold kernelRun0_A.sl.r_9 kernelRun0_A.sl.r_10 kernelRun0_A.sl.r_11 branchTile
  rw [normedA, uA, load_whole arg6 harg6 x5 _ zero2, load_whole arg5 harg5 x4 _ zero2]
  rw [kept_zero, load_eq, load_eq]

theorem outA_14 (hc : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay25 (uTile x0 x1 x2) := by
  unfold out0_A_14 kernelRun0_A
  refine (View.read_writes_full VO0_14 _ _ _ []).trans ?_
  rw [uA]

theorem outA_15 (hc : cond0_0 i) (y : S1x2x512x256.Idx) : (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 y : EReal) = kvBlk (k0_pay5 x0 x1 x3) 0 y := by
  have h := cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 y
  unfold out0_A_15
  refine View.read_writes_apply_of_pieces (Val := Elt Ideal) VO0_15 VO0_15.junk (kvBlk (k0_pay5 x0 x1 x3) 0) _ ?_ y h
  unfold kernelRun0_A
  intro pc hpc y
  simp only [List.mem_cons, List.not_mem_nil, or_false] at hpc
  rcases hpc with rfl | rfl
  · obtain ⟨l, r, rfl⟩ : ∃ (l : Fin 512) (r : Fin 256), y = ix4 (0 : Fin 1) (0 : Fin 1) l r := ⟨y 2, y 3, unit_idx y⟩
    dsimp only
    rw [kvA]
    refine (kb1_apply _ l r).trans (kvBlk_at _ _ _ _ _ ?_ ?_).symm
    · show 0 + (0 + 1 * l.val) = l.val; omega
    · show 256 * (1 + 1 * 0) + (0 + 1 * r.val) = 256 + r.val; omega
  · obtain ⟨l, r, rfl⟩ : ∃ (l : Fin 512) (r : Fin 256), y = ix4 (0 : Fin 1) (0 : Fin 1) l r := ⟨y 2, y 3, unit_idx y⟩
    dsimp only
    rw [load_whole arg1 harg1 x0 _ zero2, load_whole arg2 harg2 x1 _ zero2, load_whole arg4 harg4 x3 _ zero2]
    refine (kb0_apply _ _ _ l r).trans (kvBlk_at _ _ _ _ _ ?_ ?_).symm
    · show 0 + (0 + 1 * l.val) = l.val; omega
    · show 256 * (0 + 1 * 0) + (0 + 1 * r.val) = r.val; omega

theorem outA_16 (hc : cond0_0 i) (y : S1x2x512x256.Idx) : (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 y : EReal) = kvBlk (k0_pay5 x0 x1 x3) 512 y := by
  have h := cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 y
  unfold out0_A_16
  refine View.read_writes_apply_of_pieces (Val := Elt Ideal) VO0_16 VO0_16.junk (kvBlk (k0_pay5 x0 x1 x3) 512) _ ?_ y h
  unfold kernelRun0_A
  intro pc hpc y
  simp only [List.mem_cons, List.not_mem_nil, or_false] at hpc
  rcases hpc with rfl | rfl
  · obtain ⟨l, r, rfl⟩ : ∃ (l : Fin 512) (r : Fin 256), y = ix4 (0 : Fin 1) (0 : Fin 1) l r := ⟨y 2, y 3, unit_idx y⟩
    dsimp only
    rw [kvA]
    refine (vb1_apply _ l r).trans (kvBlk_at _ _ _ _ _ ?_ ?_).symm
    · show 512 + (0 + 1 * l.val) = 512 + l.val; omega
    · show 256 * (1 + 1 * 0) + (0 + 1 * r.val) = 256 + r.val; omega
  · obtain ⟨l, r, rfl⟩ : ∃ (l : Fin 512) (r : Fin 256), y = ix4 (0 : Fin 1) (0 : Fin 1) l r := ⟨y 2, y 3, unit_idx y⟩
    dsimp only
    unfold kernelRun0_A.sl.r_2
    rw [load_whole arg1 harg1 x0 _ zero2, load_whole arg2 harg2 x1 _ zero2, load_whole arg4 harg4 x3 _ zero2]
    refine (vb0_apply _ _ _ l r).trans (kvBlk_at _ _ _ _ _ ?_ ?_).symm
    · show 512 + (0 + 1 * l.val) = 512 + l.val; omega
    · show 256 * (0 + 1 * 0) + (0 + 1 * r.val) = r.val; omega

theorem keptA (hc : cond0_0 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 = k0_pay24 (uTile x0 x1 x2) := by
  unfold sout0_A_0 kernelRun0_A
  refine (View.read_writes_full VS0_0 _ _ _ _).trans ?_
  rw [uA]

theorem normedB : kernelRun0_B.sl.r c arg1 harg1 arg2 harg2 x0 x1 = k0_pay4 x0 x1 := by
  unfold kernelRun0_B.sl.r
  rw [load_whole arg1 harg1 x0 _ zero2, load_whole arg2 harg2 x1 _ zero2]

theorem kvB : kernelRun0_B.sl.r_1 c arg1 harg1 arg2 harg2 arg4 harg4 x0 x1 x3 = k0_pay5 x0 x1 x3 := by
  unfold kernelRun0_B.sl.r_1
  rw [load_whole arg1 harg1 x0 _ zero2, load_whole arg2 harg2 x1 _ zero2, load_whole arg4 harg4 x3 _ zero2]

theorem uB : kernelRun0_B.sl.r_8 c arg1 harg1 arg2 harg2 arg3 harg3 x0 x1 x2 = uTile x0 x1 x2 := by
  unfold kernelRun0_B.sl.r_8 uTile
  rw [normedB, load_eq, load_eq]

theorem qB : kernelRun0_B.sl.r_3 c arg1 harg1 arg2 harg2 arg3 harg3 x0 x1 x2 = qTile x0 x1 x2 := by
  unfold kernelRun0_B.sl.r_3 qTile
  rw [normedB, load_eq]

theorem outB_7 (hc : ¬cond0_0 i) : out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay6 x0 x1 x3 := by
  unfold out0_B_7 kernelRun0_B
  refine (View.read_writes_full VO0_7 _ _ _ []).trans ?_
  rw [load_whole arg1 harg1 x0 _ zero2, load_whole arg2 harg2 x1 _ zero2, load_whole arg4 harg4 x3 _ zero2]

theorem outB_8 (hc : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay7 x0 x1 x3 := by
  unfold out0_B_8 kernelRun0_B
  refine (View.read_writes_full VO0_8 _ _ _ []).trans ?_
  rw [load_whole arg1 harg1 x0 _ zero2, load_whole arg2 harg2 x1 _ zero2, load_whole arg4 harg4 x3 _ zero2]

theorem outB_9 (hc : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay13 (k0_pay4 x0 x1) (View.ld x2 (Rect.unit (s := S1024x6656) ![0, 1536] S1024x512.size inb_S1024x6656_S1024x512_0_1536)) := by
  unfold out0_B_9 kernelRun0_B
  refine (View.read_writes_full VO0_9 _ _ _ []).trans ?_
  rw [normedB, load_eq]

theorem outB_10 (hc : ¬cond0_0 i) (y : S512x512.Idx) : (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 y : EReal) = qBlk (qTile x0 x1 x2) x6 y := by
  have h := cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 y
  unfold out0_B_10
  refine View.read_writes_apply_of_pieces (Val := Elt Ideal) VO0_10 VO0_10.junk (qBlk (qTile x0 x1 x2) x6) _ ?_ y h
  unfold kernelRun0_B
  intro pc hpc y
  simp only [List.mem_cons, List.not_mem_nil, or_false] at hpc
  have e7 := load_whole arg7 harg7 x6 inb_S1x128_S1x128_0_0 zero2
  rcases hpc with rfl | rfl | rfl | rfl
  · obtain ⟨r, l, rfl⟩ : ∃ (r : Fin 512) (l : Fin 128), y = ix2 r l := ⟨y 0, y 1, by funext a; fin_cases a <;> rfl⟩
    dsimp only
    rw [qB, e7]
    refine (head3_apply _ _ r l).trans (qBlk_at _ _ _ r 3 l ?_ ?_).symm
    · show 0 + 1 * r.val = r.val; omega
    · show 384 + 1 * l.val = 384 + l.val; omega
  · obtain ⟨r, l, rfl⟩ : ∃ (r : Fin 512) (l : Fin 128), y = ix2 r l := ⟨y 0, y 1, by funext a; fin_cases a <;> rfl⟩
    dsimp only
    unfold kernelRun0_B.sl.r_7
    rw [qB, e7]
    refine (head2_apply _ _ r l).trans (qBlk_at _ _ _ r 2 l ?_ ?_).symm
    · show 0 + 1 * r.val = r.val; omega
    · show 256 + 1 * l.val = 256 + l.val; omega
  · obtain ⟨r, l, rfl⟩ : ∃ (r : Fin 512) (l : Fin 128), y = ix2 r l := ⟨y 0, y 1, by funext a; fin_cases a <;> rfl⟩
    dsimp only
    rw [qB, e7]
    refine (head1_apply _ _ r l).trans (qBlk_at _ _ _ r 1 l ?_ ?_).symm
    · show 0 + 1 * r.val = r.val; omega
    · show 128 + 1 * l.val = 128 + l.val; omega
  · obtain ⟨r, l, rfl⟩ : ∃ (r : Fin 512) (l : Fin 128), y = ix2 r l := ⟨y 0, y 1, by funext a; fin_cases a <;> rfl⟩
    dsimp only
    unfold kernelRun0_B.sl.r_4 kernelRun0_B.sl.r_5 kernelRun0_B.sl.r_6 kernelRun0_B.sl.cst_40
    rw [normedB, e7, load_eq]
    refine (head0_apply _ _ _ r l).trans (qBlk_at _ _ _ r 0 l ?_ ?_).symm
    · show 0 + 1 * r.val = r.val; omega
    · show 0 + 1 * l.val = 0 + l.val; omega

theorem outB_11 (hc : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay2 (k0_pay4 x0 x1) (View.ld x2 (Rect.unit (s := S1024x6656) ![0, 4608] S1024x1024.size inb_S1024x6656_S1024x1024_0_4608)) := by
  unfold out0_B_11 kernelRun0_B
  refine (View.read_writes_full VO0_11 _ _ _ []).trans ?_
  rw [normedB]
  exact congrArg _ (load_eq arg3 harg3 x2 _)

theorem outB_12 (hc : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay3 (k0_pay4 x0 x1) (View.ld x2 (Rect.unit (s := S1024x6656) ![0, 5632] S1024x1024.size inb_S1024x6656_S1024x1024_0_5632)) := by
  unfold out0_B_12 kernelRun0_B
  refine (View.read_writes_full VO0_12 _ _ _ []).trans ?_
  rw [normedB]
  exact congrArg _ (load_eq arg3 harg3 x2 _)

theorem outB_13 (hc : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = branchTile x0 x1 x2 x4 x5 xs0 := by
  unfold out0_B_13 kernelRun0_B
  refine (View.read_writes_full VO0_13 _ _ _ []).trans ?_
  unfold kernelRun0_B.sl.r_9 kernelRun0_B.sl.r_10 kernelRun0_B.sl.r_11 branchTile
  rw [normedB, uB, load_whole arg6 harg6 x5 _ zero2, load_whole arg5 harg5 x4 _ zero2]
  rw [load_whole arg18 harg18 xs0 _ zero2, load_eq, load_eq]

theorem outB_14 (hc : ¬cond0_0 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay25 (uTile x0 x1 x2) := by
  unfold out0_B_14 kernelRun0_B
  refine (View.read_writes_full VO0_14 _ _ _ []).trans ?_
  rw [uB]

theorem outB_15 (hc : ¬cond0_0 i) (y : S1x2x512x256.Idx) : (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 y : EReal) = kvBlk (k0_pay5 x0 x1 x3) 0 y := by
  have h := cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 y
  unfold out0_B_15
  refine View.read_writes_apply_of_pieces (Val := Elt Ideal) VO0_15 VO0_15.junk (kvBlk (k0_pay5 x0 x1 x3) 0) _ ?_ y h
  unfold kernelRun0_B
  intro pc hpc y
  simp only [List.mem_cons, List.not_mem_nil, or_false] at hpc
  rcases hpc with rfl | rfl
  · obtain ⟨l, r, rfl⟩ : ∃ (l : Fin 512) (r : Fin 256), y = ix4 (0 : Fin 1) (0 : Fin 1) l r := ⟨y 2, y 3, unit_idx y⟩
    dsimp only
    rw [kvB]
    refine (kb1_apply _ l r).trans (kvBlk_at _ _ _ _ _ ?_ ?_).symm
    · show 0 + (0 + 1 * l.val) = l.val; omega
    · show 256 * (1 + 1 * 0) + (0 + 1 * r.val) = 256 + r.val; omega
  · obtain ⟨l, r, rfl⟩ : ∃ (l : Fin 512) (r : Fin 256), y = ix4 (0 : Fin 1) (0 : Fin 1) l r := ⟨y 2, y 3, unit_idx y⟩
    dsimp only
    rw [load_whole arg1 harg1 x0 _ zero2, load_whole arg2 harg2 x1 _ zero2, load_whole arg4 harg4 x3 _ zero2]
    refine (kb0_apply _ _ _ l r).trans (kvBlk_at _ _ _ _ _ ?_ ?_).symm
    · show 0 + (0 + 1 * l.val) = l.val; omega
    · show 256 * (0 + 1 * 0) + (0 + 1 * r.val) = r.val; omega

theorem outB_16 (hc : ¬cond0_0 i) (y : S1x2x512x256.Idx) : (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 y : EReal) = kvBlk (k0_pay5 x0 x1 x3) 512 y := by
  have h := cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 y
  unfold out0_B_16
  refine View.read_writes_apply_of_pieces (Val := Elt Ideal) VO0_16 VO0_16.junk (kvBlk (k0_pay5 x0 x1 x3) 512) _ ?_ y h
  unfold kernelRun0_B
  intro pc hpc y
  simp only [List.mem_cons, List.not_mem_nil, or_false] at hpc
  rcases hpc with rfl | rfl
  · obtain ⟨l, r, rfl⟩ : ∃ (l : Fin 512) (r : Fin 256), y = ix4 (0 : Fin 1) (0 : Fin 1) l r := ⟨y 2, y 3, unit_idx y⟩
    dsimp only
    rw [kvB]
    refine (vb1_apply _ l r).trans (kvBlk_at _ _ _ _ _ ?_ ?_).symm
    · show 512 + (0 + 1 * l.val) = 512 + l.val; omega
    · show 256 * (1 + 1 * 0) + (0 + 1 * r.val) = 256 + r.val; omega
  · obtain ⟨l, r, rfl⟩ : ∃ (l : Fin 512) (r : Fin 256), y = ix4 (0 : Fin 1) (0 : Fin 1) l r := ⟨y 2, y 3, unit_idx y⟩
    dsimp only
    unfold kernelRun0_B.sl.r_2
    rw [load_whole arg1 harg1 x0 _ zero2, load_whole arg2 harg2 x1 _ zero2, load_whole arg4 harg4 x3 _ zero2]
    refine (vb0_apply _ _ _ l r).trans (kvBlk_at _ _ _ _ _ ?_ ?_).symm
    · show 512 + (0 + 1 * l.val) = 512 + l.val; omega
    · show 256 * (0 + 1 * 0) + (0 + 1 * r.val) = r.val; omega

theorem keptB (hc : ¬cond0_0 i) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 xs0 = k0_pay24 (uTile x0 x1 x2) := by
  unfold sout0_B_0 kernelRun0_B
  refine (View.read_writes_full VS0_0 _ _ _ _).trans ?_
  rw [uB]

end Cert.InProj
-- ==== Proof.InOuts.lean ====
/-
  What each grid point of the input projections leaves in its blocks, from the blocks it reads.
-/
module

public import proofs.«01_k».proof.Proof.InTile
public import proofs.«01_k».proof.Proof.Gen.Kernel2Ideal.Value

@[expose] public section

set_option maxRecDepth 16384

noncomputable section

namespace Cert.InProj

open Idealize.ShloMosaic hiding ix1 ix2 ix3 ix4
open Idealize.ShloMosaic.ValueIdx Idealize.ShloMosaic.TcCoe Cert.Layer Cert.Kernel2Ideal Cert.Kernel2Ideal.Gen

variable (m : (ℓ : Loc nD τ sig) → Buf (Elt Ideal) ℓ) (c : Dev nD)

/-- The grid point before. -/
def prev (t : Fin grid0.N) : Fin grid0.N := ⟨t.val - 1, by have := t.isLt; omega⟩

theorem at_7 (t : Fin grid0.N) : (outsAt0 m c t.val t.isLt).1 = k0_pay6 (iblk m c 0 t) (iblk m c 1 t) (iblk m c 3 t) := by
  by_cases h : t.val % 8 = 0
  · rw [outsAt0_A m c t h]
    dsimp only
    exact outA_7 _ _ _ _ _ _ _ _ _ _ _ _ _ _ _ _ _ _ _ _ _ _ _ _ _ _ _ _ _ _ _ _ _ _ _ _ _ _ _ _ _ _ _ _ _ _
  · rw [outsAt0_B m c t h]
    dsimp only
    exact outB_7 _ _ _ _ _ _ _ _ _ _ _ _ _ _ _ _ _ _ _ _ _ _ _ _ _ _ _ _ _ _ _ _ _ _ _ _ _ _ _ _ _ _ _ _ _ _ _

theorem at_8 (t : Fin grid0.N) : (outsAt0 m c t.val t.isLt).2.1 = k0_pay7 (iblk m c 0 t) (iblk m c 1 t) (iblk m c 3 t) := by
  by_cases h : t.val % 8 = 0
  · rw [outsAt0_A m c t h]
    dsimp only
    exact outA_8 _ _ _ _ _ _ _ _ _ _ _ _ _ _ _ _ _ _ _ _ _ _ _ _ _ _ _ _ _ _ _ _ _ _ _ _ _ _ _ _ _ _ _ _ _ _
  · rw [outsAt0_B m c t h]
    dsimp only
    exact outB_8 _ _ _ _ _ _ _ _ _ _ _ _ _ _ _ _ _ _ _ _ _ _ _ _ _ _ _ _ _ _ _ _ _ _ _ _ _ _ _ _ _ _ _ _ _ _ _

theorem at_9 (t : Fin grid0.N) : (outsAt0 m c t.val t.isLt).2.2.1 = k0_pay13 (k0_pay4 (iblk m c 0 t) (iblk m c 1 t)) (View.ld (iblk m c 2 t) (Rect.unit (s := S1024x6656) ![0, 1536] S1024x512.size inb_S1024x6656_S1024x512_0_1536)) := by
  by_cases h : t.val % 8 = 0
  · rw [outsAt0_A m c t h]
    dsimp only
    exact outA_9 _ _ _ _ _ _ _ _ _ _ _ _ _ _ _ _ _ _ _ _ _ _ _ _ _ _ _ _ _ _ _ _ _ _ _ _ _ _ _ _ _ _ _ _ _ _
  · rw [outsAt0_B m c t h]
    dsimp only
    exact outB_9 _ _ _ _ _ _ _ _ _ _ _ _ _ _ _ _ _ _ _ _ _ _ _ _ _ _ _ _ _ _ _ _ _ _ _ _ _ _ _ _ _ _ _ _ _ _ _

theorem at_10 (t : Fin grid0.N) (y : S512x512.Idx) : ((outsAt0 m c t.val t.isLt).2.2.2.1 y : EReal) = qBlk (qTile (iblk m c 0 t) (iblk m c 1 t) (iblk m c 2 t)) (iblk m c 6 t) y := by
  by_cases h : t.val % 8 = 0
  · rw [outsAt0_A m c t h]
    dsimp only
    exact outA_10 _ _ _ _ _ _ _ _ _ _ _ _ _ _ _ _ _ _ _ _ _ _ _ _ _ _ _ _ _ _ _ _ _ _ _ _ _ _ _ _ _ _ _ _ _ _ _
  · rw [outsAt0_B m c t h]
    dsimp only
    exact outB_10 _ _ _ _ _ _ _ _ _ _ _ _ _ _ _ _ _ _ _ _ _ _ _ _ _ _ _ _ _ _ _ _ _ _ _ _ _ _ _ _ _ _ _ _ _ _ _ _

theorem at_11 (t : Fin grid0.N) : (outsAt0 m c t.val t.isLt).2.2.2.2.1 = k0_pay2 (k0_pay4 (iblk m c 0 t) (iblk m c 1 t)) (View.ld (iblk m c 2 t) (Rect.unit (s := S1024x6656) ![0, 4608] S1024x1024.size inb_S1024x6656_S1024x1024_0_4608)) := by
  by_cases h : t.val % 8 = 0
  · rw [outsAt0_A m c t h]
    dsimp only
    exact outA_11 _ _ _ _ _ _ _ _ _ _ _ _ _ _ _ _ _ _ _ _ _ _ _ _ _ _ _ _ _ _ _ _ _ _ _ _ _ _ _ _ _ _ _ _ _ _
  · rw [outsAt0_B m c t h]
    dsimp only
    exact outB_11 _ _ _ _ _ _ _ _ _ _ _ _ _ _ _ _ _ _ _ _ _ _ _ _ _ _ _ _ _ _ _ _ _ _ _ _ _ _ _ _ _ _ _ _ _ _ _

theorem at_12 (t : Fin grid0.N) : (outsAt0 m c t.val t.isLt).2.2.2.2.2.1 = k0_pay3 (k0_pay4 (iblk m c 0 t) (iblk m c 1 t)) (View.ld (iblk m c 2 t) (Rect.unit (s := S1024x6656) ![0, 5632] S1024x1024.size inb_S1024x6656_S1024x1024_0_5632)) := by
  by_cases h : t.val % 8 = 0
  · rw [outsAt0_A m c t h]
    dsimp only
    exact outA_12 _ _ _ _ _ _ _ _ _ _ _ _ _ _ _ _ _ _ _ _ _ _ _ _ _ _ _ _ _ _ _ _ _ _ _ _ _ _ _ _ _ _ _ _ _ _
  · rw [outsAt0_B m c t h]
    dsimp only
    exact outB_12 _ _ _ _ _ _ _ _ _ _ _ _ _ _ _ _ _ _ _ _ _ _ _ _ _ _ _ _ _ _ _ _ _ _ _ _ _ _ _ _ _ _ _ _ _ _ _

theorem at_14 (t : Fin grid0.N) : (outsAt0 m c t.val t.isLt).2.2.2.2.2.2.2.1 = k0_pay25 (uTile (iblk m c 0 t) (iblk m c 1 t) (iblk m c 2 t)) := by
  by_cases h : t.val % 8 = 0
  · rw [outsAt0_A m c t h]
    dsimp only
    exact outA_14 _ _ _ _ _ _ _ _ _ _ _ _ _ _ _ _ _ _ _ _ _ _ _ _ _ _ _ _ _ _ _ _ _ _ _ _ _ _ _ _ _ _ _ _ _ _
  · rw [outsAt0_B m c t h]
    dsimp only
    exact outB_14 _ _ _ _ _ _ _ _ _ _ _ _ _ _ _ _ _ _ _ _ _ _ _ _ _ _ _ _ _ _ _ _ _ _ _ _ _ _ _ _ _ _ _ _ _ _ _

theorem at_15 (t : Fin grid0.N) (y : S1x2x512x256.Idx) : ((outsAt0 m c t.val t.isLt).2.2.2.2.2.2.2.2.1 y : EReal) = kvBlk (k0_pay5 (iblk m c 0 t) (iblk m c 1 t) (iblk m c 3 t)) 0 y := by
  by_cases h : t.val % 8 = 0
  · rw [outsAt0_A m c t h]
    dsimp only
    exact outA_15 _ _ _ _ _ _ _ _ _ _ _ _ _ _ _ _ _ _ _ _ _ _ _ _ _ _ _ _ _ _ _ _ _ _ _ _ _ _ _ _ _ _ _ _ _ _ _
  · rw [outsAt0_B m c t h]
    dsimp only
    exact outB_15 _ _ _ _ _ _ _ _ _ _ _ _ _ _ _ _ _ _ _ _ _ _ _ _ _ _ _ _ _ _ _ _ _ _ _ _ _ _ _ _ _ _ _ _ _ _ _ _

theorem at_16 (t : Fin grid0.N) (y : S1x2x512x256.Idx) : ((outsAt0 m c t.val t.isLt).2.2.2.2.2.2.2.2.2.1 y : EReal) = kvBlk (k0_pay5 (iblk m c 0 t) (iblk m c 1 t) (iblk m c 3 t)) 512 y := by
  by_cases h : t.val % 8 = 0
  · rw [outsAt0_A m c t h]
    dsimp only
    exact outA_16 _ _ _ _ _ _ _ _ _ _ _ _ _ _ _ _ _ _ _ _ _ _ _ _ _ _ _ _ _ _ _ _ _ _ _ _ _ _ _ _ _ _ _ _ _ _ _
  · rw [outsAt0_B m c t h]
    dsimp only
    exact outB_16 _ _ _ _ _ _ _ _ _ _ _ _ _ _ _ _ _ _ _ _ _ _ _ _ _ _ _ _ _ _ _ _ _ _ _ _ _ _ _ _ _ _ _ _ _ _ _ _

theorem last (t : Fin grid0.N) : (outsAt0 m c t.val t.isLt).2.2.2.2.2.2.2.2.2.2 = k0_pay24 (uTile (iblk m c 0 t) (iblk m c 1 t) (iblk m c 2 t)) := by
  by_cases h : t.val % 8 = 0
  · rw [outsAt0_A m c t h]
    dsimp only
    exact keptA _ _ _ _ _ _ _ _ _ _ _ _ _ _ _ _ _ _ _ _ _ _ _ _ _ _ _ _ _ _ _ _ _ _ _ _ _ _ _ _ _ _ _ _ _ _
  · rw [outsAt0_B m c t h]
    dsimp only
    exact keptB _ _ _ _ _ _ _ _ _ _ _ _ _ _ _ _ _ _ _ _ _ _ _ _ _ _ _ _ _ _ _ _ _ _ _ _ _ _ _ _ _ _ _ _ _ _ _

/-- The eight rows of inputs before the tile: zeros before a sequence's first tile, else the last of the tile before. -/
def carry (t : Fin grid0.N) : Vec Ideal S8x512 .f32 :=
  if t.val % 8 = 0 then k0_pay23 (F := Ideal) else
    k0_pay24 (uTile (iblk m c 0 (prev t)) (iblk m c 1 (prev t)) (iblk m c 2 (prev t)))

theorem at_13 (t : Fin grid0.N) : (outsAt0 m c t.val t.isLt).2.2.2.2.2.2.1 = branchTile (iblk m c 0 t) (iblk m c 1 t) (iblk m c 2 t) (iblk m c 4 t) (iblk m c 5 t) (carry m c t) := by
  by_cases h : t.val % 8 = 0
  · rw [outsAt0_A m c t h, carry, if_pos h]
    dsimp only
    exact outA_13 _ _ _ _ _ _ _ _ _ _ _ _ _ _ _ _ _ _ _ _ _ _ _ _ _ _ _ _ _ _ _ _ _ _ _ _ _ _ _ _ _ _ _ _ _ _
  · rw [outsAt0_B m c t h, carry, if_neg h, ← last m c (prev t)]
    dsimp only
    exact outB_13 _ _ _ _ _ _ _ _ _ _ _ _ _ _ _ _ _ _ _ _ _ _ _ _ _ _ _ _ _ _ _ _ _ _ _ _ _ _ _ _ _ _ _ _ _ _ _

end Cert.InProj
-- ==== Proof.InHost.lean ====
/-
  The blocks that a grid point of the input projections reads, from the argument arrays.
-/
module

public import proofs.«01_k».proof.Proof.Rows
public import proofs.«01_k».proof.Proof.InOuts
public import Idealize.ShloMosaic.Lib.Pipeline.ValueKit

@[expose] public section

set_option maxRecDepth 16384

noncomputable section

namespace Cert.InProj

open Idealize.ShloMosaic hiding ix1 ix2 ix3 ix4
open Idealize.ShloMosaic.ValueIdx Idealize.ShloMosaic.TcCoe Idealize.ShloMosaic.StableHlo Cert.Layer Cert.Kernel2Ideal Cert.Kernel2Ideal.Gen

variable (m : (ℓ : Loc nD τ sig) → Buf (Elt Ideal) ℓ) (c : Dev nD)

/-- The argument arrays. -/
def xArr : S4x4096x1024.Idx → EReal := m ((c : Thread nD τ).loc main_arg0)
def gArr : S1024.Idx → EReal := m ((c : Thread nD τ).loc main_arg1)
def wArr : S1024x6656.Idx → EReal := m ((c : Thread nD τ).loc main_arg2)
def nArr : S128.Idx → EReal := m ((c : Thread nD τ).loc main_arg3)
def cwArr : S3x512.Idx → EReal := m ((c : Thread nD τ).loc main_arg4)
def wbArr : S3x512x1024.Idx → EReal := m ((c : Thread nD τ).loc main_arg5)

theorem V_x (b : Fin 4) (s : Fin 4096) (k : Fin 1024) :
    (V m c main_v5 (ix2 ⟨4096 * b.val + s.val, by omega⟩ k) : EReal) = xArr m c (ix3 b s k) := by
  unfold_abbrev_sides
  after_results
  show (shapeCast S16384x1024 (xArr m c) shapeCasts_S4x4096x1024_S16384x1024 _ : EReal) = _
  refine shapeCast_apply (xArr m c) _ _ (ix3 b s k) ?_
  rw [Shape.rowMajor_val_two, Shape.rowMajor_val_three]
  show (b.val * 4096 + s.val) * 1024 + k.val = (4096 * b.val + s.val) * 1024 + k.val
  omega

theorem V_g (k : Fin 1024) : (V m c main_v8 (ix2 0 k) : EReal) = gArr m c (ix1 k) := by
  unfold_abbrev_sides
  after_results
  show (shapeCast S1x1024 (gArr m c) shapeCasts_S1024_S1x1024 _ : EReal) = _
  refine shapeCast_apply (gArr m c) _ _ (ix1 k) ?_
  rw [Shape.rowMajor_val_two, Shape.rowMajor_val_one]
  show k.val = 0 * 1024 + k.val
  omega

theorem V_w (k : Fin 1024) (l : Fin 6656) : (V m c main_v0 (ix2 k l) : EReal) = wArr m c (ix2 k l) := by
  unfold_abbrev_sides
  after_results
  rfl

theorem V_kv (k l : Fin 1024) : (V m c main_v3 (ix2 l k) : EReal) = wArr m c (ix2 k ⟨2048 + l.val, by omega⟩) := by
  unfold_abbrev_sides
  after_results
  show (transpose S1024x1024 [1, 0] (extractStridedSlice S1024x1024 ![0, 2048] (wArr m c) slices_S1024x6656_S1024x1024_0_2048)
    transposes_S1024x1024_S1024x1024_1_0 (ix2 l k) : EReal) = _
  pointwise
  rfl

theorem V_wb (j : Fin 512) (l : Fin 1024) : (V m c main_v7 (ix2 j l) : EReal) = wbArr m c (ix3 0 j l) := by
  unfold_abbrev_sides
  after_results
  show (shapeCast S512x1024 (extractStridedSlice S1x512x1024 ![0, 0, 0] (wbArr m c) slices_S3x512x1024_S1x512x1024_0_0_0)
    shapeCasts_S1x512x1024_S512x1024 (ix2 j l) : EReal) = _
  pointwise
  rfl

theorem V_cw (a : Fin 3) (l : Fin 512) : (V m c main_arg4 (ix2 a l) : EReal) = cwArr m c (ix2 a l) := by
  unfold_abbrev_sides
  after_results
  rfl

theorem V_n (d : Fin 128) : (V m c main_v9 (ix2 0 d) : EReal) = nArr m c (ix1 d) := by
  unfold_abbrev_sides
  after_results
  show (shapeCast S1x128 (nArr m c) shapeCasts_S128_S1x128 _ : EReal) = _
  refine shapeCast_apply (nArr m c) _ _ (ix1 d) ?_
  rw [Shape.rowMajor_val_two, Shape.rowMajor_val_one]
  show d.val = 0 * 128 + d.val
  omega

/-- The blocks' places. -/
theorem index_in : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] := by decide +kernel

theorem index_out : ∀ t : Fin grid0.N, win0_7.index t = ![t.val / 8, 0, t.val % 8] ∧ win0_8.index t = ![t.val / 8, 0, t.val % 8]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val / 8, 0, 0] ∧ win0_15.index t = ![t.val / 8, t.val % 8, 0, 0]
    ∧ win0_16.index t = ![t.val / 8, t.val % 8, 0, 0] := by decide +kernel

theorem points : grid0.N = 32 := by decide

/-- The sequence and the position of a tile's row. -/
def batch (t : Fin grid0.N) : Fin 4 := ⟨t.val / 8, by have := t.isLt; have := points; omega⟩
def place (t : Fin grid0.N) (r : Fin 512) : Fin 4096 := ⟨512 * (t.val % 8) + r.val, by omega⟩

theorem blk_x (t : Fin grid0.N) (r : Fin 512) (k : Fin 1024) :
    (iblk m c 0 t (ix2 r k) : EReal) = xArr m c (ix3 (batch t) (place t r) k) := by
  rw [← V_x]
  show V m c main_v5 _ = _
  blk_ext [(index_in t).1]
  show t.val * 512 + r.val = 4096 * (t.val / 8) + (512 * (t.val % 8) + r.val)
  omega

theorem blk_g (t : Fin grid0.N) (k : Fin 1024) : (iblk m c 1 t (ix2 0 k) : EReal) = gArr m c (ix1 k) := by
  rw [← V_g]
  show V m c main_v8 _ = _
  blk_ext [(index_in t).2.1]

theorem blk_w (t : Fin grid0.N) (k : Fin 1024) (l : Fin 6656) : (iblk m c 2 t (ix2 k l) : EReal) = wArr m c (ix2 k l) := by
  rw [← V_w]
  show V m c main_v0 _ = _
  blk_ext [(index_in t).2.2.1]

theorem blk_kv (t : Fin grid0.N) (k l : Fin 1024) : (iblk m c 3 t (ix2 l k) : EReal) = wArr m c (ix2 k ⟨2048 + l.val, by omega⟩) := by
  rw [← V_kv]
  show V m c main_v3 _ = _
  blk_ext [(index_in t).2.2.2.1]

theorem blk_wb (t : Fin grid0.N) (j : Fin 512) (l : Fin 1024) : (iblk m c 4 t (ix2 j l) : EReal) = wbArr m c (ix3 0 j l) := by
  rw [← V_wb]
  show V m c main_v7 _ = _
  blk_ext [(index_in t).2.2.2.2.1]

theorem blk_cw (t : Fin grid0.N) (a : Fin 3) (l : Fin 512) : (iblk m c 5 t (ix2 a l) : EReal) = cwArr m c (ix2 a l) := by
  rw [← V_cw]
  show V m c main_arg4 _ = _
  blk_ext [(index_in t).2.2.2.2.2.1]

theorem blk_n (t : Fin grid0.N) (d : Fin 128) : (iblk m c 6 t (ix2 0 d) : EReal) = nArr m c (ix1 d) := by
  rw [← V_n]
  show V m c main_v9 _ = _
  blk_ext [(index_in t).2.2.2.2.2.2]

/-- A row of the argument. -/
def xrow (b : Fin 4) (s : Fin 4096) (k : Fin 1024) : EReal := xArr m c (ix3 b s k)

/-- A tile's row of inputs. -/
abbrev trow (t : Fin grid0.N) (r : Fin 512) : Fin 1024 → EReal := xrow m c (batch t) (place t r)

theorem normed_blk (t : Fin grid0.N) (r : Fin 512) (k : Fin 1024) :
    (k0_pay4 (iblk m c 0 t) (iblk m c 1 t) (ix2 r k) : EReal) = nrm wide (trow m c t r) k * gArr m c (ix1 k) := by
  rw [normed_apply, blk_g]
  exact congrArg (fun f => nrm wide f k * gArr m c (ix1 k)) (funext fun j => blk_x m c t r j)

/-- A column of a tile's product with the weights' columns from `o` on. -/
theorem cols_blk {n o : ℕ} (ho : o + n ≤ 6656) (t : Fin grid0.N) (v : (⟨2, ![1024, n]⟩ : Shape).Idx → EReal)
    (hv : ∀ (k : Fin 1024) (l : Fin n), v (ix2 k l) = iblk m c 2 t (ix2 k ⟨o + l.val, by omega⟩)) (r : Fin 512) (l : Fin n) :
    cols (k0_pay4 (iblk m c 0 t) (iblk m c 1 t)) v r l = prow (trow m c t r) (gArr m c) (wArr m c) ⟨o + l.val, by omega⟩ := by
  unfold cols prow proj
  refine Finset.sum_congr rfl fun k _ => ?_
  rw [normed_blk, hv, blk_w]

theorem kv_blk (t : Fin grid0.N) (l : Fin 1024) (r : Fin 512) :
    (k0_pay5 (iblk m c 0 t) (iblk m c 1 t) (iblk m c 3 t) (ix2 l r) : EReal)
      = prow (trow m c t r) (gArr m c) (wArr m c) ⟨2048 + l.val, by omega⟩ := by
  rw [kv_apply]
  unfold prow
  congr 1 <;> funext k
  · exact blk_x m c t r k
  · exact blk_g m c t k
  · exact blk_kv m c t k l

theorem part512 {o : ℕ} (w : Vec Ideal S1024x6656 .bf16) (inb : ∀ a, (![0, o] : Fin 2 → ℕ) a + S1024x512.size a ≤ S1024x6656.size a)
    (k : Fin 1024) (l : Fin 512) (h : o + l.val < 6656) :
    View.ld w (Rect.unit (s := S1024x6656) ![0, o] S1024x512.size inb) (ix2 k l) = w (ix2 k ⟨o + l.val, h⟩) :=
  View.ld_unit_apply_of _ _ _ _ _ _ fun a => by
    fin_cases a
    · show k.val = 0 + k.val; omega
    · show o + l.val = o + l.val; rfl

theorem part1024 {o : ℕ} (w : Vec Ideal S1024x6656 .bf16) (inb : ∀ a, (![0, o] : Fin 2 → ℕ) a + S1024x1024.size a ≤ S1024x6656.size a)
    (k : Fin 1024) (l : Fin 1024) (h : o + l.val < 6656) :
    View.ld w (Rect.unit (s := S1024x6656) ![0, o] S1024x1024.size inb) (ix2 k l) = w (ix2 k ⟨o + l.val, h⟩) :=
  View.ld_unit_apply_of _ _ _ _ _ _ fun a => by
    fin_cases a
    · show k.val = 0 + k.val; omega
    · show o + l.val = o + l.val; rfl

theorem u_blk (t : Fin grid0.N) (r l : Fin 512) :
    (uTile (iblk m c 0 t) (iblk m c 1 t) (iblk m c 2 t) (ix2 r l) : EReal) = urow (trow m c t r) (gArr m c) (wArr m c) l := by
  unfold uTile urow
  rw [u_apply, cols_blk m c (o := 512) (by omega) t _ (fun k l => part512 _ _ k l _), cols_blk m c (o := 0) (by omega) t _ (fun k l => part512 _ _ k l _)]

theorem q_blk (t : Fin grid0.N) (r l : Fin 512) :
    (qTile (iblk m c 0 t) (iblk m c 1 t) (iblk m c 2 t) (ix2 r l) : EReal)
      = prow (trow m c t r) (gArr m c) (wArr m c) ⟨3072 + l.val, by omega⟩ := by
  unfold qTile
  rw [qx_apply, cols_blk m c (o := 3072) (by omega) t _ (fun k l => part512 _ _ k l _)]

end Cert.InProj
-- ==== Proof.InArr.lean ====
/-
  What the input projections of the prompt leave in their ten arrays.
-/
module

public import proofs.«01_k».proof.Proof.InHost

@[expose] public section

set_option maxRecDepth 16384

noncomputable section

namespace Cert.InProj

open Idealize.ShloMosaic hiding ix1 ix2 ix3 ix4
open Idealize.ShloMosaic.ValueIdx Cert.Layer

section Result

/-- Four sequences of 4096 rows as one array of rows, as columns, and in blocks of 256 columns. -/
def rows {n : ℕ} (f : Fin 4 → Fin 4096 → Fin n → EReal) (i : (⟨2, ![16384, n]⟩ : Shape).Idx) : EReal :=
  f ⟨(i 0).val / 4096, by have : (i 0).val < 16384 := (i 0).isLt; omega⟩ ⟨(i 0).val % 4096, by omega⟩ ⟨(i 1).val, (i 1).isLt⟩

def columns (f : Fin 4 → Fin 4096 → Fin 512 → EReal) (i : (⟨3, ![4, 512, 4096]⟩ : Shape).Idx) : EReal :=
  f ⟨(i 0).val, (i 0).isLt⟩ ⟨(i 2).val, (i 2).isLt⟩ ⟨(i 1).val, (i 1).isLt⟩

def blocks (f : Fin 4 → Fin 4096 → Fin 512 → EReal) (i : (⟨4, ![4, 16, 512, 256]⟩ : Shape).Idx) : EReal :=
  f ⟨(i 0).val, (i 0).isLt⟩ ⟨256 * (i 1).val + (i 3).val, by have : (i 1).val < 16 := (i 1).isLt; have : (i 3).val < 256 := (i 3).isLt; omega⟩
    ⟨(i 2).val, (i 2).isLt⟩

/-- The last eight rows of each sequence. -/
def lastRows (f : Fin 4 → Fin 4096 → Fin 512 → EReal) (i : (⟨3, ![4, 8, 512]⟩ : Shape).Idx) : EReal :=
  f ⟨(i 0).val, (i 0).isLt⟩ ⟨4088 + (i 1).val, by have : (i 1).val < 8 := (i 1).isLt; omega⟩ ⟨(i 2).val, (i 2).isLt⟩

theorem rows_at {n : ℕ} (f : Fin 4 → Fin 4096 → Fin n → EReal) (i : (⟨2, ![16384, n]⟩ : Shape).Idx) (b : Fin 4) (s : Fin 4096)
    (l : Fin n) (h0 : (i 0).val = 4096 * b.val + s.val) (h1 : (i 1).val = l.val) : rows f i = f b s l := by
  have hs := s.isLt
  unfold rows
  congr 1
  · exact Fin.ext (show (i 0).val / 4096 = b.val by omega)
  · exact Fin.ext (show (i 0).val % 4096 = s.val by omega)
  · exact Fin.ext h1

theorem columns_at (f : Fin 4 → Fin 4096 → Fin 512 → EReal) (i : (⟨3, ![4, 512, 4096]⟩ : Shape).Idx) (b : Fin 4) (s : Fin 4096)
    (l : Fin 512) (h0 : (i 0).val = b.val) (h2 : (i 2).val = s.val) (h1 : (i 1).val = l.val) : columns f i = f b s l := by
  unfold columns
  congr 1
  · exact Fin.ext h0
  · exact Fin.ext h2
  · exact Fin.ext h1

theorem blocks_at (f : Fin 4 → Fin 4096 → Fin 512 → EReal) (i : (⟨4, ![4, 16, 512, 256]⟩ : Shape).Idx) (b : Fin 4) (s : Fin 4096)
    (l : Fin 512) (h0 : (i 0).val = b.val) (h2 : 256 * (i 1).val + (i 3).val = s.val) (h1 : (i 2).val = l.val) : blocks f i = f b s l := by
  unfold blocks
  congr 1
  · exact Fin.ext h0
  · exact Fin.ext h2
  · exact Fin.ext h1

theorem lastRows_at (f : Fin 4 → Fin 4096 → Fin 512 → EReal) (i : (⟨3, ![4, 8, 512]⟩ : Shape).Idx) (b : Fin 4) (s : Fin 4096)
    (l : Fin 512) (h0 : (i 0).val = b.val) (h2 : 4088 + (i 1).val = s.val) (h1 : (i 2).val = l.val) : lastRows f i = f b s l := by
  unfold lastRows
  congr 1
  · exact Fin.ext h0
  · exact Fin.ext h2
  · exact Fin.ext h1

variable (x : (⟨3, ![4, 4096, 1024]⟩ : Shape).Idx → EReal) (g : (⟨1, ![1024]⟩ : Shape).Idx → EReal)
  (w : (⟨2, ![1024, 6656]⟩ : Shape).Idx → EReal) (n : (⟨1, ![128]⟩ : Shape).Idx → EReal)
  (cw : (⟨2, ![3, 512]⟩ : Shape).Idx → EReal) (wb : (⟨3, ![3, 512, 1024]⟩ : Shape).Idx → EReal)

/-- One row of the argument. -/
def xr (b : Fin 4) (s : Fin 4096) (k : Fin 1024) : EReal := x (ix3 b s k)

/-- The convolution's inputs `d` rows back: zeros before the sequence's start. -/
def back (d : ℕ) (b : Fin 4) (s : Fin 4096) (l : Fin 512) : EReal :=
  if s.val < d then 0 else urow (xr x b ⟨s.val - d, by omega⟩) g w l

/-- The keys, the values, the queries, the memory's queries, two gates, the gated branch and the convolution's inputs of a row. -/
def fK (b : Fin 4) (s : Fin 4096) (l : Fin 512) : EReal := prow (xr x b s) g w ⟨2048 + l.val, by omega⟩
def fV (b : Fin 4) (s : Fin 4096) (l : Fin 512) : EReal := prow (xr x b s) g w ⟨2560 + l.val, by omega⟩
def fQ (b : Fin 4) (s : Fin 4096) (l : Fin 512) : EReal := qrow (xr x b s) g w l
def fX (b : Fin 4) (s : Fin 4096) (l : Fin 512) : EReal := qxrow (xr x b s) g w n ⟨l.val / 128, by omega⟩ ⟨l.val % 128, by omega⟩
def fG1 (b : Fin 4) (s : Fin 4096) (l : Fin 1024) : EReal := gate1row (xr x b s) g w l
def fG2 (b : Fin 4) (s : Fin 4096) (l : Fin 1024) : EReal := gate2row (xr x b s) g w l
def fM (b : Fin 4) (s : Fin 4096) (l : Fin 1024) : EReal := branchrow (xr x b s) g w cw wb (back x g w 2 b s) (back x g w 1 b s) l
def fU (b : Fin 4) (s : Fin 4096) (l : Fin 512) : EReal := urow (xr x b s) g w l

theorem fX_at (b : Fin 4) (s : Fin 4096) (l : Fin 512) (h : Fin 4) (d : Fin 128) (hl : l.val = 128 * h.val + d.val) :
    fX x g w n b s l = qxrow (xr x b s) g w n h d := by
  have hd := d.isLt
  unfold fX
  congr 1 <;> apply Fin.ext
  · show l.val / 128 = h.val; omega
  · show l.val % 128 = d.val; omega

end Result

open Cert.Kernel2Ideal Cert.Kernel2Ideal.Gen

variable (m : (ℓ : Loc nD τ sig) → Buf (Elt Ideal) ℓ) (c : Dev nD)

/-- The inputs `k` rows before a tile's row, found in the tile or in the rows kept from the tile before. -/
theorem past_blk (t : Fin grid0.N) (k : Fin 8) (r l : Fin 512) :
    past (uTile (iblk m c 0 t) (iblk m c 1 t) (iblk m c 2 t)) (carry m c t) k r l
      = back (xArr m c) (gArr m c) (wArr m c) k.val (batch t) (place t r) l := by
  have hk := k.isLt
  have hr := r.isLt
  have ht := t.isLt
  have hp := points
  have epl : (place t r).val = 512 * (t.val % 8) + r.val := rfl
  unfold past back
  split
  · rename_i h
    unfold carry
    split
    · rename_i h0
      rw [zero_apply, if_pos (by rw [epl]; omega)]
    · rename_i h0
      rw [last_apply, u_blk, if_neg (by rw [epl]; omega)]
      have e1 : batch (prev t) = batch t := Fin.ext (show (t.val - 1) / 8 = t.val / 8 by omega)
      have e2 : ∀ (q : Fin 512) (h : (place t r).val - k.val < 4096), q.val = 512 + r.val - k.val → place (prev t) q = ⟨(place t r).val - k.val, h⟩ := fun q h hq =>
        Fin.ext (show 512 * ((t.val - 1) % 8) + q.val = 512 * (t.val % 8) + r.val - k.val by omega)
      unfold trow
      rw [e1, e2 _ (by omega) (show 504 + (8 + r.val - k.val) = 512 + r.val - k.val by omega)]
      rfl
  · rename_i h
    rw [u_blk, if_neg (by rw [epl]; omega)]
    have e2 : ∀ (q : Fin 512) (h : (place t r).val - k.val < 4096), q.val = r.val - k.val → place t q = ⟨(place t r).val - k.val, h⟩ := fun q h hq =>
        Fin.ext (show 512 * (t.val % 8) + q.val = 512 * (t.val % 8) + r.val - k.val by omega)
    unfold trow
    rw [e2 _ (by omega) rfl]
    rfl

theorem branch_blk (t : Fin grid0.N) (r : Fin 512) (l : Fin 1024) :
    (branchTile (iblk m c 0 t) (iblk m c 1 t) (iblk m c 2 t) (iblk m c 4 t) (iblk m c 5 t) (carry m c t) (ix2 r l) : EReal)
      = fM (xArr m c) (gArr m c) (wArr m c) (cwArr m c) (wbArr m c) (batch t) (place t r) l := by
  unfold branchTile fM branchrow gate0row
  rw [branch_apply, gate0_apply, cols_blk m c (o := 3584) (by omega) t _ (fun k l => part1024 _ _ k l _)]
  refine congrArg₂ (· * ·) rfl (Finset.sum_congr rfl fun j _ => ?_)
  rw [conv_apply, cols_blk m c (o := 1024) (by omega) t _ (fun k l => part512 _ _ k l _), past_blk, past_blk, u_blk, blk_cw, blk_cw, blk_cw, blk_wb]
  rfl

theorem kt_arr : (dats m 0 c).arrAt 7 (cfgs 0).N = columns (fK (xArr m c) (gArr m c) (wArr m c)) := by
  refine (dats m 0 c).arrAt_eq_of_covers 7 _ (by decide +kernel) fun t hf y => ?_
  obtain ⟨l, r, rfl⟩ : ∃ (l r : Fin 512), y = ix3 (0 : Fin 1) l r := ⟨y 1, y 2, by funext a; fin_cases a; exact (Subsingleton.elim (α := Fin 1) _ _); all_goals rfl⟩
  rw [columns_at _ _ (batch t) (place t r) l
    (by blk_simp [(index_out t).1]; rfl)
    (by blk_simp [(index_out t).1]; show t.val % 8 * 512 + r.val = 512 * (t.val % 8) + r.val; omega)
    (by blk_simp [(index_out t).1])]
  blk_simp
  rw [after0_7, at_7]
  refine (kt_apply _ _ _ l r).trans ((kv_blk m c t _ r).trans ?_)
  rfl

theorem vt_arr : (dats m 0 c).arrAt 8 (cfgs 0).N = columns (fV (xArr m c) (gArr m c) (wArr m c)) := by
  refine (dats m 0 c).arrAt_eq_of_covers 8 _ (by decide +kernel) fun t hf y => ?_
  obtain ⟨l, r, rfl⟩ : ∃ (l r : Fin 512), y = ix3 (0 : Fin 1) l r := ⟨y 1, y 2, by funext a; fin_cases a; exact (Subsingleton.elim (α := Fin 1) _ _); all_goals rfl⟩
  rw [columns_at _ _ (batch t) (place t r) l
    (by blk_simp [(index_out t).2.1]; rfl)
    (by blk_simp [(index_out t).2.1]; show t.val % 8 * 512 + r.val = 512 * (t.val % 8) + r.val; omega)
    (by blk_simp [(index_out t).2.1])]
  blk_simp
  rw [after0_8, at_8]
  refine (vt_apply _ _ _ l r).trans ((kv_blk m c t _ r).trans ?_)
  refine congrArg (prow _ _ _) (Fin.ext ?_)
  show 2048 + (512 + l.val) = 2560 + l.val
  omega

theorem q_arr : (dats m 0 c).arrAt 9 (cfgs 0).N = rows (fQ (xArr m c) (gArr m c) (wArr m c)) := by
  refine (dats m 0 c).arrAt_eq_of_covers 9 _ (by decide +kernel) fun t hf y => ?_
  obtain ⟨r, l, rfl⟩ : ∃ (r l : Fin 512), y = ix2 r l := ⟨y 0, y 1, by funext a; fin_cases a <;> rfl⟩
  rw [rows_at _ _ (batch t) (place t r) l
    (by blk_simp [(index_out t).2.2.1]; show t.val * 512 + r.val = 4096 * (t.val / 8) + (512 * (t.val % 8) + r.val); omega)
    (by blk_simp [(index_out t).2.2.1])]
  blk_simp
  rw [after0_9, at_9]
  refine (q_apply _ _ r l).trans ?_
  rw [cols_blk m c (o := 1536) (by omega) t _ (fun k l => part512 _ _ k l _)]
  rfl

theorem qx_arr : (dats m 0 c).arrAt 10 (cfgs 0).N = rows (fX (xArr m c) (gArr m c) (wArr m c) (nArr m c)) := by
  refine (dats m 0 c).arrAt_eq_of_covers 10 _ (by decide +kernel) fun t hf y => ?_
  obtain ⟨r, l, rfl⟩ : ∃ (r l : Fin 512), y = ix2 r l := ⟨y 0, y 1, by funext a; fin_cases a <;> rfl⟩
  have hl := l.isLt
  rw [rows_at _ _ (batch t) (place t r) l
    (by blk_simp [(index_out t).2.2.2.1]; show t.val * 512 + r.val = 4096 * (t.val / 8) + (512 * (t.val % 8) + r.val); omega)
    (by blk_simp [(index_out t).2.2.2.1])]
  blk_simp
  rw [after0_10]
  refine (at_10 m c t _).trans ?_
  have hd : l.val = 128 * (l.val / 128) + l.val % 128 := by omega
  rw [fX_at _ _ _ _ _ _ _ ⟨l.val / 128, by omega⟩ ⟨l.val % 128, by omega⟩ hd,
    qBlk_at _ _ _ r ⟨l.val / 128, by omega⟩ ⟨l.val % 128, by omega⟩ rfl hd]
  unfold qn qxrow
  simp only [q_blk]
  rw [blk_n]
  rfl

theorem g1_arr : (dats m 0 c).arrAt 11 (cfgs 0).N = rows (fG1 (xArr m c) (gArr m c) (wArr m c)) := by
  refine (dats m 0 c).arrAt_eq_of_covers 11 _ (by decide +kernel) fun t hf y => ?_
  obtain ⟨r, l, rfl⟩ : ∃ (r : Fin 512) (l : Fin 1024), y = ix2 r l := ⟨y 0, y 1, by funext a; fin_cases a <;> rfl⟩
  rw [rows_at _ _ (batch t) (place t r) l
    (by blk_simp [(index_out t).2.2.2.2.1]; show t.val * 512 + r.val = 4096 * (t.val / 8) + (512 * (t.val % 8) + r.val); omega)
    (by blk_simp [(index_out t).2.2.2.2.1])]
  blk_simp
  rw [after0_11, at_11]
  refine (gate1_apply _ _ r l).trans ?_
  rw [cols_blk m c (o := 4608) (by omega) t _ (fun k l => part1024 _ _ k l _)]
  rfl

theorem g2_arr : (dats m 0 c).arrAt 12 (cfgs 0).N = rows (fG2 (xArr m c) (gArr m c) (wArr m c)) := by
  refine (dats m 0 c).arrAt_eq_of_covers 12 _ (by decide +kernel) fun t hf y => ?_
  obtain ⟨r, l, rfl⟩ : ∃ (r : Fin 512) (l : Fin 1024), y = ix2 r l := ⟨y 0, y 1, by funext a; fin_cases a <;> rfl⟩
  rw [rows_at _ _ (batch t) (place t r) l
    (by blk_simp [(index_out t).2.2.2.2.2.1]; show t.val * 512 + r.val = 4096 * (t.val / 8) + (512 * (t.val % 8) + r.val); omega)
    (by blk_simp [(index_out t).2.2.2.2.2.1])]
  blk_simp
  rw [after0_12, at_12]
  refine (gate2_apply _ _ r l).trans ?_
  rw [cols_blk m c (o := 5632) (by omega) t _ (fun k l => part1024 _ _ k l _)]
  rfl

theorem mp_arr : (dats m 0 c).arrAt 13 (cfgs 0).N = rows (fM (xArr m c) (gArr m c) (wArr m c) (cwArr m c) (wbArr m c)) := by
  refine (dats m 0 c).arrAt_eq_of_covers 13 _ (by decide +kernel) fun t hf y => ?_
  obtain ⟨r, l, rfl⟩ : ∃ (r : Fin 512) (l : Fin 1024), y = ix2 r l := ⟨y 0, y 1, by funext a; fin_cases a <;> rfl⟩
  rw [rows_at _ _ (batch t) (place t r) l
    (by blk_simp [(index_out t).2.2.2.2.2.2.1]; show t.val * 512 + r.val = 4096 * (t.val / 8) + (512 * (t.val % 8) + r.val); omega)
    (by blk_simp [(index_out t).2.2.2.2.2.2.1])]
  blk_simp
  rw [after0_13, at_13]
  exact branch_blk m c t r l

theorem tail_arr : (dats m 0 c).arrAt 14 (cfgs 0).N = lastRows (fU (xArr m c) (gArr m c) (wArr m c)) := by
  refine (dats m 0 c).arrAt_eq_of_covers 14 _ (by decide +kernel) fun t hf y => ?_
  have h7 : t.val % 8 = 7 := (flush0_14 t).1 hf
  obtain ⟨a, l, rfl⟩ : ∃ (a : Fin 8) (l : Fin 512), y = ix3 (0 : Fin 1) a l := ⟨y 1, y 2, by funext a; fin_cases a; exact (Subsingleton.elim (α := Fin 1) _ _); all_goals rfl⟩
  rw [lastRows_at _ _ (batch t) (place t ⟨504 + a.val, by omega⟩) l
    (by blk_simp [(index_out t).2.2.2.2.2.2.2.1]; rfl)
    (by blk_simp [(index_out t).2.2.2.2.2.2.2.1]; show 4088 + a.val = 512 * (t.val % 8) + (504 + a.val); omega)
    (by blk_simp [(index_out t).2.2.2.2.2.2.2.1])]
  blk_simp
  rw [after0_14, at_14]
  exact (tail_apply _ a l).trans (u_blk m c t _ l)

theorem ktb_arr : (dats m 0 c).arrAt 15 (cfgs 0).N = blocks (fK (xArr m c) (gArr m c) (wArr m c)) := by
  refine (dats m 0 c).arrAt_eq_of_covers 15 _ (by decide +kernel) fun t hf y => ?_
  obtain ⟨j, l, r, rfl⟩ : ∃ (j : Fin 2) (l : Fin 512) (r : Fin 256), y = ix4 (0 : Fin 1) j l r := ⟨y 1, y 2, y 3, by funext a; fin_cases a; exact (Subsingleton.elim (α := Fin 1) _ _); all_goals rfl⟩
  rw [blocks_at _ _ (batch t) (place t ⟨256 * j.val + r.val, by omega⟩) l
    (by blk_simp [(index_out t).2.2.2.2.2.2.2.2.1]; rfl)
    (by blk_simp [(index_out t).2.2.2.2.2.2.2.2.1]; show 256 * (t.val % 8 * 2 + j.val) + r.val = 512 * (t.val % 8) + (256 * j.val + r.val); omega)
    (by blk_simp [(index_out t).2.2.2.2.2.2.2.2.1])]
  blk_simp
  rw [after0_15]
  refine (at_15 m c t _).trans ?_
  rw [kvBlk_at _ _ _ ⟨l.val, by omega⟩ ⟨256 * j.val + r.val, by omega⟩ (by show 0 + l.val = l.val; omega) rfl, kv_blk]
  rfl

theorem vtb_arr : (dats m 0 c).arrAt 16 (cfgs 0).N = blocks (fV (xArr m c) (gArr m c) (wArr m c)) := by
  refine (dats m 0 c).arrAt_eq_of_covers 16 _ (by decide +kernel) fun t hf y => ?_
  obtain ⟨j, l, r, rfl⟩ : ∃ (j : Fin 2) (l : Fin 512) (r : Fin 256), y = ix4 (0 : Fin 1) j l r := ⟨y 1, y 2, y 3, by funext a; fin_cases a; exact (Subsingleton.elim (α := Fin 1) _ _); all_goals rfl⟩
  rw [blocks_at _ _ (batch t) (place t ⟨256 * j.val + r.val, by omega⟩) l
    (by blk_simp [(index_out t).2.2.2.2.2.2.2.2.2]; rfl)
    (by blk_simp [(index_out t).2.2.2.2.2.2.2.2.2]; show 256 * (t.val % 8 * 2 + j.val) + r.val = 512 * (t.val % 8) + (256 * j.val + r.val); omega)
    (by blk_simp [(index_out t).2.2.2.2.2.2.2.2.2])]
  blk_simp
  rw [after0_16]
  refine (at_16 m c t _).trans ?_
  rw [kvBlk_at _ _ _ ⟨512 + l.val, by omega⟩ ⟨256 * j.val + r.val, by omega⟩ rfl rfl, kv_blk]
  refine congrArg (prow _ _ _) (Fin.ext ?_)
  show 2048 + (512 + l.val) = 2560 + l.val
  omega

end Cert.InProj
-- ==== Proof.InRef.lean ====
/-
  The prompt's input projections as the reference computes them: the stages, each read at an index.
-/
module

public import proofs.«01_k».proof.Proof.InArr
public import proofs.«01_k».proof.Proof.Gen.Reference2Ideal.Run
public import Idealize.ShloMosaic.Lib.IdealHost
public import Idealize.ShloMosaic.Lib.KernelVsHost

@[expose] public section

set_option maxRecDepth 16384

noncomputable section

namespace Cert.InProj.Ref

open Idealize.ShloMosaic hiding ix1 ix2 ix3 ix4
open Idealize.ShloMosaic.ValueIdx Idealize.ShloMosaic.TcCoe Cert.Layer Cert.Reference2Ideal Cert.Reference2Ideal.Gen Cert.Reference2Ideal.Value

/-- The normed rows. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- Their product with the weights. -/
def prod (x : FVec Ideal S4x4096x1024 .f32) (g : FVec Ideal S1024 .f32) (w : FVec Ideal S1024x6656 .f32) : FVec Ideal S4x4096x6656 .f32 :=
  Host.dotGeneral dot_S4x4096x1024_S1024x6656_S4x4096x6656_2_0_01_1_n_n none (normed x g) w

theorem prod_apply (x : FVec Ideal S4x4096x1024 .f32) (g : FVec Ideal S1024 .f32) (w : FVec Ideal S1024x6656 .f32) (b : Fin 4) (s : Fin 4096) (l : Fin 6656) :
    (prod x g w (ix3 b s l) : EReal) = prow (xr x b s) g w l := by
  unfold prod normed
  pointwise
  rfl

variable (p : FVec Ideal S4x4096x6656 .f32)

/-- 512 of the product's columns, from column `o` on. -/
abbrev part (o : ℕ) (h : S4x4096x6656.Slices ![0, 0, o] S4x4096x512) : FVec Ideal S4x4096x512 .f32 := extractStridedSlice S4x4096x512 ![0, 0, o] p h

theorem part_apply (o : ℕ) (h : S4x4096x6656.Slices ![0, 0, o] S4x4096x512) (b : Fin 4) (s : Fin 4096) (l : Fin 512) (ho : o + l.val < 6656) :
    (part p o h (ix3 b s l) : EReal) = p (ix3 b s ⟨o + l.val, ho⟩) :=
  extractStridedSlice_apply _ _ _ _ (ix3 b s ⟨o + l.val, ho⟩) (fun a => by fin_cases a <;> simp)

/-- The rows of the four sequences in one array. -/
theorem flat_apply {n : ℕ} {α : Type} (y : (⟨3, ![4, 4096, n]⟩ : Shape).Idx → α) (h) (b : Fin 4) (s : Fin 4096) (l : Fin n) :
    shapeCast (⟨2, ![16384, n]⟩ : Shape) y h (ix2 ⟨4096 * b.val + s.val, by omega⟩ l) = y (ix3 b s l) := by
  refine shapeCast_apply _ _ _ (ix3 b s l) ?_
  rw [Shape.rowMajor_val_two, Shape.rowMajor_val_three]
  show (b.val * 4096 + s.val) * n + l.val = (4096 * b.val + s.val) * n + l.val
  rw [Nat.mul_comm b.val]

/-- The keys' or the values' columns. -/
def turned (y : FVec Ideal S4x4096x512 .f32) : FVec Ideal S4x512x4096 .f32 := transpose S4x512x4096 [0, 2, 1] y transposes_S4x4096x512_S4x512x4096_0_2_1

theorem turned_apply (y : FVec Ideal S4x4096x512 .f32) (b : Fin 4) (s : Fin 4096) (l : Fin 512) : (turned y (ix3 b l s) : EReal) = y (ix3 b s l) := by
  unfold turned
  pointwise
  rfl

/-- The keys or the values in blocks of 256 positions. -/
def blocked (y : FVec Ideal S4x4096x512 .f32) : FVec Ideal S4x16x512x256 .bf16 :=
  truncf .bf16 (transpose S4x16x512x256 [0, 1, 3, 2] (shapeCast S4x16x256x512 y shapeCasts_S4x4096x512_S4x16x256x512) transposes_S4x16x256x512_S4x16x512x256_0_1_3_2) bitsLt_bf16_f32

theorem blocked_apply (y : FVec Ideal S4x4096x512 .f32) (b : Fin 4) (j : Fin 16) (l : Fin 512) (r : Fin 256) :
    (blocked y (ix4 b j l r) : EReal) = y (ix3 b ⟨256 * j.val + r.val, by omega⟩ l) := by
  unfold blocked
  show (transpose S4x16x512x256 [0, 1, 3, 2] (shapeCast S4x16x256x512 y shapeCasts_S4x4096x512_S4x16x256x512) transposes_S4x16x256x512_S4x16x512x256_0_1_3_2 (ix4 b j l r) : EReal) = _
  refine (transpose_apply _ _ _ _ (ix4 b j r l) (fun a => by fin_cases a <;> rfl)).trans ?_
  refine shapeCast_apply _ _ _ (ix3 b ⟨256 * j.val + r.val, by omega⟩ l) ?_
  rw [Shape.rowMajor_val_three, Shape.rowMajor_val_four]
  show (b.val * 4096 + (256 * j.val + r.val)) * 512 + l.val = ((b.val * 16 + j.val) * 256 + r.val) * 512 + l.val
  omega

/-- The queries, scaled. -/
def queries (y : FVec Ideal S4x4096x512 .f32) : FVec Ideal S16384x512 .bf16 :=
  truncf .bf16 (shapeCast S16384x512 (mulf y (broadcastInDim S4x4096x512 ![] bcast_S_S4x4096x512 (constant S_ .f32 0x3E000000#32))) shapeCasts_S4x4096x512_S16384x512) bitsLt_bf16_f32

theorem queries_apply (y : FVec Ideal S4x4096x512 .f32) (b : Fin 4) (s : Fin 4096) (l : Fin 512) :
    (queries y (ix2 ⟨4096 * b.val + s.val, by omega⟩ l) : EReal) = y (ix3 b s l) * Ideal.ofBits .f32 0x3E000000#32 := by
  unfold queries
  show (shapeCast S16384x512 (mulf y (broadcastInDim S4x4096x512 ![] bcast_S_S4x4096x512 (constant S_ .f32 0x3E000000#32))) shapeCasts_S4x4096x512_S16384x512 _ : EReal) = _
  exact flat_apply (n := 512) _ shapeCasts_S4x4096x512_S16384x512 b s l

/-- The heads' columns, normed. -/
def heads (y : FVec Ideal S4x4096x4x128 .f32) (n : FVec Ideal S128 .f32) : FVec Ideal S4x4096x4x128 .f32 :=
  mulf (mulf y (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf y y) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 n))

theorem heads_apply (y : FVec Ideal S4x4096x4x128 .f32) (n : FVec Ideal S128 .f32) (b : Fin 4) (s : Fin 4096) (h : Fin 4) (d : Fin 128) :
    (heads y n (ix4 b s h d) : EReal) = nrm narrow (fun j => (y (ix4 b s h j) : EReal)) d * n (ix1 d) := by
  unfold heads
  pointwise
  rfl

/-- The memory's queries. -/
def memQueries (y : FVec Ideal S4x4096x512 .f32) (n : FVec Ideal S128 .f32) : FVec Ideal S16384x512 .bf16 :=
  truncf .bf16 (shapeCast S16384x512 (heads (shapeCast S4x4096x4x128 y shapeCasts_S4x4096x512_S4x4096x4x128) n) shapeCasts_S4x4096x4x128_S16384x512) bitsLt_bf16_f32

theorem memQueries_apply (y : FVec Ideal S4x4096x512 .f32) (n : FVec Ideal S128 .f32) (b : Fin 4) (s : Fin 4096) (h : Fin 4) (d : Fin 128) (l : Fin 512)
    (hl : l.val = 128 * h.val + d.val) :
    (memQueries y n (ix2 ⟨4096 * b.val + s.val, by omega⟩ l) : EReal)
      = nrm narrow (fun j : Fin 128 => (y (ix3 b s ⟨128 * h.val + j.val, by omega⟩) : EReal)) d * n (ix1 d) := by
  unfold memQueries
  show (shapeCast S16384x512 (heads (shapeCast S4x4096x4x128 y shapeCasts_S4x4096x512_S4x4096x4x128) n) shapeCasts_S4x4096x4x128_S16384x512 _ : EReal) = _
  refine (shapeCast_apply _ shapeCasts_S4x4096x4x128_S16384x512 _ (ix4 b s h d) ?_).trans ?_
  · rw [Shape.rowMajor_val_two, Shape.rowMajor_val_four]
    show ((b.val * 4096 + s.val) * 4 + h.val) * 128 + d.val = (4096 * b.val + s.val) * 512 + l.val
    omega
  · rw [heads_apply]
    refine congrArg (· * _) (congrFun (congrArg (nrm narrow) (funext fun j => ?_)) d)
    refine shapeCast_apply _ _ _ (ix3 b s ⟨128 * h.val + j.val, by omega⟩) ?_
    rw [Shape.rowMajor_val_three, Shape.rowMajor_val_four]
    show (b.val * 4096 + s.val) * 512 + (128 * h.val + j.val) = ((b.val * 4096 + s.val) * 4 + h.val) * 128 + j.val
    omega

/-- The gates of the three branches. -/
def gates : FVec Ideal S4x4096x3x1024 .f32 :=
  Host.divf (broadcastInDim S4x4096x3x1024 ![] bcast_S_S4x4096x3x1024 (constant S_ .f32 0x3F800000#32)) (addf (broadcastInDim S4x4096x3x1024 ![] bcast_S_S4x4096x3x1024 (constant S_ .f32 0x3F800000#32)) (Host.exp (Host.negf (shapeCast S4x4096x3x1024 (extractStridedSlice S4x4096x3072 ![0, 0, 3584] p slices_S4x4096x6656_S4x4096x3072_0_0_3584) shapeCasts_S4x4096x3072_S4x4096x3x1024))))

theorem gates_apply (b : Fin 4) (s : Fin 4096) (j : Fin 3) (l : Fin 1024) :
    (gates p (ix4 b s j l) : EReal) = Ideal.logistic (p (ix3 b s ⟨3584 + (1024 * j.val + l.val), by omega⟩)) := by
  unfold gates
  show Ideal.div (Ideal.ofBits .f32 0x3F800000#32) (Ideal.ofBits .f32 0x3F800000#32 + Ideal.exp (-(shapeCast S4x4096x3x1024 (extractStridedSlice S4x4096x3072 ![0, 0, 3584] p slices_S4x4096x6656_S4x4096x3072_0_0_3584) shapeCasts_S4x4096x3072_S4x4096x3x1024 (ix4 b s j l) : EReal))) = _
  rw [Ideal.ofBits_one_f32, shapeCast_apply _ _ _ (ix3 b s (⟨1024 * j.val + l.val, by omega⟩ : Fin 3072))]
  · rw [extractStridedSlice_apply _ _ _ _ (ix3 b s ⟨3584 + (1024 * j.val + l.val), by omega⟩) (fun a => by fin_cases a <;> simp)]
    rfl
  · rw [Shape.rowMajor_val_three, Shape.rowMajor_val_four]
    show (b.val * 4096 + s.val) * 3072 + (1024 * j.val + l.val) = ((b.val * 4096 + s.val) * 3 + j.val) * 1024 + l.val
    omega

/-- One branch's gates. -/
def gate (j : ℕ) (h : S4x4096x3x1024.Slices ![0, 0, j, 0] S4x4096x1x1024) : FVec Ideal S4x4096x1024 .f32 :=
  shapeCast S4x4096x1024 (extractStridedSlice S4x4096x1x1024 ![0, 0, j, 0] (gates p) h) shapeCasts_S4x4096x1x1024_S4x4096x1024

theorem gate_apply (j : ℕ) (h) (hj : j < 3) (b : Fin 4) (s : Fin 4096) (l : Fin 1024) :
    (gate p j h (ix3 b s l) : EReal) = Ideal.logistic (p (ix3 b s ⟨3584 + (1024 * j + l.val), by omega⟩)) := by
  unfold gate
  rw [shapeCast_apply _ _ _ (ix4 b s (0 : Fin 1) l)]
  · rw [extractStridedSlice_apply _ _ _ _ (ix4 b s ⟨j, hj⟩ l) (fun a => by fin_cases a <;> simp), gates_apply]
  · rw [Shape.rowMajor_val_three, Shape.rowMajor_val_four]
    show ((b.val * 4096 + s.val) * 1 + 0) * 1024 + l.val = (b.val * 4096 + s.val) * 1024 + l.val
    omega

/-- The inputs of the convolution. -/
def inputs : FVec Ideal S4x4096x512 .f32 :=
  mulf (part p 512 slices_S4x4096x6656_S4x4096x512_0_0_512) (part p 0 slices_S4x4096x6656_S4x4096x512_0_0_0)

theorem inputs_apply (b : Fin 4) (s : Fin 4096) (l : Fin 512) :
    (inputs p (ix3 b s l) : EReal) = p (ix3 b s ⟨512 + l.val, by omega⟩) * p (ix3 b s ⟨0 + l.val, by omega⟩) :=
  congrArg₂ (fun a b : EReal => a * b) (part_apply p 512 _ b s l _) (part_apply p 0 _ b s l _)

variable (u : FVec Ideal S4x4096x512 .f32)

/-- Two rows of zeros before each sequence. -/
def padded : FVec Ideal S4x4098x512 .f32 :=
  pad S4x4098x512 ![0, 2, 0] ![0, 0, 0] ![0, 0, 0] u (sitofp .f32 (constantI S_ 32 0#32)) pads_S4x4096x512_S4x4098x512_000_200_000 h_S_

/-- The rows `2 - d` back. -/
def shifted (d : ℕ) (h : S4x4098x512.Slices ![0, d, 0] S4x4096x512) : FVec Ideal S4x4096x512 .f32 := extractStridedSlice S4x4096x512 ![0, d, 0] (padded u) h

theorem shifted_apply (d : ℕ) (h) (hd : d ≤ 2) (b : Fin 4) (s : Fin 4096) (l : Fin 512) :
    (shifted u d h (ix3 b s l) : EReal) = if s.val < 2 - d then 0 else u (ix3 b ⟨s.val - (2 - d), by omega⟩ l) := by
  unfold shifted
  rw [extractStridedSlice_apply _ _ _ _ (ix3 b (⟨d + s.val, by omega⟩ : Fin 4098) l) (fun a => by fin_cases a <;> simp)]
  unfold padded
  split
  · rename_i hs
    rw [pad_apply_of_not_inside _ _ _ _ _ _ _ _ (1 : Fin 3) (fun hh => by
      have h1 : 2 ≤ d + s.val := hh.1
      omega)]
    show (((0#32 : BitVec 32).toInt : ℝ) : EReal) = 0
    simp
  · rename_i hs
    refine pad_apply_of_inside _ _ _ _ _ _ _ _ (ix3 b ⟨s.val - (2 - d), by omega⟩ l) (fun a => ?_)
    fin_cases a
    · show b.val = 0 + b.val * (0 + 1); omega
    · show d + s.val = 2 + (s.val - (2 - d)) * (0 + 1); omega
    · show l.val = 0 + l.val * (0 + 1); omega

/-- One row of the convolution's weights, for every position. -/
def tap (cw : FVec Ideal S3x512 .f32) (j : ℕ) (h : S3x512.Slices ![j, 0] S1x512) : FVec Ideal S4x4096x512 .f32 :=
  broadcastInDim S4x4096x512 ![0, 1, 2] bcast_S1x1x512_S4x4096x512_0_1_2 (broadcastInDim S1x1x512 ![2] bcast_S512_S1x1x512_2 (shapeCast S512 (extractStridedSlice S1x512 ![j, 0] cw h) shapeCasts_S1x512_S512))

theorem tap_apply (cw : FVec Ideal S3x512 .f32) (j : ℕ) (h) (hj : j < 3) (b : Fin 4) (s : Fin 4096) (l : Fin 512) :
    (tap cw j h (ix3 b s l) : EReal) = cw (ix2 ⟨j, hj⟩ l) := by
  unfold tap
  rw [broadcastInDim_apply _ _ _ _ (ix3 (0 : Fin 1) (0 : Fin 1) l) (fun a => by fin_cases a <;> rfl),
    broadcastInDim_apply _ _ _ _ (ix1 l) (fun a => by fin_cases a; rfl), shapeCast_apply _ _ _ (ix2 (0 : Fin 1) l)]
  · exact extractStridedSlice_apply _ _ _ _ (ix2 ⟨j, hj⟩ l) (fun a => by fin_cases a <;> simp)
  · rw [Shape.rowMajor_val_one, Shape.rowMajor_val_two]
    show 0 * 512 + l.val = l.val
    omega

/-- The convolution. -/
def conv (cw : FVec Ideal S3x512 .f32) : FVec Ideal S4x4096x512 .f32 :=
  addf (addf (mulf (shifted u 0 slices_S4x4098x512_S4x4096x512_0_0_0) (tap cw 0 slices_S3x512_S1x512_0_0))
    (mulf (shifted u 1 slices_S4x4098x512_S4x4096x512_0_1_0) (tap cw 1 slices_S3x512_S1x512_1_0)))
    (mulf (shifted u 2 slices_S4x4098x512_S4x4096x512_0_2_0) (tap cw 2 slices_S3x512_S1x512_2_0))

/-- The gated branch after the convolution. -/
def branch (cw : FVec Ideal S3x512 .f32) (wb : FVec Ideal S3x512x1024 .f32) : FVec Ideal S16384x1024 .f32 :=
  shapeCast S16384x1024 (mulf (gate p 0 slices_S4x4096x3x1024_S4x4096x1x1024_0_0_0_0)
    (Host.dotGeneral dot_S4x4096x512_S512x1024_S4x4096x1024_2_0_01_1_n_n none
      (mulf (part p 1024 slices_S4x4096x6656_S4x4096x512_0_0_1024) (conv (inputs p) cw))
      (shapeCast S512x1024 (extractStridedSlice S1x512x1024 ![0, 0, 0] wb slices_S3x512x1024_S1x512x1024_0_0_0) shapeCasts_S1x512x1024_S512x1024)))
    shapeCasts_S4x4096x1024_S16384x1024

theorem branch_apply (cw : FVec Ideal S3x512 .f32) (wb : FVec Ideal S3x512x1024 .f32) (b : Fin 4) (s : Fin 4096) (l : Fin 1024) :
    (branch p cw wb (ix2 ⟨4096 * b.val + s.val, by omega⟩ l) : EReal)
      = (gate p 0 slices_S4x4096x3x1024_S4x4096x1x1024_0_0_0_0 (ix3 b s l) : EReal) * ∑ j : Fin 512,
          ((p (ix3 b s ⟨1024 + j.val, by omega⟩) : EReal) * ((shifted (inputs p) 0 slices_S4x4098x512_S4x4096x512_0_0_0 (ix3 b s j) * cw (ix2 0 j)
            + shifted (inputs p) 1 slices_S4x4098x512_S4x4096x512_0_1_0 (ix3 b s j) * cw (ix2 1 j))
            + shifted (inputs p) 2 slices_S4x4098x512_S4x4096x512_0_2_0 (ix3 b s j) * cw (ix2 2 j))) * wb (ix3 0 j l) := by
  refine (flat_apply (n := 1024) _ shapeCasts_S4x4096x1024_S16384x1024 b s l).trans ?_
  refine congrArg₂ (fun a b : EReal => a * b) rfl ?_
  have e : ∀ (y : FVec Ideal S4x4096x512 .f32) (z : FVec Ideal S512x1024 .f32),
      (Host.dotGeneral dot_S4x4096x512_S512x1024_S4x4096x1024_2_0_01_1_n_n none y z (ix3 b s l) : EReal) = ∑ j : Fin 512, (y (ix3 b s j) : EReal) * z (ix2 j l) := by
    intro y z
    pointwise
    rfl
  refine (e _ _).trans (Finset.sum_congr rfl fun j _ => ?_)
  refine congrArg₂ (fun a b : EReal => a * b) ?_ ?_
  · refine congrArg₂ (fun a b : EReal => a * b) (part_apply p 1024 _ b s j _) ?_
    refine congrArg₂ (fun a b : EReal => a + b) (congrArg₂ (fun a b : EReal => a + b) ?_ ?_) ?_
    · exact congrArg₂ (fun a b : EReal => a * b) rfl (tap_apply cw 0 _ (by omega) b s j)
    · exact congrArg₂ (fun a b : EReal => a * b) rfl (tap_apply cw 1 _ (by omega) b s j)
    · exact congrArg₂ (fun a b : EReal => a * b) rfl (tap_apply cw 2 _ (by omega) b s j)
  · refine (shapeCast_apply _ _ _ (ix3 (0 : Fin 1) j l) ?_).trans ?_
    · rw [Shape.rowMajor_val_two, Shape.rowMajor_val_three]
      show (0 * 512 + j.val) * 1024 + l.val = j.val * 1024 + l.val
      omega
    · exact extractStridedSlice_apply _ _ _ _ (ix3 0 j l) (fun a => by fin_cases a <;> simp)

end Cert.InProj.Ref
-- ==== Proof.InEq.lean ====
/-
  The reference's ten arrays of the prompt's input projections are the kernel's.
-/
module

public import proofs.«01_k».proof.Proof.InRef

@[expose] public section

set_option maxRecDepth 16384

noncomputable section

namespace Cert.InProj

open Idealize.ShloMosaic hiding ix1 ix2 ix3 ix4
open Idealize.ShloMosaic.ValueIdx Cert.Layer

theorem rows_ext {n : ℕ} (A : (⟨2, ![16384, n]⟩ : Shape).Idx → EReal) (f : Fin 4 → Fin 4096 → Fin n → EReal)
    (h : ∀ (b : Fin 4) (s : Fin 4096) (l : Fin n), A (ix2 ⟨4096 * b.val + s.val, by omega⟩ l) = f b s l) : A = rows f := by
  funext i
  have h0 : (i 0).val < 16384 := (i 0).isLt
  have e : i = ix2 ⟨4096 * ((i 0).val / 4096) + (i 0).val % 4096, by omega⟩ ⟨(i 1).val, (i 1).isLt⟩ := by
    funext a
    match a with
    | ⟨0, _⟩ => exact Fin.ext (by show (i 0).val = 4096 * ((i 0).val / 4096) + (i 0).val % 4096; omega)
    | ⟨1, _⟩ => rfl
  exact (congrArg A e).trans (h ⟨(i 0).val / 4096, by omega⟩ ⟨(i 0).val % 4096, by omega⟩ ⟨(i 1).val, (i 1).isLt⟩)

theorem columns_ext (A : (⟨3, ![4, 512, 4096]⟩ : Shape).Idx → EReal) (f : Fin 4 → Fin 4096 → Fin 512 → EReal)
    (h : ∀ (b : Fin 4) (s : Fin 4096) (l : Fin 512), A (ix3 b l s) = f b s l) : A = columns f := by
  funext i
  have e : i = ix3 ⟨(i 0).val, (i 0).isLt⟩ ⟨(i 1).val, (i 1).isLt⟩ ⟨(i 2).val, (i 2).isLt⟩ := by funext a; fin_cases a <;> rfl
  exact (congrArg A e).trans (h ⟨(i 0).val, (i 0).isLt⟩ ⟨(i 2).val, (i 2).isLt⟩ ⟨(i 1).val, (i 1).isLt⟩)

theorem blocks_ext (A : (⟨4, ![4, 16, 512, 256]⟩ : Shape).Idx → EReal) (f : Fin 4 → Fin 4096 → Fin 512 → EReal)
    (h : ∀ (b : Fin 4) (j : Fin 16) (l : Fin 512) (r : Fin 256), A (ix4 b j l r) = f b ⟨256 * j.val + r.val, by omega⟩ l) : A = blocks f := by
  funext i
  have e : i = ix4 ⟨(i 0).val, (i 0).isLt⟩ ⟨(i 1).val, (i 1).isLt⟩ ⟨(i 2).val, (i 2).isLt⟩ ⟨(i 3).val, (i 3).isLt⟩ := by funext a; fin_cases a <;> rfl
  exact (congrArg A e).trans (h ⟨(i 0).val, (i 0).isLt⟩ ⟨(i 1).val, (i 1).isLt⟩ ⟨(i 2).val, (i 2).isLt⟩ ⟨(i 3).val, (i 3).isLt⟩)

theorem lastRows_ext (A : (⟨3, ![4, 8, 512]⟩ : Shape).Idx → EReal) (f : Fin 4 → Fin 4096 → Fin 512 → EReal)
    (h : ∀ (b : Fin 4) (a : Fin 8) (l : Fin 512), A (ix3 b a l) = f b ⟨4088 + a.val, by omega⟩ l) : A = lastRows f := by
  funext i
  have e : i = ix3 ⟨(i 0).val, (i 0).isLt⟩ ⟨(i 1).val, (i 1).isLt⟩ ⟨(i 2).val, (i 2).isLt⟩ := by funext a; fin_cases a <;> rfl
  exact (congrArg A e).trans (h ⟨(i 0).val, (i 0).isLt⟩ ⟨(i 1).val, (i 1).isLt⟩ ⟨(i 2).val, (i 2).isLt⟩)

open Cert.InProj.Ref Cert.Reference2Ideal Cert.Reference2Ideal.Gen

variable (x : FVec Ideal S4x4096x1024 .f32) (g : FVec Ideal S1024 .f32) (w : FVec Ideal S1024x6656 .f32) (n : FVec Ideal S128 .f32)
  (cw : FVec Ideal S3x512 .f32) (wb : FVec Ideal S3x512x1024 .f32)

theorem kt_eq : (turned (part (prod x g w) 2048 slices_S4x4096x6656_S4x4096x512_0_0_2048) : S4x512x4096.Idx → EReal) = columns (fK x g w) :=
  columns_ext _ _ fun b s l => (turned_apply _ b s l).trans ((part_apply _ 2048 _ b s l _).trans (prod_apply x g w b s _))

theorem vt_eq : (turned (part (prod x g w) 2560 slices_S4x4096x6656_S4x4096x512_0_0_2560) : S4x512x4096.Idx → EReal) = columns (fV x g w) :=
  columns_ext _ _ fun b s l => (turned_apply _ b s l).trans ((part_apply _ 2560 _ b s l _).trans (prod_apply x g w b s _))

theorem ktb_eq : (blocked (part (prod x g w) 2048 slices_S4x4096x6656_S4x4096x512_0_0_2048) : S4x16x512x256.Idx → EReal) = blocks (fK x g w) :=
  blocks_ext _ _ fun b j l r => (blocked_apply _ b j l r).trans ((part_apply _ 2048 _ b _ l _).trans (prod_apply x g w b _ _))

theorem vtb_eq : (blocked (part (prod x g w) 2560 slices_S4x4096x6656_S4x4096x512_0_0_2560) : S4x16x512x256.Idx → EReal) = blocks (fV x g w) :=
  blocks_ext _ _ fun b j l r => (blocked_apply _ b j l r).trans ((part_apply _ 2560 _ b _ l _).trans (prod_apply x g w b _ _))

theorem q_eq : (queries (part (prod x g w) 1536 slices_S4x4096x6656_S4x4096x512_0_0_1536) : S16384x512.Idx → EReal) = rows (fQ x g w) :=
  rows_ext _ _ fun b s l => (queries_apply _ b s l).trans
    (congrArg (· * Ideal.ofBits .f32 0x3E000000#32) ((part_apply _ 1536 _ b s l _).trans (prod_apply x g w b s _)))

theorem qx_eq : (memQueries (part (prod x g w) 3072 slices_S4x4096x6656_S4x4096x512_0_0_3072) n : S16384x512.Idx → EReal) = rows (fX x g w n) :=
  rows_ext _ _ fun b s l => by
    have hl := l.isLt
    refine (memQueries_apply _ n b s ⟨l.val / 128, by omega⟩ ⟨l.val % 128, by omega⟩ l
      (by show l.val = 128 * (l.val / 128) + l.val % 128; omega)).trans ?_
    unfold fX qxrow
    refine congrArg (· * _) (congrFun (congrArg (nrm narrow) (funext fun j => ?_)) _)
    exact (part_apply _ 3072 _ b s _ (by dsimp only; omega)).trans (prod_apply x g w b s _)

theorem gate_row (j : ℕ) (h) (hj : j < 3) (b : Fin 4) (s : Fin 4096) (l : Fin 1024) (o : Fin 6656) (ho : o.val = 3584 + (1024 * j + l.val)) :
    (gate (prod x g w) j h (ix3 b s l) : EReal) = Ideal.logistic (prow (xr x b s) g w o) := by
  rw [gate_apply _ j h hj, prod_apply]
  exact congrArg (fun o => Ideal.logistic (prow (xr x b s) g w o)) (Fin.ext ho.symm)

theorem g1_eq : (shapeCast S16384x1024 (gate (prod x g w) 1 slices_S4x4096x3x1024_S4x4096x1x1024_0_0_1_0) shapeCasts_S4x4096x1024_S16384x1024 : S16384x1024.Idx → EReal)
    = rows (fG1 x g w) :=
  rows_ext _ _ fun b s l => (flat_apply (n := 1024) _ shapeCasts_S4x4096x1024_S16384x1024 b s l).trans
    (gate_row x g w 1 _ (by omega) b s l _ (by show 4608 + l.val = 3584 + (1024 * 1 + l.val); omega))

theorem g2_eq : (shapeCast S16384x1024 (gate (prod x g w) 2 slices_S4x4096x3x1024_S4x4096x1x1024_0_0_2_0) shapeCasts_S4x4096x1024_S16384x1024 : S16384x1024.Idx → EReal)
    = rows (fG2 x g w) :=
  rows_ext _ _ fun b s l => (flat_apply (n := 1024) _ shapeCasts_S4x4096x1024_S16384x1024 b s l).trans
    (gate_row x g w 2 _ (by omega) b s l _ (by show 5632 + l.val = 3584 + (1024 * 2 + l.val); omega))

theorem inputs_row (b : Fin 4) (s : Fin 4096) (l : Fin 512) : (inputs (prod x g w) (ix3 b s l) : EReal) = urow (xr x b s) g w l := by
  rw [inputs_apply, prod_apply, prod_apply]
  rfl

theorem tail_eq : (extractStridedSlice S4x8x512 ![0, 4088, 0] (inputs (prod x g w)) slices_S4x4096x512_S4x8x512_0_4088_0 : S4x8x512.Idx → EReal)
    = lastRows (fU x g w) :=
  lastRows_ext _ _ fun b a l =>
    (extractStridedSlice_apply _ _ _ _ (ix3 b ⟨4088 + a.val, by omega⟩ l) (fun a => by fin_cases a <;> simp)).trans (inputs_row x g w b _ l)

theorem mp_eq : (branch (prod x g w) cw wb : S16384x1024.Idx → EReal) = rows (fM x g w cw wb) :=
  rows_ext _ _ fun b s l => by
    rw [Ref.branch_apply, gate_row x g w 0 _ (by omega) b s l ⟨3584 + l.val, by omega⟩ (by show 3584 + l.val = 3584 + (1024 * 0 + l.val); omega)]
    unfold fM branchrow gate0row
    refine congrArg (fun a : EReal => _ * a) (Finset.sum_congr rfl fun j _ => ?_)
    rw [prod_apply, shifted_apply _ 0 _ (by omega), shifted_apply _ 1 _ (by omega), shifted_apply _ 2 _ (by omega), inputs_row, inputs_row, inputs_row]
    rfl

end Cert.InProj
-- ==== Proof.InSample.lean ====
/-
  The samples' input projections, as the kernel computes them: what its one grid point leaves in its blocks, and the eight
  arrays.
-/
module

public import proofs.«01_k».proof.Proof.InHost
public import proofs.«01_k».proof.Proof.Gen.Kernel3Ideal.Value

@[expose] public section

set_option maxRecDepth 16384

noncomputable section

namespace Cert.InSample

open Idealize.ShloMosaic hiding ix1 ix2 ix3 ix4
open Idealize.ShloMosaic.ValueIdx Idealize.ShloMosaic.TcCoe Idealize.ShloMosaic.StableHlo Cert.Layer Cert.Kernel3Ideal Cert.Kernel3Ideal.Gen
open Cert.InProj (prow urow qrow qxrow gate0row gate1row gate2row conv3 branchrow part512 part1024)

/-- An entry of the normed rows. -/
theorem normed_apply (x : Vec Ideal S128x1024 .f32) (g : Vec Ideal S1x1024 .f32) (r : Fin 128) (k : Fin 1024) :
    (k0_pay3 x g (ix2 r k) : EReal) = nrm wide (fun j => (x (ix2 r j) : EReal)) k * g (ix2 0 k) := by
  unfold k0_pay3
  pointwise
  rfl

/-- An entry of the keys' and values' product, which is laid out one row a column. -/
theorem kv_apply (x : Vec Ideal S128x1024 .f32) (g : Vec Ideal S1x1024 .f32) (w : Vec Ideal S1024x1024 .bf16) (l : Fin 1024) (r : Fin 128) :
    (k0_pay4 x g w (ix2 l r) : EReal) = proj (fun k => x (ix2 r k)) (fun k => g (ix2 0 k)) (fun k => w (ix2 l k)) := by
  have e : (k0_pay4 x g w (ix2 l r) : EReal) = ∑ k : Fin 1024, (w (ix2 l k) : EReal) * k0_pay3 x g (ix2 r k) := by
    unfold k0_pay4
    pointwise
    rfl
  rw [e]
  unfold proj
  refine Finset.sum_congr rfl fun k _ => ?_
  rw [normed_apply, mul_comm]

theorem kt_apply (x : Vec Ideal S128x1024 .f32) (g : Vec Ideal S1x1024 .f32) (w : Vec Ideal S1024x1024 .bf16) (l : Fin 512) (r : Fin 128) :
    (k0_pay5 x g w (ix3 0 l r) : EReal) = k0_pay4 x g w (ix2 ⟨l.val, by omega⟩ r) := by
  unfold k0_pay5
  pointwise
  rfl

theorem vt_apply (x : Vec Ideal S128x1024 .f32) (g : Vec Ideal S1x1024 .f32) (w : Vec Ideal S1024x1024 .bf16) (l : Fin 512) (r : Fin 128) :
    (k0_pay6 x g w (ix3 0 l r) : EReal) = k0_pay4 x g w (ix2 ⟨512 + l.val, by omega⟩ r) := by
  unfold k0_pay6
  pointwise
  rfl

/-- The product of the rows with some columns of the weights. -/
def cols {n : ℕ} (x : FVec Ideal S128x1024 .bf16) (w : (⟨2, ![1024, n]⟩ : Shape).Idx → EReal) (r : Fin 128) (l : Fin n) : EReal :=
  ∑ k : Fin 1024, (x (ix2 r k) : EReal) * w (ix2 k l)

theorem q_apply (x : Vec Ideal S128x1024 .f32) (g : Vec Ideal S1x1024 .f32) (w : Vec Ideal S1024x512 .bf16) (r : Fin 128) (l : Fin 512) :
    (k0_pay7 x g w (ix2 r l) : EReal) = cols (k0_pay3 x g) w r l * Ideal.ofBits .f32 0x3E000000#32 := by
  unfold k0_pay7
  pointwise
  rfl

variable (x : FVec Ideal S128x1024 .bf16)

theorem qx_apply (w : Vec Ideal S1024x512 .bf16) (r : Fin 128) (l : Fin 512) : (k0_pay8 x w (ix2 r l) : EReal) = cols x w r l := by
  unfold k0_pay8
  pointwise
  rfl

/-- One entry of a row's normed queries. -/
def qn (p : FVec Ideal S128x512 .f32) (n : Vec Ideal S1x128 .f32) (r : Fin 128) (h : Fin 4) (d : Fin 128) : EReal :=
  nrm narrow (fun j : Fin 128 => (p (ix2 r ⟨128 * h.val + j.val, by omega⟩) : EReal)) d * n (ix2 0 d)

theorem qn_zero (p : FVec Ideal S128x512 .f32) (n : Vec Ideal S1x128 .f32) (r : Fin 128) (d : Fin 128) :
    qn p n r 0 d = nrm narrow (fun j : Fin 128 => (p (ix2 r ⟨j.val, by omega⟩) : EReal)) d * n (ix2 0 d) := by
  unfold qn
  refine congrArg (· * _) (congrFun (congrArg (nrm narrow) (funext fun j => congrArg p (congrArg (ix2 r) (Fin.ext ?_)))) d)
  show 128 * 0 + j.val = j.val
  omega

theorem head0_apply (w : Vec Ideal S1024x512 .bf16) (n : Vec Ideal S1x128 .f32) (r d : Fin 128) :
    (k0_pay9 x w n (ix2 r d) : EReal) = qn (k0_pay8 x w) n r 0 d := by
  rw [qn_zero]
  unfold k0_pay9
  pointwise
  rfl

theorem head1_apply (w : Vec Ideal S1024x512 .bf16) (n : Vec Ideal S1x128 .f32) (r d : Fin 128) :
    (k0_pay10 x w n (ix2 r d) : EReal) = qn (k0_pay8 x w) n r 1 d := by
  unfold k0_pay10
  pointwise
  rfl

theorem head2_apply (w : Vec Ideal S1024x512 .bf16) (n : Vec Ideal S1x128 .f32) (r d : Fin 128) :
    (k0_pay12 (k0_pay11 x w) n (ix2 r d) : EReal) = qn (k0_pay8 x w) n r 2 d := by
  unfold k0_pay12 k0_pay11
  pointwise
  rfl

theorem head3_apply (p : FVec Ideal S128x512 .f32) (n : Vec Ideal S1x128 .f32) (r d : Fin 128) :
    (k0_pay13 p n (ix2 r d) : EReal) = qn p n r 3 d := by
  unfold k0_pay13
  pointwise
  rfl

theorem u_apply (w0 w1 : Vec Ideal S1024x512 .bf16) (r : Fin 128) (l : Fin 512) :
    (k0_pay14 x w0 w1 (ix2 r l) : EReal) = cols x w0 r l * cols x w1 r l := by
  unfold k0_pay14
  pointwise
  rfl

theorem tail_apply (u : FVec Ideal S128x512 .f32) (r : Fin 128) (l : Fin 512) : (k0_pay15 u (ix3 0 r l) : EReal) = u (ix2 r l) := by
  unfold k0_pay15
  pointwise
  rfl

theorem gate1_apply (w : Vec Ideal S1024x1024 .bf16) (r : Fin 128) (l : Fin 1024) :
    (k0_pay1 x (k0_pay17 w) (constant S128x1024 .f32 0x00000000#32) (ix2 r l) : EReal) = Ideal.logistic (cols x w r l) := by
  unfold k0_pay1 k0_pay17
  pointwise
  rfl

theorem gate2_apply (w : Vec Ideal S1024x1024 .bf16) (r : Fin 128) (l : Fin 1024) :
    (k0_pay2 x w (ix2 r l) : EReal) = Ideal.logistic (cols x w r l) := by
  unfold k0_pay2
  pointwise
  rfl

/-- The gated branch after the convolution. -/
theorem branch_apply (u : FVec Ideal S128x512 .f32) (s1 s0 : Vec Ideal S128x512 .f32) (cw : Vec Ideal S3x512 .f32) (w : Vec Ideal S1024x512 .bf16)
    (wg : Vec Ideal S1024x1024 .bf16) (wb : Vec Ideal S512x1024 .bf16) (r : Fin 128) (l : Fin 1024) :
    (k0_pay16 x u s1 s0 cw w wg wb (ix2 r l) : EReal) = Ideal.logistic (cols x wg r l) * ∑ j : Fin 512,
      (cols x w r j * ((s0 (ix2 r j) * cw (ix2 0 j) + s1 (ix2 r j) * cw (ix2 1 j)) + u (ix2 r j) * cw (ix2 2 j))) * wb (ix2 j l) := by
  unfold k0_pay16
  pointwise
  rfl

/-- The block of normed queries. -/
def qBlk (p : FVec Ideal S128x512 .f32) (n : Vec Ideal S1x128 .f32) (i : S128x512.Idx) : EReal :=
  qn p n ⟨(i 0).val, (i 0).isLt⟩ ⟨(i 1).val / 128, by have : (i 1).val < 512 := (i 1).isLt; omega⟩ ⟨(i 1).val % 128, by omega⟩

theorem qBlk_at (p : FVec Ideal S128x512 .f32) (n : Vec Ideal S1x128 .f32) (i : S128x512.Idx) (r : Fin 128) (h : Fin 4) (d : Fin 128)
    (h0 : (i 0).val = r.val) (h1 : (i 1).val = 128 * h.val + d.val) : qBlk p n i = qn p n r h d := by
  unfold qBlk
  have hd := d.isLt
  congr 1 <;> apply Fin.ext
  · exact h0
  · show (i 1).val / 128 = h.val; omega
  · show (i 1).val % 128 = d.val; omega

section Body

variable (x0 : Vec Ideal S128x1024 .f32) (x1 : Vec Ideal S1x1024 .f32) (x2 : Vec Ideal S1024x6656 .bf16) (x3 : Vec Ideal S1024x1024 .bf16)
  (x4 : Vec Ideal S512x1024 .bf16) (x5 : Vec Ideal S3x512 .f32) (x6 : Vec Ideal S1x128 .f32) (x7 x8 : Vec Ideal S128x512 .f32)

theorem normed_eq : k0_pay18 x0 x1 x2 x3 x4 x5 x6 x7 x8 = k0_pay3 x0 x1 := by
  unfold k0_pay18
  rw [View.ld_unit_lit _ _ (by decide), View.ld_unit_lit _ _ (by decide)]

/-- The gated inputs of the convolution. -/
def uTile : FVec Ideal S128x512 .f32 := k0_pay14 (k0_pay3 x0 x1) (View.ld x2 r0_12) (View.ld x2 r0_13)

theorem u_eq : k0_pay19 x0 x1 x2 x3 x4 x5 x6 x7 x8 = uTile x0 x1 x2 := by
  unfold k0_pay19 uTile
  rw [normed_eq]

/-- The queries before the norm. -/
def qTile : FVec Ideal S128x512 .f32 := k0_pay8 (k0_pay3 x0 x1) (View.ld x2 r0_6)

theorem out_9 : out0_9 x0 x1 x2 x3 x4 x5 x6 x7 x8 = k0_pay5 x0 x1 x3 := by
  unfold out0_9
  rw [View.ld_unit_lit _ _ (by decide), View.ld_unit_lit _ _ (by decide), View.ld_unit_lit _ _ (by decide)]
  exact View.canon_cons_unit_lit _ _ _ (by decide)

theorem out_10 : out0_10 x0 x1 x2 x3 x4 x5 x6 x7 x8 = k0_pay6 x0 x1 x3 := by
  unfold out0_10
  rw [View.ld_unit_lit _ _ (by decide), View.ld_unit_lit _ _ (by decide), View.ld_unit_lit _ _ (by decide)]
  exact View.canon_cons_unit_lit _ _ _ (by decide)

theorem out_11 : out0_11 x0 x1 x2 x3 x4 x5 x6 x7 x8 = k0_pay7 x0 x1 (View.ld x2 r0_4) := by
  have e0 : View.ld x0 r0_0 = x0 := View.ld_unit_lit _ _ (by decide)
  have e1 : View.ld x1 r0_1 = x1 := View.ld_unit_lit _ _ (by decide)
  unfold out0_11
  rw [e0, e1]
  exact View.canon_cons_unit_lit _ _ _ (by decide)

theorem out_12 (i : S128x512.Idx) : (out0_12 x0 x1 x2 x3 x4 x5 x6 x7 x8 i : EReal) = qBlk (qTile x0 x1 x2) x6 i := by
  have e6 : View.ld x6 r0_7 = x6 := View.ld_unit_lit _ _ (by decide)
  unfold out0_12
  rw [normed_eq, e6]
  refine View.canon_apply_of_pieces (Val := Elt Ideal) (e := .bf16) (qBlk (qTile x0 x1 x2) x6) _ ?_ i (cover0_12 (F := Ideal) _ _ _ _ i)
  intro pc hpc y
  simp only [List.mem_cons, List.not_mem_nil, or_false] at hpc
  rcases hpc with rfl | rfl | rfl | rfl
  · obtain ⟨r, l, rfl⟩ : ∃ (r l : Fin 128), y = ix2 r l := ⟨y 0, y 1, by funext a; fin_cases a <;> rfl⟩
    refine (head3_apply _ _ r l).trans (qBlk_at _ _ _ r 3 l ?_ ?_).symm
    · show 0 + 1 * r.val = r.val; omega
    · show 384 + 1 * l.val = 384 + l.val; omega
  · obtain ⟨r, l, rfl⟩ : ∃ (r l : Fin 128), y = ix2 r l := ⟨y 0, y 1, by funext a; fin_cases a <;> rfl⟩
    refine (head2_apply _ _ _ r l).trans (qBlk_at _ _ _ r 2 l ?_ ?_).symm
    · show 0 + 1 * r.val = r.val; omega
    · show 256 + 1 * l.val = 256 + l.val; omega
  · obtain ⟨r, l, rfl⟩ : ∃ (r l : Fin 128), y = ix2 r l := ⟨y 0, y 1, by funext a; fin_cases a <;> rfl⟩
    refine (head1_apply _ _ _ r l).trans (qBlk_at _ _ _ r 1 l ?_ ?_).symm
    · show 0 + 1 * r.val = r.val; omega
    · show 128 + 1 * l.val = 128 + l.val; omega
  · obtain ⟨r, l, rfl⟩ : ∃ (r l : Fin 128), y = ix2 r l := ⟨y 0, y 1, by funext a; fin_cases a <;> rfl⟩
    refine (head0_apply _ _ _ r l).trans (qBlk_at _ _ _ r 0 l ?_ ?_).symm
    · show 0 + 1 * r.val = r.val; omega
    · show 0 + 1 * l.val = 0 + l.val; omega

theorem out_13 : out0_13 x0 x1 x2 x3 x4 x5 x6 x7 x8
    = k0_pay1 (k0_pay3 x0 x1) (k0_pay17 (View.ld x2 r0_19)) (constant S128x1024 .f32 0x00000000#32) := by
  unfold out0_13
  rw [normed_eq]
  exact View.canon_cons_unit_lit _ _ _ (by decide)

theorem out_14 : out0_14 x0 x1 x2 x3 x4 x5 x6 x7 x8 = k0_pay2 (k0_pay3 x0 x1) (View.ld x2 r0_20) := by
  unfold out0_14
  rw [normed_eq]
  exact View.canon_cons_unit_lit _ _ _ (by decide)

theorem out_15 : out0_15 x0 x1 x2 x3 x4 x5 x6 x7 x8
    = k0_pay16 (k0_pay3 x0 x1) (uTile x0 x1 x2) x8 x7 x5 (View.ld x2 r0_16) (View.ld x2 r0_17) x4 := by
  have e8 : View.ld x8 r0_5 = x8 := View.ld_unit_lit _ _ (by decide)
  have e7 : View.ld x7 r0_5 = x7 := View.ld_unit_lit _ _ (by decide)
  have e5 : View.ld x5 r0_15 = x5 := View.ld_unit_lit _ _ (by decide)
  have e4 : View.ld x4 r0_18 = x4 := View.ld_unit_lit _ _ (by decide)
  unfold out0_15
  rw [normed_eq, u_eq, e8, e7, e5, e4]
  exact View.canon_cons_unit_lit _ _ _ (by decide)

theorem out_16 : out0_16 x0 x1 x2 x3 x4 x5 x6 x7 x8 = k0_pay15 (uTile x0 x1 x2) := by
  unfold out0_16
  rw [u_eq]
  exact View.canon_cons_unit_lit _ _ _ (by decide)

end Body

variable (m : (ℓ : Loc nD τ sig) → Buf (Elt Ideal) ℓ) (c : Dev nD)

/-- The argument arrays. -/
def xArr : S128x1x1024.Idx → EReal := m ((c : Thread nD τ).loc main_arg0)
def gArr : S1024.Idx → EReal := m ((c : Thread nD τ).loc main_arg1)
def wArr : S1024x6656.Idx → EReal := m ((c : Thread nD τ).loc main_arg2)
def nArr : S128.Idx → EReal := m ((c : Thread nD τ).loc main_arg3)
def cwArr : S3x512.Idx → EReal := m ((c : Thread nD τ).loc main_arg4)
def wbArr : S3x512x1024.Idx → EReal := m ((c : Thread nD τ).loc main_arg5)
def stArr : S128x2x512.Idx → EReal := m ((c : Thread nD τ).loc main_arg6)

theorem V_x (s : Fin 128) (k : Fin 1024) : (V m c main_v5 (ix2 s k) : EReal) = xArr m c (ix3 s 0 k) := by
  unfold_abbrev_sides
  after_results
  show (shapeCast S128x1024 (xArr m c) shapeCasts_S128x1x1024_S128x1024 _ : EReal) = _
  refine shapeCast_apply (xArr m c) _ _ (ix3 s 0 k) ?_
  rw [Shape.rowMajor_val_two, Shape.rowMajor_val_three]
  show (s.val * 1 + 0) * 1024 + k.val = s.val * 1024 + k.val
  omega

theorem V_g (k : Fin 1024) : (V m c main_v12 (ix2 0 k) : EReal) = gArr m c (ix1 k) := by
  unfold_abbrev_sides
  after_results
  show (shapeCast S1x1024 (gArr m c) shapeCasts_S1024_S1x1024 _ : EReal) = _
  refine shapeCast_apply (gArr m c) _ _ (ix1 k) ?_
  rw [Shape.rowMajor_val_two, Shape.rowMajor_val_one]
  show k.val = 0 * 1024 + k.val
  omega

theorem V_w (k : Fin 1024) (l : Fin 6656) : (V m c main_v0 (ix2 k l) : EReal) = wArr m c (ix2 k l) := by
  unfold_abbrev_sides
  after_results
  rfl

theorem V_kv (k l : Fin 1024) : (V m c main_v3 (ix2 l k) : EReal) = wArr m c (ix2 k ⟨2048 + l.val, by omega⟩) := by
  unfold_abbrev_sides
  after_results
  show (transpose S1024x1024 [1, 0] (extractStridedSlice S1024x1024 ![0, 2048] (wArr m c) slices_S1024x6656_S1024x1024_0_2048)
    transposes_S1024x1024_S1024x1024_1_0 (ix2 l k) : EReal) = _
  pointwise
  rfl

theorem V_wb (j : Fin 512) (l : Fin 1024) : (V m c main_v7 (ix2 j l) : EReal) = wbArr m c (ix3 0 j l) := by
  unfold_abbrev_sides
  after_results
  show (shapeCast S512x1024 (extractStridedSlice S1x512x1024 ![0, 0, 0] (wbArr m c) slices_S3x512x1024_S1x512x1024_0_0_0)
    shapeCasts_S1x512x1024_S512x1024 (ix2 j l) : EReal) = _
  pointwise
  rfl

theorem V_cw (a : Fin 3) (l : Fin 512) : (V m c main_arg4 (ix2 a l) : EReal) = cwArr m c (ix2 a l) := by
  unfold_abbrev_sides
  after_results
  rfl

theorem V_n (d : Fin 128) : (V m c main_v13 (ix2 0 d) : EReal) = nArr m c (ix1 d) := by
  unfold_abbrev_sides
  after_results
  show (shapeCast S1x128 (nArr m c) shapeCasts_S128_S1x128 _ : EReal) = _
  refine shapeCast_apply (nArr m c) _ _ (ix1 d) ?_
  rw [Shape.rowMajor_val_two, Shape.rowMajor_val_one]
  show d.val = 0 * 128 + d.val
  omega

theorem V_s0 (s : Fin 128) (l : Fin 512) : (V m c main_v9 (ix2 s l) : EReal) = stArr m c (ix3 s 0 l) := by
  unfold_abbrev_sides
  after_results
  show (shapeCast S128x512 (extractStridedSlice S128x1x512 ![0, 0, 0] (stArr m c) slices_S128x2x512_S128x1x512_0_0_0)
    shapeCasts_S128x1x512_S128x512 (ix2 s l) : EReal) = _
  pointwise
  rfl

theorem V_s1 (s : Fin 128) (l : Fin 512) : (V m c main_v11 (ix2 s l) : EReal) = stArr m c (ix3 s 1 l) := by
  unfold_abbrev_sides
  after_results
  show (shapeCast S128x512 (extractStridedSlice S128x1x512 ![0, 1, 0] (stArr m c) slices_S128x2x512_S128x1x512_0_1_0)
    shapeCasts_S128x1x512_S128x512 (ix2 s l) : EReal) = _
  pointwise
  rfl

/-- The blocks' places: each block is its whole array. -/
theorem index_in : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := by decide +kernel

theorem index_out : ∀ t : Fin grid0.N, win0_9.index t = ![0, 0, 0] ∧ win0_10.index t = ![0, 0, 0]
    ∧ win0_11.index t = ![0, 0] ∧ win0_12.index t = ![0, 0] ∧ win0_13.index t = ![0, 0] ∧ win0_14.index t = ![0, 0]
    ∧ win0_15.index t = ![0, 0] ∧ win0_16.index t = ![0, 0, 0] := by decide +kernel

theorem blk_x (t : Fin grid0.N) (r : Fin 128) (k : Fin 1024) : (iblk m c 0 t (ix2 r k) : EReal) = xArr m c (ix3 r 0 k) := by
  rw [← V_x]
  show V m c main_v5 _ = _
  blk_ext [(index_in t).1]

theorem blk_g (t : Fin grid0.N) (k : Fin 1024) : (iblk m c 1 t (ix2 0 k) : EReal) = gArr m c (ix1 k) := by
  rw [← V_g]
  show V m c main_v12 _ = _
  blk_ext [(index_in t).2.1]

theorem blk_w (t : Fin grid0.N) (k : Fin 1024) (l : Fin 6656) : (iblk m c 2 t (ix2 k l) : EReal) = wArr m c (ix2 k l) := by
  rw [← V_w]
  show V m c main_v0 _ = _
  blk_ext [(index_in t).2.2.1]

theorem blk_kv (t : Fin grid0.N) (k l : Fin 1024) : (iblk m c 3 t (ix2 l k) : EReal) = wArr m c (ix2 k ⟨2048 + l.val, by omega⟩) := by
  rw [← V_kv]
  show V m c main_v3 _ = _
  blk_ext [(index_in t).2.2.2.1]

theorem blk_wb (t : Fin grid0.N) (j : Fin 512) (l : Fin 1024) : (iblk m c 4 t (ix2 j l) : EReal) = wbArr m c (ix3 0 j l) := by
  rw [← V_wb]
  show V m c main_v7 _ = _
  blk_ext [(index_in t).2.2.2.2.1]

theorem blk_cw (t : Fin grid0.N) (a : Fin 3) (l : Fin 512) : (iblk m c 5 t (ix2 a l) : EReal) = cwArr m c (ix2 a l) := by
  rw [← V_cw]
  show V m c main_arg4 _ = _
  blk_ext [(index_in t).2.2.2.2.2.1]

theorem blk_n (t : Fin grid0.N) (d : Fin 128) : (iblk m c 6 t (ix2 0 d) : EReal) = nArr m c (ix1 d) := by
  rw [← V_n]
  show V m c main_v13 _ = _
  blk_ext [(index_in t).2.2.2.2.2.2.1]

theorem blk_s0 (t : Fin grid0.N) (r : Fin 128) (l : Fin 512) : (iblk m c 7 t (ix2 r l) : EReal) = stArr m c (ix3 r 0 l) := by
  rw [← V_s0]
  show V m c main_v9 _ = _
  blk_ext [(index_in t).2.2.2.2.2.2.2.1]

theorem blk_s1 (t : Fin grid0.N) (r : Fin 128) (l : Fin 512) : (iblk m c 8 t (ix2 r l) : EReal) = stArr m c (ix3 r 1 l) := by
  rw [← V_s1]
  show V m c main_v11 _ = _
  blk_ext [(index_in t).2.2.2.2.2.2.2.2]

/-- A row of the argument. -/
abbrev trow (r : Fin 128) (k : Fin 1024) : EReal := xArr m c (ix3 r 0 k)

theorem normed_blk (t : Fin grid0.N) (r : Fin 128) (k : Fin 1024) :
    (k0_pay3 (iblk m c 0 t) (iblk m c 1 t) (ix2 r k) : EReal) = nrm wide (trow m c r) k * gArr m c (ix1 k) := by
  rw [normed_apply, blk_g]
  exact congrArg (fun f => nrm wide f k * gArr m c (ix1 k)) (funext fun j => blk_x m c t r j)

/-- A column of the rows' product with the weights' columns from `o` on. -/
theorem cols_blk {n o : ℕ} (ho : o + n ≤ 6656) (t : Fin grid0.N) (v : (⟨2, ![1024, n]⟩ : Shape).Idx → EReal)
    (hv : ∀ (k : Fin 1024) (l : Fin n), v (ix2 k l) = iblk m c 2 t (ix2 k ⟨o + l.val, by omega⟩)) (r : Fin 128) (l : Fin n) :
    cols (k0_pay3 (iblk m c 0 t) (iblk m c 1 t)) v r l = prow (trow m c r) (gArr m c) (wArr m c) ⟨o + l.val, by omega⟩ := by
  unfold cols prow proj
  refine Finset.sum_congr rfl fun k _ => ?_
  rw [normed_blk, hv, blk_w]

theorem kv_blk (t : Fin grid0.N) (l : Fin 1024) (r : Fin 128) :
    (k0_pay4 (iblk m c 0 t) (iblk m c 1 t) (iblk m c 3 t) (ix2 l r) : EReal)
      = prow (trow m c r) (gArr m c) (wArr m c) ⟨2048 + l.val, by omega⟩ := by
  rw [kv_apply]
  unfold prow
  congr 1 <;> funext k
  · exact blk_x m c t r k
  · exact blk_g m c t k
  · exact blk_kv m c t k l

theorem u_blk (t : Fin grid0.N) (r : Fin 128) (l : Fin 512) :
    (uTile (iblk m c 0 t) (iblk m c 1 t) (iblk m c 2 t) (ix2 r l) : EReal) = urow (trow m c r) (gArr m c) (wArr m c) l := by
  unfold uTile urow
  rw [u_apply, cols_blk m c (o := 512) (by omega) t _ (fun k l => part512 _ _ k l _), cols_blk m c (o := 0) (by omega) t _ (fun k l => part512 _ _ k l _)]

theorem q_blk (t : Fin grid0.N) (r : Fin 128) (l : Fin 512) :
    (qTile (iblk m c 0 t) (iblk m c 1 t) (iblk m c 2 t) (ix2 r l) : EReal)
      = prow (trow m c r) (gArr m c) (wArr m c) ⟨3072 + l.val, by omega⟩ := by
  unfold qTile
  rw [qx_apply, cols_blk m c (o := 3072) (by omega) t _ (fun k l => part512 _ _ k l _)]

end Cert.InSample
-- ==== Proof.InSampleArr.lean ====
/-
  What the input projections of the samples leave in their eight arrays.
-/
module

public import proofs.«01_k».proof.Proof.InSample

@[expose] public section

set_option maxRecDepth 16384

noncomputable section

namespace Cert.InSample

open Idealize.ShloMosaic hiding ix1 ix2 ix3 ix4
open Idealize.ShloMosaic.ValueIdx Cert.Layer
open Cert.InProj (prow urow qrow qxrow gate0row gate1row gate2row conv3 branchrow part512 part1024)

section Result

/-- The samples' rows as one array of rows, as columns, and with a leading axis of one. -/
def rows {n : ℕ} (f : Fin 128 → Fin n → EReal) (i : (⟨2, ![128, n]⟩ : Shape).Idx) : EReal :=
  f ⟨(i 0).val, (i 0).isLt⟩ ⟨(i 1).val, (i 1).isLt⟩

def columns (f : Fin 128 → Fin 512 → EReal) (i : (⟨3, ![1, 512, 128]⟩ : Shape).Idx) : EReal :=
  f ⟨(i 2).val, (i 2).isLt⟩ ⟨(i 1).val, (i 1).isLt⟩

def slab (f : Fin 128 → Fin 512 → EReal) (i : (⟨3, ![1, 128, 512]⟩ : Shape).Idx) : EReal :=
  f ⟨(i 1).val, (i 1).isLt⟩ ⟨(i 2).val, (i 2).isLt⟩

theorem rows_at {n : ℕ} (f : Fin 128 → Fin n → EReal) (i : (⟨2, ![128, n]⟩ : Shape).Idx) (s : Fin 128) (l : Fin n)
    (h0 : (i 0).val = s.val) (h1 : (i 1).val = l.val) : rows f i = f s l :=
  congrArg₂ f (Fin.ext h0) (Fin.ext h1)

theorem columns_at (f : Fin 128 → Fin 512 → EReal) (i : (⟨3, ![1, 512, 128]⟩ : Shape).Idx) (s : Fin 128) (l : Fin 512)
    (h2 : (i 2).val = s.val) (h1 : (i 1).val = l.val) : columns f i = f s l :=
  congrArg₂ f (Fin.ext h2) (Fin.ext h1)

theorem slab_at (f : Fin 128 → Fin 512 → EReal) (i : (⟨3, ![1, 128, 512]⟩ : Shape).Idx) (s : Fin 128) (l : Fin 512)
    (h1 : (i 1).val = s.val) (h2 : (i 2).val = l.val) : slab f i = f s l :=
  congrArg₂ f (Fin.ext h1) (Fin.ext h2)

variable (x : (⟨3, ![128, 1, 1024]⟩ : Shape).Idx → EReal) (g : (⟨1, ![1024]⟩ : Shape).Idx → EReal)
  (w : (⟨2, ![1024, 6656]⟩ : Shape).Idx → EReal) (n : (⟨1, ![128]⟩ : Shape).Idx → EReal)
  (cw : (⟨2, ![3, 512]⟩ : Shape).Idx → EReal) (wb : (⟨3, ![3, 512, 1024]⟩ : Shape).Idx → EReal)
  (st : (⟨3, ![128, 2, 512]⟩ : Shape).Idx → EReal)

/-- One row of the argument. -/
def xr (s : Fin 128) (k : Fin 1024) : EReal := x (ix3 s 0 k)

/-- The keys, the values, the queries, the memory's queries, two gates, the gated branch and the convolution's inputs of a row. -/
def fK (s : Fin 128) (l : Fin 512) : EReal := prow (xr x s) g w ⟨2048 + l.val, by omega⟩
def fV (s : Fin 128) (l : Fin 512) : EReal := prow (xr x s) g w ⟨2560 + l.val, by omega⟩
def fQ (s : Fin 128) (l : Fin 512) : EReal := qrow (xr x s) g w l
def fX (s : Fin 128) (l : Fin 512) : EReal := qxrow (xr x s) g w n ⟨l.val / 128, by omega⟩ ⟨l.val % 128, by omega⟩
def fG1 (s : Fin 128) (l : Fin 1024) : EReal := gate1row (xr x s) g w l
def fG2 (s : Fin 128) (l : Fin 1024) : EReal := gate2row (xr x s) g w l
def fM (s : Fin 128) (l : Fin 1024) : EReal := branchrow (xr x s) g w cw wb (fun j => st (ix3 s 0 j)) (fun j => st (ix3 s 1 j)) l
def fU (s : Fin 128) (l : Fin 512) : EReal := urow (xr x s) g w l

end Result

open Cert.Kernel3Ideal Cert.Kernel3Ideal.Gen

variable (m : (ℓ : Loc nD τ sig) → Buf (Elt Ideal) ℓ) (c : Dev nD)

theorem kt_arr : (dats m 0 c).arrAt 9 (cfgs 0).N = columns (fK (xArr m c) (gArr m c) (wArr m c)) := by
  refine (dats m 0 c).arrAt_eq_of_covers 9 _ (by decide +kernel) fun t hf y => ?_
  obtain ⟨l, r, rfl⟩ : ∃ (l : Fin 512) (r : Fin 128), y = ix3 (0 : Fin 1) l r := ⟨y 1, y 2, by funext a; fin_cases a; exact (Subsingleton.elim (α := Fin 1) _ _); all_goals rfl⟩
  rw [columns_at _ _ r l (by blk_simp [(index_out t).1]) (by blk_simp [(index_out t).1])]
  blk_simp
  rw [after0_9, out_9]
  refine (kt_apply _ _ _ l r).trans ((kv_blk m c t _ r).trans ?_)
  rfl

theorem vt_arr : (dats m 0 c).arrAt 10 (cfgs 0).N = columns (fV (xArr m c) (gArr m c) (wArr m c)) := by
  refine (dats m 0 c).arrAt_eq_of_covers 10 _ (by decide +kernel) fun t hf y => ?_
  obtain ⟨l, r, rfl⟩ : ∃ (l : Fin 512) (r : Fin 128), y = ix3 (0 : Fin 1) l r := ⟨y 1, y 2, by funext a; fin_cases a; exact (Subsingleton.elim (α := Fin 1) _ _); all_goals rfl⟩
  rw [columns_at _ _ r l (by blk_simp [(index_out t).2.1]) (by blk_simp [(index_out t).2.1])]
  blk_simp
  rw [after0_10, out_10]
  refine (vt_apply _ _ _ l r).trans ((kv_blk m c t _ r).trans ?_)
  refine congrArg (prow _ _ _) (Fin.ext ?_)
  show 2048 + (512 + l.val) = 2560 + l.val
  omega

theorem q_arr : (dats m 0 c).arrAt 11 (cfgs 0).N = rows (fQ (xArr m c) (gArr m c) (wArr m c)) := by
  refine (dats m 0 c).arrAt_eq_of_covers 11 _ (by decide +kernel) fun t hf y => ?_
  obtain ⟨r, l, rfl⟩ : ∃ (r : Fin 128) (l : Fin 512), y = ix2 r l := ⟨y 0, y 1, by funext a; fin_cases a <;> rfl⟩
  rw [rows_at _ _ r l (by blk_simp [(index_out t).2.2.1]) (by blk_simp [(index_out t).2.2.1])]
  blk_simp
  rw [after0_11, out_11]
  refine (q_apply _ _ _ r l).trans ?_
  rw [cols_blk m c (o := 1536) (by omega) t _ (fun k l => part512 _ _ k l _)]
  rfl

theorem qx_arr : (dats m 0 c).arrAt 12 (cfgs 0).N = rows (fX (xArr m c) (gArr m c) (wArr m c) (nArr m c)) := by
  refine (dats m 0 c).arrAt_eq_of_covers 12 _ (by decide +kernel) fun t hf y => ?_
  obtain ⟨r, l, rfl⟩ : ∃ (r : Fin 128) (l : Fin 512), y = ix2 r l := ⟨y 0, y 1, by funext a; fin_cases a <;> rfl⟩
  have hl := l.isLt
  rw [rows_at _ _ r l (by blk_simp [(index_out t).2.2.2.1]) (by blk_simp [(index_out t).2.2.2.1])]
  blk_simp
  rw [after0_12]
  refine (out_12 _ _ _ _ _ _ _ _ _ _).trans ?_
  have hd : l.val = 128 * (l.val / 128) + l.val % 128 := by omega
  rw [qBlk_at _ _ _ r ⟨l.val / 128, by omega⟩ ⟨l.val % 128, by omega⟩ rfl hd]
  unfold qn fX qxrow
  simp only [q_blk]
  rw [blk_n]
  rfl

theorem g1_arr : (dats m 0 c).arrAt 13 (cfgs 0).N = rows (fG1 (xArr m c) (gArr m c) (wArr m c)) := by
  refine (dats m 0 c).arrAt_eq_of_covers 13 _ (by decide +kernel) fun t hf y => ?_
  obtain ⟨r, l, rfl⟩ : ∃ (r : Fin 128) (l : Fin 1024), y = ix2 r l := ⟨y 0, y 1, by funext a; fin_cases a <;> rfl⟩
  rw [rows_at _ _ r l (by blk_simp [(index_out t).2.2.2.2.1]) (by blk_simp [(index_out t).2.2.2.2.1])]
  blk_simp
  rw [after0_13, out_13]
  refine (gate1_apply _ _ r l).trans ?_
  rw [cols_blk m c (o := 4608) (by omega) t _ (fun k l => part1024 _ _ k l _)]
  rfl

theorem g2_arr : (dats m 0 c).arrAt 14 (cfgs 0).N = rows (fG2 (xArr m c) (gArr m c) (wArr m c)) := by
  refine (dats m 0 c).arrAt_eq_of_covers 14 _ (by decide +kernel) fun t hf y => ?_
  obtain ⟨r, l, rfl⟩ : ∃ (r : Fin 128) (l : Fin 1024), y = ix2 r l := ⟨y 0, y 1, by funext a; fin_cases a <;> rfl⟩
  rw [rows_at _ _ r l (by blk_simp [(index_out t).2.2.2.2.2.1]) (by blk_simp [(index_out t).2.2.2.2.2.1])]
  blk_simp
  rw [after0_14, out_14]
  refine (gate2_apply _ _ r l).trans ?_
  rw [cols_blk m c (o := 5632) (by omega) t _ (fun k l => part1024 _ _ k l _)]
  rfl

theorem ms_arr : (dats m 0 c).arrAt 15 (cfgs 0).N
    = rows (fM (xArr m c) (gArr m c) (wArr m c) (cwArr m c) (wbArr m c) (stArr m c)) := by
  refine (dats m 0 c).arrAt_eq_of_covers 15 _ (by decide +kernel) fun t hf y => ?_
  obtain ⟨r, l, rfl⟩ : ∃ (r : Fin 128) (l : Fin 1024), y = ix2 r l := ⟨y 0, y 1, by funext a; fin_cases a <;> rfl⟩
  rw [rows_at _ _ r l (by blk_simp [(index_out t).2.2.2.2.2.2.1]) (by blk_simp [(index_out t).2.2.2.2.2.2.1])]
  blk_simp
  rw [after0_15, out_15]
  refine (branch_apply _ _ _ _ _ _ _ _ r l).trans ?_
  unfold fM branchrow gate0row
  rw [cols_blk m c (o := 3584) (by omega) t _ (fun k l => part1024 _ _ k l _)]
  refine congrArg₂ (· * ·) rfl (Finset.sum_congr rfl fun j _ => ?_)
  rw [cols_blk m c (o := 1024) (by omega) t _ (fun k l => part512 _ _ k l _), u_blk, blk_cw, blk_cw, blk_cw, blk_wb, blk_s0, blk_s1]
  rfl

theorem tail_arr : (dats m 0 c).arrAt 16 (cfgs 0).N = slab (fU (xArr m c) (gArr m c) (wArr m c)) := by
  refine (dats m 0 c).arrAt_eq_of_covers 16 _ (by decide +kernel) fun t hf y => ?_
  obtain ⟨r, l, rfl⟩ : ∃ (r : Fin 128) (l : Fin 512), y = ix3 (0 : Fin 1) r l := ⟨y 1, y 2, by funext a; fin_cases a; exact (Subsingleton.elim (α := Fin 1) _ _); all_goals rfl⟩
  rw [slab_at _ _ r l (by blk_simp [(index_out t).2.2.2.2.2.2.2]) (by blk_simp [(index_out t).2.2.2.2.2.2.2])]
  blk_simp
  rw [after0_16, out_16]
  exact (tail_apply _ r l).trans (u_blk m c t r l)

end Cert.InSample
-- ==== Proof.InSampleRef.lean ====
/-
  The samples' input projections as the reference computes them, and that its eight arrays are the kernel's.
-/
module

public import proofs.«01_k».proof.Proof.InSampleArr
public import proofs.«01_k».proof.Proof.Gen.Reference3Ideal.Run
public import Idealize.ShloMosaic.Lib.IdealHost

@[expose] public section

set_option maxRecDepth 16384

noncomputable section

namespace Cert.InSample.Ref

open Idealize.ShloMosaic hiding ix1 ix2 ix3 ix4
open Idealize.ShloMosaic.ValueIdx Idealize.ShloMosaic.TcCoe Cert.Layer Cert.Reference3Ideal Cert.Reference3Ideal.Gen Cert.Reference3Ideal.Value
open Cert.InProj (prow urow qrow qxrow gate0row gate1row gate2row conv3 branchrow)

/-- The normed rows. -/
def normed (x : FVec Ideal S128x1x1024 .f32) (g : FVec Ideal S1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))

/-- Their product with the weights. -/
def prod (x : FVec Ideal S128x1x1024 .f32) (g : FVec Ideal S1024 .f32) (w : FVec Ideal S1024x6656 .f32) : FVec Ideal S128x1x6656 .f32 :=
  Host.dotGeneral dot_S128x1x1024_S1024x6656_S128x1x6656_2_0_01_1_n_n none (normed x g) w

theorem prod_apply (x : FVec Ideal S128x1x1024 .f32) (g : FVec Ideal S1024 .f32) (w : FVec Ideal S1024x6656 .f32) (s : Fin 128) (l : Fin 6656) :
    (prod x g w (ix3 s 0 l) : EReal) = prow (xr x s) g w l := by
  unfold prod normed
  pointwise
  rfl

variable (p : FVec Ideal S128x1x6656 .f32)

/-- 512 of the product's columns, from column `o` on. -/
abbrev part (o : ℕ) (h : S128x1x6656.Slices ![0, 0, o] S128x1x512) : FVec Ideal S128x1x512 .f32 := extractStridedSlice S128x1x512 ![0, 0, o] p h

theorem part_apply (o : ℕ) (h : S128x1x6656.Slices ![0, 0, o] S128x1x512) (s : Fin 128) (l : Fin 512) (ho : o + l.val < 6656) :
    (part p o h (ix3 s 0 l) : EReal) = p (ix3 s 0 ⟨o + l.val, ho⟩) :=
  extractStridedSlice_apply _ _ _ _ (ix3 s 0 ⟨o + l.val, ho⟩) (fun a => by fin_cases a <;> simp)

/-- The samples' rows without the axis of one. -/
theorem flat_apply {n : ℕ} {α : Type} (y : (⟨3, ![128, 1, n]⟩ : Shape).Idx → α) (h) (s : Fin 128) (l : Fin n) :
    shapeCast (⟨2, ![128, n]⟩ : Shape) y h (ix2 s l) = y (ix3 s 0 l) := by
  refine shapeCast_apply _ _ _ (ix3 s 0 l) ?_
  rw [Shape.rowMajor_val_two, Shape.rowMajor_val_three]
  show (s.val * 1 + 0) * n + l.val = s.val * n + l.val
  rw [Nat.mul_one, Nat.add_zero]

/-- The keys' or the values' columns. -/
def turned (y : FVec Ideal S128x1x512 .f32) : FVec Ideal S1x512x128 .f32 := transpose S1x512x128 [1, 2, 0] y transposes_S128x1x512_S1x512x128_1_2_0

theorem turned_apply (y : FVec Ideal S128x1x512 .f32) (s : Fin 128) (l : Fin 512) : (turned y (ix3 0 l s) : EReal) = y (ix3 s 0 l) := by
  unfold turned
  pointwise
  rfl

/-- The convolution's inputs, with the axis of one first. -/
def led (y : FVec Ideal S128x1x512 .f32) : FVec Ideal S1x128x512 .f32 := transpose S1x128x512 [1, 0, 2] y transposes_S128x1x512_S1x128x512_1_0_2

theorem led_apply (y : FVec Ideal S128x1x512 .f32) (s : Fin 128) (l : Fin 512) : (led y (ix3 0 s l) : EReal) = y (ix3 s 0 l) := by
  unfold led
  pointwise
  rfl

/-- The queries, scaled. -/
def queries (y : FVec Ideal S128x1x512 .f32) : FVec Ideal S128x512 .bf16 :=
  truncf .bf16 (shapeCast S128x512 (mulf y (broadcastInDim S128x1x512 ![] bcast_S_S128x1x512 (constant S_ .f32 0x3E000000#32))) shapeCasts_S128x1x512_S128x512) bitsLt_bf16_f32

theorem queries_apply (y : FVec Ideal S128x1x512 .f32) (s : Fin 128) (l : Fin 512) :
    (queries y (ix2 s l) : EReal) = y (ix3 s 0 l) * Ideal.ofBits .f32 0x3E000000#32 := by
  unfold queries
  show (shapeCast S128x512 (mulf y (broadcastInDim S128x1x512 ![] bcast_S_S128x1x512 (constant S_ .f32 0x3E000000#32))) shapeCasts_S128x1x512_S128x512 _ : EReal) = _
  exact flat_apply (n := 512) _ shapeCasts_S128x1x512_S128x512 s l

/-- The heads' columns, normed. -/
def heads (y : FVec Ideal S128x1x4x128 .f32) (n : FVec Ideal S128 .f32) : FVec Ideal S128x1x4x128 .f32 :=
  mulf (mulf y (broadcastInDim S128x1x4x128 ![0, 1, 2, 3] bcast_S128x1x4x1_S128x1x4x128_0_1_2_3 (Host.rsqrt (addf (Host.divf (broadcastInDim S128x1x4x1 ![0, 1, 2] bcast_S128x1x4_S128x1x4x1_0_1_2 (Host.reduceAdd (mulf y y) (constant S_ .f32 0x00000000#32) reducesTo_S128x1x4x128_S128x1x4_d3 h_S_)) (broadcastInDim S128x1x4x1 ![] bcast_S_S128x1x4x1 (constant S_ .f32 0x43000000#32))) (broadcastInDim S128x1x4x1 ![] bcast_S_S128x1x4x1 (constant S_ .f32 0x358637BD#32)))))) (broadcastInDim S128x1x4x128 ![0, 1, 2, 3] bcast_S1x1x1x128_S128x1x4x128_0_1_2_3 (broadcastInDim S1x1x1x128 ![3] bcast_S128_S1x1x1x128_3 n))

theorem heads_apply (y : FVec Ideal S128x1x4x128 .f32) (n : FVec Ideal S128 .f32) (s : Fin 128) (h : Fin 4) (d : Fin 128) :
    (heads y n (ix4 s 0 h d) : EReal) = nrm narrow (fun j => (y (ix4 s 0 h j) : EReal)) d * n (ix1 d) := by
  unfold heads
  pointwise
  rfl

/-- The memory's queries. -/
def memQueries (y : FVec Ideal S128x1x512 .f32) (n : FVec Ideal S128 .f32) : FVec Ideal S128x512 .bf16 :=
  truncf .bf16 (shapeCast S128x512 (heads (shapeCast S128x1x4x128 y shapeCasts_S128x1x512_S128x1x4x128) n) shapeCasts_S128x1x4x128_S128x512) bitsLt_bf16_f32

theorem memQueries_apply (y : FVec Ideal S128x1x512 .f32) (n : FVec Ideal S128 .f32) (s : Fin 128) (h : Fin 4) (d : Fin 128) (l : Fin 512)
    (hl : l.val = 128 * h.val + d.val) :
    (memQueries y n (ix2 s l) : EReal)
      = nrm narrow (fun j : Fin 128 => (y (ix3 s 0 ⟨128 * h.val + j.val, by omega⟩) : EReal)) d * n (ix1 d) := by
  unfold memQueries
  show (shapeCast S128x512 (heads (shapeCast S128x1x4x128 y shapeCasts_S128x1x512_S128x1x4x128) n) shapeCasts_S128x1x4x128_S128x512 _ : EReal) = _
  refine (shapeCast_apply _ shapeCasts_S128x1x4x128_S128x512 _ (ix4 s 0 h d) ?_).trans ?_
  · rw [Shape.rowMajor_val_two, Shape.rowMajor_val_four]
    show ((s.val * 1 + 0) * 4 + h.val) * 128 + d.val = s.val * 512 + l.val
    omega
  · rw [heads_apply]
    refine congrArg (· * _) (congrFun (congrArg (nrm narrow) (funext fun j => ?_)) d)
    refine shapeCast_apply _ _ _ (ix3 s 0 ⟨128 * h.val + j.val, by omega⟩) ?_
    rw [Shape.rowMajor_val_three, Shape.rowMajor_val_four]
    show (s.val * 1 + 0) * 512 + (128 * h.val + j.val) = ((s.val * 1 + 0) * 4 + h.val) * 128 + j.val
    omega

/-- The gates of the three branches. -/
def gates : FVec Ideal S128x1x3x1024 .f32 :=
  Host.divf (broadcastInDim S128x1x3x1024 ![] bcast_S_S128x1x3x1024 (constant S_ .f32 0x3F800000#32)) (addf (broadcastInDim S128x1x3x1024 ![] bcast_S_S128x1x3x1024 (constant S_ .f32 0x3F800000#32)) (Host.exp (Host.negf (shapeCast S128x1x3x1024 (extractStridedSlice S128x1x3072 ![0, 0, 3584] p slices_S128x1x6656_S128x1x3072_0_0_3584) shapeCasts_S128x1x3072_S128x1x3x1024))))

theorem gates_apply (s : Fin 128) (j : Fin 3) (l : Fin 1024) :
    (gates p (ix4 s 0 j l) : EReal) = Ideal.logistic (p (ix3 s 0 ⟨3584 + (1024 * j.val + l.val), by omega⟩)) := by
  unfold gates
  show Ideal.div (Ideal.ofBits .f32 0x3F800000#32) (Ideal.ofBits .f32 0x3F800000#32 + Ideal.exp (-(shapeCast S128x1x3x1024 (extractStridedSlice S128x1x3072 ![0, 0, 3584] p slices_S128x1x6656_S128x1x3072_0_0_3584) shapeCasts_S128x1x3072_S128x1x3x1024 (ix4 s 0 j l) : EReal))) = _
  rw [Ideal.ofBits_one_f32, shapeCast_apply _ _ _ (ix3 s 0 (⟨1024 * j.val + l.val, by omega⟩ : Fin 3072))]
  · rw [extractStridedSlice_apply _ _ _ _ (ix3 s 0 ⟨3584 + (1024 * j.val + l.val), by omega⟩) (fun a => by fin_cases a <;> simp)]
    rfl
  · rw [Shape.rowMajor_val_three, Shape.rowMajor_val_four]
    show (s.val * 1 + 0) * 3072 + (1024 * j.val + l.val) = ((s.val * 1 + 0) * 3 + j.val) * 1024 + l.val
    omega

/-- One branch's gates. -/
def gate (j : ℕ) (h : S128x1x3x1024.Slices ![0, 0, j, 0] S128x1x1x1024) : FVec Ideal S128x1x1024 .f32 :=
  shapeCast S128x1x1024 (extractStridedSlice S128x1x1x1024 ![0, 0, j, 0] (gates p) h) shapeCasts_S128x1x1x1024_S128x1x1024

theorem gate_apply (j : ℕ) (h) (hj : j < 3) (s : Fin 128) (l : Fin 1024) :
    (gate p j h (ix3 s 0 l) : EReal) = Ideal.logistic (p (ix3 s 0 ⟨3584 + (1024 * j + l.val), by omega⟩)) := by
  unfold gate
  rw [shapeCast_apply _ _ _ (ix4 s (0 : Fin 1) (0 : Fin 1) l)]
  · rw [extractStridedSlice_apply _ _ _ _ (ix4 s 0 ⟨j, hj⟩ l) (fun a => by fin_cases a <;> simp), gates_apply]
  · rw [Shape.rowMajor_val_three, Shape.rowMajor_val_four]
    show ((s.val * 1 + 0) * 1 + 0) * 1024 + l.val = (s.val * 1 + 0) * 1024 + l.val
    omega

/-- The inputs of the convolution. -/
def inputs : FVec Ideal S128x1x512 .f32 :=
  mulf (part p 512 slices_S128x1x6656_S128x1x512_0_0_512) (part p 0 slices_S128x1x6656_S128x1x512_0_0_0)

theorem inputs_apply (s : Fin 128) (l : Fin 512) :
    (inputs p (ix3 s 0 l) : EReal) = p (ix3 s 0 ⟨512 + l.val, by omega⟩) * p (ix3 s 0 ⟨0 + l.val, by omega⟩) :=
  congrArg₂ (fun a b : EReal => a * b) (part_apply p 512 _ s l _) (part_apply p 0 _ s l _)

variable (st : FVec Ideal S128x2x512 .f32) (u : FVec Ideal S128x1x512 .f32)

/-- The two rows kept of each sample, then its own. -/
def joined : FVec Ideal S128x3x512 .f32 := concatenate S128x3x512 1 [⟨S128x2x512, st⟩, ⟨S128x1x512, u⟩] concatenates_S128x2x512_S128x1x512_S128x3x512_d1

/-- The rows `2 - d` back. -/
def shifted (d : ℕ) (h : S128x3x512.Slices ![0, d, 0] S128x1x512) : FVec Ideal S128x1x512 .f32 := extractStridedSlice S128x1x512 ![0, d, 0] (joined st u) h

theorem shifted_zero (h) (s : Fin 128) (l : Fin 512) : (shifted st u 0 h (ix3 s 0 l) : EReal) = st (ix3 s 0 l) := by
  unfold shifted joined
  pointwise
  rfl

theorem shifted_one (h) (s : Fin 128) (l : Fin 512) : (shifted st u 1 h (ix3 s 0 l) : EReal) = st (ix3 s 1 l) := by
  unfold shifted joined
  pointwise
  rfl

theorem shifted_two (h) (s : Fin 128) (l : Fin 512) : (shifted st u 2 h (ix3 s 0 l) : EReal) = u (ix3 s 0 l) := by
  unfold shifted joined
  pointwise
  rfl

/-- One row of the convolution's weights, for every sample. -/
def tap (cw : FVec Ideal S3x512 .f32) (j : ℕ) (h : S3x512.Slices ![j, 0] S1x512) : FVec Ideal S128x1x512 .f32 :=
  broadcastInDim S128x1x512 ![0, 1, 2] bcast_S1x1x512_S128x1x512_0_1_2 (broadcastInDim S1x1x512 ![2] bcast_S512_S1x1x512_2 (shapeCast S512 (extractStridedSlice S1x512 ![j, 0] cw h) shapeCasts_S1x512_S512))

theorem tap_apply (cw : FVec Ideal S3x512 .f32) (j : ℕ) (h) (hj : j < 3) (s : Fin 128) (l : Fin 512) :
    (tap cw j h (ix3 s 0 l) : EReal) = cw (ix2 ⟨j, hj⟩ l) := by
  unfold tap
  rw [broadcastInDim_apply _ _ _ _ (ix3 (0 : Fin 1) (0 : Fin 1) l) (fun a => by fin_cases a <;> rfl),
    broadcastInDim_apply _ _ _ _ (ix1 l) (fun a => by fin_cases a; rfl), shapeCast_apply _ _ _ (ix2 (0 : Fin 1) l)]
  · exact extractStridedSlice_apply _ _ _ _ (ix2 ⟨j, hj⟩ l) (fun a => by fin_cases a <;> simp)
  · rw [Shape.rowMajor_val_one, Shape.rowMajor_val_two]
    show 0 * 512 + l.val = l.val
    omega

/-- The convolution. -/
def conv (cw : FVec Ideal S3x512 .f32) : FVec Ideal S128x1x512 .f32 :=
  addf (addf (mulf (shifted st u 0 slices_S128x3x512_S128x1x512_0_0_0) (tap cw 0 slices_S3x512_S1x512_0_0))
    (mulf (shifted st u 1 slices_S128x3x512_S128x1x512_0_1_0) (tap cw 1 slices_S3x512_S1x512_1_0)))
    (mulf (shifted st u 2 slices_S128x3x512_S128x1x512_0_2_0) (tap cw 2 slices_S3x512_S1x512_2_0))

/-- The gated branch after the convolution. -/
def branch (cw : FVec Ideal S3x512 .f32) (wb : FVec Ideal S3x512x1024 .f32) : FVec Ideal S128x1024 .f32 :=
  shapeCast S128x1024 (mulf (gate p 0 slices_S128x1x3x1024_S128x1x1x1024_0_0_0_0)
    (Host.dotGeneral dot_S128x1x512_S512x1024_S128x1x1024_2_0_01_1_n_n none
      (mulf (part p 1024 slices_S128x1x6656_S128x1x512_0_0_1024) (conv st (inputs p) cw))
      (shapeCast S512x1024 (extractStridedSlice S1x512x1024 ![0, 0, 0] wb slices_S3x512x1024_S1x512x1024_0_0_0) shapeCasts_S1x512x1024_S512x1024)))
    shapeCasts_S128x1x1024_S128x1024

theorem branch_apply (cw : FVec Ideal S3x512 .f32) (wb : FVec Ideal S3x512x1024 .f32) (s : Fin 128) (l : Fin 1024) :
    (branch p st cw wb (ix2 s l) : EReal)
      = (gate p 0 slices_S128x1x3x1024_S128x1x1x1024_0_0_0_0 (ix3 s 0 l) : EReal) * ∑ j : Fin 512,
          ((p (ix3 s 0 ⟨1024 + j.val, by omega⟩) : EReal) * ((st (ix3 s 0 j) * cw (ix2 0 j) + st (ix3 s 1 j) * cw (ix2 1 j))
            + inputs p (ix3 s 0 j) * cw (ix2 2 j))) * wb (ix3 0 j l) := by
  refine (flat_apply (n := 1024) _ shapeCasts_S128x1x1024_S128x1024 s l).trans ?_
  refine congrArg₂ (fun a b : EReal => a * b) rfl ?_
  have e : ∀ (y : FVec Ideal S128x1x512 .f32) (z : FVec Ideal S512x1024 .f32),
      (Host.dotGeneral dot_S128x1x512_S512x1024_S128x1x1024_2_0_01_1_n_n none y z (ix3 s 0 l) : EReal) = ∑ j : Fin 512, (y (ix3 s 0 j) : EReal) * z (ix2 j l) := by
    intro y z
    pointwise
    rfl
  refine (e _ _).trans (Finset.sum_congr rfl fun j _ => ?_)
  refine congrArg₂ (fun a b : EReal => a * b) ?_ ?_
  · refine congrArg₂ (fun a b : EReal => a * b) (part_apply p 1024 _ s j _) ?_
    refine congrArg₂ (fun a b : EReal => a + b) (congrArg₂ (fun a b : EReal => a + b) ?_ ?_) ?_
    · exact congrArg₂ (fun a b : EReal => a * b) (shifted_zero _ _ _ s j) (tap_apply cw 0 _ (by omega) s j)
    · exact congrArg₂ (fun a b : EReal => a * b) (shifted_one _ _ _ s j) (tap_apply cw 1 _ (by omega) s j)
    · exact congrArg₂ (fun a b : EReal => a * b) (shifted_two _ _ _ s j) (tap_apply cw 2 _ (by omega) s j)
  · refine (shapeCast_apply _ _ _ (ix3 (0 : Fin 1) j l) ?_).trans ?_
    · rw [Shape.rowMajor_val_two, Shape.rowMajor_val_three]
      show (0 * 512 + j.val) * 1024 + l.val = j.val * 1024 + l.val
      omega
    · exact extractStridedSlice_apply _ _ _ _ (ix3 0 j l) (fun a => by fin_cases a <;> simp)

end Cert.InSample.Ref

namespace Cert.InSample

open Idealize.ShloMosaic hiding ix1 ix2 ix3 ix4
open Idealize.ShloMosaic.ValueIdx Cert.Layer
open Cert.InProj (prow urow qrow qxrow gate0row gate1row gate2row conv3 branchrow)

theorem rows_ext {n : ℕ} (A : (⟨2, ![128, n]⟩ : Shape).Idx → EReal) (f : Fin 128 → Fin n → EReal)
    (h : ∀ (s : Fin 128) (l : Fin n), A (ix2 s l) = f s l) : A = rows f := by
  funext i
  have e : i = ix2 ⟨(i 0).val, (i 0).isLt⟩ ⟨(i 1).val, (i 1).isLt⟩ := by funext a; fin_cases a <;> rfl
  exact (congrArg A e).trans (h ⟨(i 0).val, (i 0).isLt⟩ ⟨(i 1).val, (i 1).isLt⟩)

theorem columns_ext (A : (⟨3, ![1, 512, 128]⟩ : Shape).Idx → EReal) (f : Fin 128 → Fin 512 → EReal)
    (h : ∀ (s : Fin 128) (l : Fin 512), A (ix3 0 l s) = f s l) : A = columns f := by
  funext i
  have e : i = ix3 (0 : Fin 1) ⟨(i 1).val, (i 1).isLt⟩ ⟨(i 2).val, (i 2).isLt⟩ := by
    funext a; fin_cases a; exact (Subsingleton.elim (α := Fin 1) _ _); all_goals rfl
  exact (congrArg A e).trans (h ⟨(i 2).val, (i 2).isLt⟩ ⟨(i 1).val, (i 1).isLt⟩)

theorem slab_ext (A : (⟨3, ![1, 128, 512]⟩ : Shape).Idx → EReal) (f : Fin 128 → Fin 512 → EReal)
    (h : ∀ (s : Fin 128) (l : Fin 512), A (ix3 0 s l) = f s l) : A = slab f := by
  funext i
  have e : i = ix3 (0 : Fin 1) ⟨(i 1).val, (i 1).isLt⟩ ⟨(i 2).val, (i 2).isLt⟩ := by
    funext a; fin_cases a; exact (Subsingleton.elim (α := Fin 1) _ _); all_goals rfl
  exact (congrArg A e).trans (h ⟨(i 1).val, (i 1).isLt⟩ ⟨(i 2).val, (i 2).isLt⟩)

open Cert.InSample.Ref Cert.Reference3Ideal Cert.Reference3Ideal.Gen

variable (x : FVec Ideal S128x1x1024 .f32) (g : FVec Ideal S1024 .f32) (w : FVec Ideal S1024x6656 .f32) (n : FVec Ideal S128 .f32)
  (cw : FVec Ideal S3x512 .f32) (wb : FVec Ideal S3x512x1024 .f32) (st : FVec Ideal S128x2x512 .f32)

theorem kt_eq : (turned (part (prod x g w) 2048 slices_S128x1x6656_S128x1x512_0_0_2048) : S1x512x128.Idx → EReal) = columns (fK x g w) :=
  columns_ext _ _ fun s l => (turned_apply _ s l).trans ((part_apply _ 2048 _ s l _).trans (prod_apply x g w s _))

theorem vt_eq : (turned (part (prod x g w) 2560 slices_S128x1x6656_S128x1x512_0_0_2560) : S1x512x128.Idx → EReal) = columns (fV x g w) :=
  columns_ext _ _ fun s l => (turned_apply _ s l).trans ((part_apply _ 2560 _ s l _).trans (prod_apply x g w s _))

theorem q_eq : (queries (part (prod x g w) 1536 slices_S128x1x6656_S128x1x512_0_0_1536) : S128x512.Idx → EReal) = rows (fQ x g w) :=
  rows_ext _ _ fun s l => (queries_apply _ s l).trans
    (congrArg (· * Ideal.ofBits .f32 0x3E000000#32) ((part_apply _ 1536 _ s l _).trans (prod_apply x g w s _)))

theorem qx_eq : (memQueries (part (prod x g w) 3072 slices_S128x1x6656_S128x1x512_0_0_3072) n : S128x512.Idx → EReal) = rows (fX x g w n) :=
  rows_ext _ _ fun s l => by
    have hl := l.isLt
    refine (memQueries_apply _ n s ⟨l.val / 128, by omega⟩ ⟨l.val % 128, by omega⟩ l
      (by show l.val = 128 * (l.val / 128) + l.val % 128; omega)).trans ?_
    unfold fX qxrow
    refine congrArg (· * _) (congrFun (congrArg (nrm narrow) (funext fun j => ?_)) _)
    exact (part_apply _ 3072 _ s _ (by dsimp only; omega)).trans (prod_apply x g w s _)

theorem gate_row (j : ℕ) (h) (hj : j < 3) (s : Fin 128) (l : Fin 1024) (o : Fin 6656) (ho : o.val = 3584 + (1024 * j + l.val)) :
    (gate (prod x g w) j h (ix3 s 0 l) : EReal) = Ideal.logistic (prow (xr x s) g w o) := by
  rw [gate_apply _ j h hj, prod_apply]
  exact congrArg (fun o => Ideal.logistic (prow (xr x s) g w o)) (Fin.ext ho.symm)

theorem g1_eq : (shapeCast S128x1024 (gate (prod x g w) 1 slices_S128x1x3x1024_S128x1x1x1024_0_0_1_0) shapeCasts_S128x1x1024_S128x1024 : S128x1024.Idx → EReal)
    = rows (fG1 x g w) :=
  rows_ext _ _ fun s l => (flat_apply (n := 1024) _ shapeCasts_S128x1x1024_S128x1024 s l).trans
    (gate_row x g w 1 _ (by omega) s l _ (by show 4608 + l.val = 3584 + (1024 * 1 + l.val); omega))

theorem g2_eq : (shapeCast S128x1024 (gate (prod x g w) 2 slices_S128x1x3x1024_S128x1x1x1024_0_0_2_0) shapeCasts_S128x1x1024_S128x1024 : S128x1024.Idx → EReal)
    = rows (fG2 x g w) :=
  rows_ext _ _ fun s l => (flat_apply (n := 1024) _ shapeCasts_S128x1x1024_S128x1024 s l).trans
    (gate_row x g w 2 _ (by omega) s l _ (by show 5632 + l.val = 3584 + (1024 * 2 + l.val); omega))

theorem inputs_row (s : Fin 128) (l : Fin 512) : (inputs (prod x g w) (ix3 s 0 l) : EReal) = urow (xr x s) g w l := by
  rw [inputs_apply, prod_apply, prod_apply]
  rfl

theorem tail_eq : (led (inputs (prod x g w)) : S1x128x512.Idx → EReal) = slab (fU x g w) :=
  slab_ext _ _ fun s l => (led_apply _ s l).trans (inputs_row x g w s l)

theorem ms_eq : (branch (prod x g w) st cw wb : S128x1024.Idx → EReal) = rows (fM x g w cw wb st) :=
  rows_ext _ _ fun s l => by
    rw [Ref.branch_apply, gate_row x g w 0 _ (by omega) s l ⟨3584 + l.val, by omega⟩ (by show 3584 + l.val = 3584 + (1024 * 0 + l.val); omega)]
    unfold fM branchrow gate0row
    refine congrArg (fun a : EReal => _ * a) (Finset.sum_congr rfl fun j _ => ?_)
    rw [prod_apply, inputs_row]
    rfl

end Cert.InSample
-- ==== Proof.Mem.lean ====
/-
  The keys and values of the memory, as the kernel computes them: what one grid point leaves in its two blocks, and the two
  arrays.
-/
module

public import proofs.«01_k».proof.Proof.Norm
public import proofs.«01_k».proof.Proof.Gen.Kernel4Ideal.Value
public import Idealize.ShloMosaic.Lib.Pipeline.ValueKit

@[expose] public section

set_option maxRecDepth 16384

noncomputable section

namespace Cert.MemKv

open Idealize.ShloMosaic hiding ix1 ix2 ix3 ix4
open Idealize.ShloMosaic.ValueIdx Idealize.ShloMosaic.TcCoe Idealize.ShloMosaic.StableHlo Cert.Layer Cert.Kernel4Ideal Cert.Kernel4Ideal.Gen

section Body

variable (x : Vec Ideal S256x1024 .f32) (g : Vec Ideal S1x1024 .f32) (w : Vec Ideal S1024x1024 .bf16) (kn : Vec Ideal S1x128 .f32)

/-- An entry of the product of the normed rows with the weights. -/
theorem prod_apply (r : Fin 256) (l : Fin 1024) :
    (k0_pay3 x g w (ix2 r l) : EReal) = proj (fun k => x (ix2 r k)) (fun k => g (ix2 0 k)) (fun k => w (ix2 k l)) := by
  unfold k0_pay3
  pointwise
  rfl

/-- One entry of a row's keys: its head's 128 columns of the product, normed. -/
def keyOf (r : Fin 256) (h : Fin 4) (d : Fin 128) : EReal :=
  nrm narrow (fun j : Fin 128 => (k0_pay3 x g w (ix2 r ⟨128 * h.val + j.val, by omega⟩) : EReal)) d * kn (ix2 0 d)

/-- The block of keys. -/
def keyBlk (i : S256x512.Idx) : EReal :=
  keyOf x g w kn ⟨(i 0).val, (i 0).isLt⟩ ⟨(i 1).val / 128, by have : (i 1).val < 512 := (i 1).isLt; omega⟩ ⟨(i 1).val % 128, by omega⟩

theorem keyBlk_at (i : S256x512.Idx) (r : Fin 256) (h : Fin 4) (d : Fin 128) (h0 : (i 0).val = r.val) (h1 : (i 1).val = 128 * h.val + d.val) :
    keyBlk x g w kn i = keyOf x g w kn r h d := by
  unfold keyBlk
  have hd := d.isLt
  have e0 : (⟨(i 0).val, (i 0).isLt⟩ : Fin 256) = r := Fin.ext h0
  have e1 : (⟨(i 1).val / 128, by have : (i 1).val < 512 := (i 1).isLt; omega⟩ : Fin 4) = h := Fin.ext (by show (i 1).val / 128 = h.val; omega)
  have e2 : (⟨(i 1).val % 128, by omega⟩ : Fin 128) = d := Fin.ext (by show (i 1).val % 128 = d.val; omega)
  rw [e0, e1, e2]

theorem keyOf_zero (r : Fin 256) (d : Fin 128) :
    keyOf x g w kn r 0 d = nrm narrow (fun j : Fin 128 => (k0_pay3 x g w (ix2 r ⟨j.val, by omega⟩) : EReal)) d * kn (ix2 0 d) := by
  unfold keyOf
  refine congrArg (· * _) (congrFun (congrArg (nrm narrow) (funext fun j => congrArg (k0_pay3 x g w) (congrArg (ix2 r) (Fin.ext ?_)))) d)
  show 128 * 0 + j.val = j.val
  omega

theorem head0 (r : Fin 256) (d : Fin 128) : (k0_pay4 x g w kn (ix2 r d) : EReal) = keyOf x g w kn r 0 d := by
  rw [keyOf_zero]
  unfold k0_pay4
  pointwise
  rfl

theorem head1 (r : Fin 256) (d : Fin 128) : (k0_pay7 (k0_pay5 x g w) (k0_pay6 kn) (ix2 r d) : EReal) = keyOf x g w kn r 1 d := by
  unfold k0_pay7 k0_pay5 k0_pay6
  pointwise
  rfl

theorem head2 (r : Fin 256) (d : Fin 128) : (k0_pay8 (k0_pay3 x g w) kn (ix2 r d) : EReal) = keyOf x g w kn r 2 d := by
  unfold k0_pay8
  pointwise
  rfl

theorem head3 (r : Fin 256) (d : Fin 128) :
    (k0_pay1 (k0_pay9 (k0_pay3 x g w)) (k0_pay10 kn) (k0_pay11 (k0_pay3 x g w)) (ix2 r d) : EReal) = keyOf x g w kn r 3 d := by
  unfold k0_pay1 k0_pay10 k0_pay11
  pointwise
  unfold k0_pay9
  pointwise
  rfl

/-- The values: the other 512 columns of the product. -/
theorem vals_apply (r : Fin 256) (l : Fin 512) :
    (k0_pay2 (k0_pay3 x g w) (ix2 r l) : EReal) = k0_pay3 x g w (ix2 r ⟨512 + l.val, by omega⟩) := by
  unfold k0_pay2
  pointwise
  rfl

/-- What one grid point leaves in its block of keys. -/
theorem out_keys (i : S256x512.Idx) : (out0_4 x g w kn i : EReal) = keyBlk x g w kn i := by
  have h := cover0_4 (F := Ideal) (k0_pay1 (k0_pay9 (k0_pay3 x g w)) (k0_pay10 kn) (k0_pay11 (k0_pay3 x g w))) (k0_pay8 (k0_pay3 x g w) kn)
    (k0_pay7 (k0_pay5 x g w) (k0_pay6 kn)) (k0_pay4 x g w kn) i
  unfold out0_4 k0_pay12
  rw [View.ld_unit_lit _ _ (by decide), View.ld_unit_lit _ _ (by decide), View.ld_unit_lit _ _ (by decide), View.ld_unit_lit _ _ (by decide)]
  refine View.canon_apply_of_pieces (Val := Elt Ideal) (e := .f32) (keyBlk x g w kn) _ ?_ i h
  intro pc hpc y
  simp only [List.mem_cons, List.not_mem_nil, or_false] at hpc
  rcases hpc with rfl | rfl | rfl | rfl
  · obtain ⟨r, l, rfl⟩ : ∃ (r : Fin 256) (l : Fin 128), y = ix2 r l := ⟨y 0, y 1, by funext a; fin_cases a <;> rfl⟩
    refine (head3 x g w kn r l).trans (keyBlk_at x g w kn _ r 3 l ?_ ?_).symm
    · show 0 + 1 * r.val = r.val; omega
    · show 384 + 1 * l.val = 384 + l.val; omega
  · obtain ⟨r, l, rfl⟩ : ∃ (r : Fin 256) (l : Fin 128), y = ix2 r l := ⟨y 0, y 1, by funext a; fin_cases a <;> rfl⟩
    refine (head2 x g w kn r l).trans (keyBlk_at x g w kn _ r 2 l ?_ ?_).symm
    · show 0 + 1 * r.val = r.val; omega
    · show 256 + 1 * l.val = 256 + l.val; omega
  · obtain ⟨r, l, rfl⟩ : ∃ (r : Fin 256) (l : Fin 128), y = ix2 r l := ⟨y 0, y 1, by funext a; fin_cases a <;> rfl⟩
    refine (head1 x g w kn r l).trans (keyBlk_at x g w kn _ r 1 l ?_ ?_).symm
    · show 0 + 1 * r.val = r.val; omega
    · show 128 + 1 * l.val = 128 + l.val; omega
  · obtain ⟨r, l, rfl⟩ : ∃ (r : Fin 256) (l : Fin 128), y = ix2 r l := ⟨y 0, y 1, by funext a; fin_cases a <;> rfl⟩
    refine (head0 x g w kn r l).trans (keyBlk_at x g w kn _ r 0 l ?_ ?_).symm
    · show 0 + 1 * r.val = r.val; omega
    · show 0 + 1 * l.val = 0 + l.val; omega

/-- What one grid point leaves in its block of values. -/
theorem out_vals (r : Fin 256) (l : Fin 512) :
    (out0_5 x g w kn (ix2 r l) : EReal) = k0_pay3 x g w (ix2 r ⟨512 + l.val, by omega⟩) := by
  unfold out0_5 k0_pay12
  rw [View.ld_unit_lit _ _ (by decide), View.ld_unit_lit _ _ (by decide), View.ld_unit_lit _ _ (by decide)]
  exact (congrFun (View.canon_cons_unit_lit _ _ _ (by decide)) _).trans (vals_apply x g w r l)

end Body

variable (m : (ℓ : Loc nD τ sig) → Buf (Elt Ideal) ℓ) (c : Dev nD)

/-- The argument arrays. -/
def xArr : S4x256x1024.Idx → EReal := m ((c : Thread nD τ).loc main_arg0)
def gArr : S1024.Idx → EReal := m ((c : Thread nD τ).loc main_arg1)
def wArr : S1024x1024.Idx → EReal := m ((c : Thread nD τ).loc main_arg2)
def kArr : S128.Idx → EReal := m ((c : Thread nD τ).loc main_arg3)

theorem V_x (b : Fin 4) (s : Fin 256) (k : Fin 1024) :
    (V m c main_v0 (ix2 ⟨256 * b.val + s.val, by omega⟩ k) : EReal) = xArr m c (ix3 b s k) := by
  unfold_abbrev_sides
  after_results
  show (shapeCast S1024x1024 (xArr m c) shapeCasts_S4x256x1024_S1024x1024 _ : EReal) = _
  refine shapeCast_apply (xArr m c) _ _ (ix3 b s k) ?_
  rw [Shape.rowMajor_val_two, Shape.rowMajor_val_three]
  show (b.val * 256 + s.val) * 1024 + k.val = (256 * b.val + s.val) * 1024 + k.val
  omega

theorem V_w (k l : Fin 1024) : (V m c main_v1 (ix2 k l) : EReal) = wArr m c (ix2 k l) := by
  unfold_abbrev_sides
  after_results
  rfl

theorem V_g (k : Fin 1024) : (V m c main_v2 (ix2 0 k) : EReal) = gArr m c (ix1 k) := by
  unfold_abbrev_sides
  after_results
  show (shapeCast S1x1024 (gArr m c) shapeCasts_S1024_S1x1024 _ : EReal) = _
  refine shapeCast_apply (gArr m c) _ _ (ix1 k) ?_
  rw [Shape.rowMajor_val_two, Shape.rowMajor_val_one]
  show k.val = 0 * 1024 + k.val
  omega

theorem V_kn (d : Fin 128) : (V m c main_v3 (ix2 0 d) : EReal) = kArr m c (ix1 d) := by
  unfold_abbrev_sides
  after_results
  show (shapeCast S1x128 (kArr m c) shapeCasts_S128_S1x128 _ : EReal) = _
  refine shapeCast_apply (kArr m c) _ _ (ix1 d) ?_
  rw [Shape.rowMajor_val_two, Shape.rowMajor_val_one]
  show d.val = 0 * 128 + d.val
  omega

/-- The blocks' places. -/
theorem index_all : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] := by decide +kernel

theorem points : grid0.N = 4 := by decide

def batch (t : Fin grid0.N) : Fin 4 := ⟨t.val, by have := t.isLt; have := points; omega⟩

theorem blk_x (t : Fin grid0.N) (r : Fin 256) (k : Fin 1024) : (iblk m c 0 t (ix2 r k) : EReal) = xArr m c (ix3 (batch t) r k) := by
  rw [← V_x]
  show V m c main_v0 _ = _
  blk_ext [(index_all t).1]
  show t.val * 256 + r.val = 256 * t.val + r.val
  omega

theorem blk_g (t : Fin grid0.N) (k : Fin 1024) : (iblk m c 1 t (ix2 0 k) : EReal) = gArr m c (ix1 k) := by
  rw [← V_g]
  show V m c main_v2 _ = _
  blk_ext [(index_all t).2.1]

theorem blk_w (t : Fin grid0.N) (k l : Fin 1024) : (iblk m c 2 t (ix2 k l) : EReal) = wArr m c (ix2 k l) := by
  rw [← V_w]
  show V m c main_v1 _ = _
  blk_ext [(index_all t).2.2.1]

theorem blk_kn (t : Fin grid0.N) (d : Fin 128) : (iblk m c 3 t (ix2 0 d) : EReal) = kArr m c (ix1 d) := by
  rw [← V_kn]
  show V m c main_v3 _ = _
  blk_ext [(index_all t).2.2.2.1]

end Cert.MemKv

namespace Cert.MemKv

open Idealize.ShloMosaic hiding ix1 ix2 ix3 ix4
open Idealize.ShloMosaic.ValueIdx Cert.Layer

section Result

variable (x : (⟨3, ![4, 256, 1024]⟩ : Shape).Idx → EReal) (g : (⟨1, ![1024]⟩ : Shape).Idx → EReal)
  (w : (⟨2, ![1024, 1024]⟩ : Shape).Idx → EReal) (kn : (⟨1, ![128]⟩ : Shape).Idx → EReal)

/-- The projections of one row. -/
def pr (b : Fin 4) (s : Fin 256) (l : Fin 1024) : EReal := proj (fun k => x (ix3 b s k)) (fun k => g (ix1 k)) (fun k => w (ix2 k l))

/-- One entry of a row's keys. -/
def key (b : Fin 4) (s : Fin 256) (h : Fin 4) (d : Fin 128) : EReal :=
  nrm narrow (fun j : Fin 128 => pr x g w b s ⟨128 * h.val + j.val, by omega⟩) d * kn (ix1 d)

/-- The two results as arrays. -/
def keyArr (i : (⟨2, ![1024, 512]⟩ : Shape).Idx) : EReal :=
  key x g w kn ⟨(i 0).val / 256, by have : (i 0).val < 1024 := (i 0).isLt; omega⟩ ⟨(i 0).val % 256, by omega⟩
    ⟨(i 1).val / 128, by have : (i 1).val < 512 := (i 1).isLt; omega⟩ ⟨(i 1).val % 128, by omega⟩

def valArr (i : (⟨2, ![1024, 512]⟩ : Shape).Idx) : EReal :=
  pr x g w ⟨(i 0).val / 256, by have : (i 0).val < 1024 := (i 0).isLt; omega⟩ ⟨(i 0).val % 256, by omega⟩
    ⟨512 + (i 1).val, by have : (i 1).val < 512 := (i 1).isLt; omega⟩

theorem keyArr_at (i : (⟨2, ![1024, 512]⟩ : Shape).Idx) (b : Fin 4) (s : Fin 256) (h : Fin 4) (d : Fin 128)
    (h0 : (i 0).val = 256 * b.val + s.val) (h1 : (i 1).val = 128 * h.val + d.val) : keyArr x g w kn i = key x g w kn b s h d := by
  have hs := s.isLt
  have hd := d.isLt
  unfold keyArr
  congr 1 <;> apply Fin.ext
  · show (i 0).val / 256 = b.val; omega
  · show (i 0).val % 256 = s.val; omega
  · show (i 1).val / 128 = h.val; omega
  · show (i 1).val % 128 = d.val; omega

theorem valArr_at (i : (⟨2, ![1024, 512]⟩ : Shape).Idx) (b : Fin 4) (s : Fin 256) (l : Fin 512)
    (h0 : (i 0).val = 256 * b.val + s.val) (h1 : (i 1).val = l.val) : valArr x g w i = pr x g w b s ⟨512 + l.val, by omega⟩ := by
  have hs := s.isLt
  unfold valArr
  congr 1 <;> apply Fin.ext
  · show (i 0).val / 256 = b.val; omega
  · show (i 0).val % 256 = s.val; omega
  · show 512 + (i 1).val = 512 + l.val; omega

end Result

open Cert.Kernel4Ideal Cert.Kernel4Ideal.Gen

variable (m : (ℓ : Loc nD τ sig) → Buf (Elt Ideal) ℓ) (c : Dev nD)

theorem blk_pr (t : Fin grid0.N) (r : Fin 256) (l : Fin 1024) :
    (k0_pay3 (iblk m c 0 t) (iblk m c 1 t) (iblk m c 2 t) (ix2 r l) : EReal) = pr (xArr m c) (gArr m c) (wArr m c) (batch t) r l := by
  rw [prod_apply]
  unfold pr
  congr 1 <;> funext k
  · exact blk_x m c t r k
  · exact blk_g m c t k
  · exact blk_w m c t k l

/-- What the kernel leaves in the array of keys. -/
theorem keys_arr : (dats m 0 c).arrAt 4 (cfgs 0).N = keyArr (xArr m c) (gArr m c) (wArr m c) (kArr m c) := by
  refine (dats m 0 c).arrAt_eq_of_covers 4 _ (by decide +kernel) fun t hf y => ?_
  obtain ⟨r, l, rfl⟩ : ∃ (r : Fin 256) (l : Fin 512), y = ix2 r l := ⟨y 0, y 1, by funext a; fin_cases a <;> rfl⟩
  have hl := l.isLt
  rw [keyArr_at _ _ _ _ _ (batch t) r ⟨l.val / 128, by omega⟩ ⟨l.val % 128, by omega⟩
    (by blk_simp [(index_all t).2.2.2.2.1]; show t.val * 256 + r.val = 256 * t.val + r.val; omega)
    (by blk_simp [(index_all t).2.2.2.2.1]; show l.val = 128 * (l.val / 128) + l.val % 128; omega)]
  blk_simp
  rw [after0_4]
  refine (out_keys _ _ _ _ _).trans ((keyBlk_at _ _ _ _ _ r ⟨l.val / 128, by omega⟩ ⟨l.val % 128, by omega⟩ rfl
    (by show l.val = 128 * (l.val / 128) + l.val % 128; omega)).trans ?_)
  unfold keyOf key
  rw [blk_kn]
  simp only [blk_pr]

/-- What the kernel leaves in the array of values. -/
theorem vals_arr : (dats m 0 c).arrAt 5 (cfgs 0).N = valArr (xArr m c) (gArr m c) (wArr m c) := by
  refine (dats m 0 c).arrAt_eq_of_covers 5 _ (by decide +kernel) fun t hf y => ?_
  obtain ⟨r, l, rfl⟩ : ∃ (r : Fin 256) (l : Fin 512), y = ix2 r l := ⟨y 0, y 1, by funext a; fin_cases a <;> rfl⟩
  rw [valArr_at _ _ _ _ (batch t) r l
    (by blk_simp [(index_all t).2.2.2.2.2]; show t.val * 256 + r.val = 256 * t.val + r.val; omega)
    (by blk_simp [(index_all t).2.2.2.2.2])]
  blk_simp
  rw [after0_5]
  exact (out_vals _ _ _ _ r l).trans (blk_pr m c t r _)

end Cert.MemKv
-- ==== Proof.MemRef.lean ====
/-
  The keys and values of the memory, as the reference computes them, read at an index.
-/
module

public import proofs.«01_k».proof.Proof.Mem
public import proofs.«01_k».proof.Proof.Gen.Reference4Ideal.Run
public import Idealize.ShloMosaic.Lib.IdealHost

@[expose] public section

set_option maxRecDepth 16384

noncomputable section

namespace Cert.MemKv.Ref

open Idealize.ShloMosaic hiding ix1 ix2 ix3 ix4
open Idealize.ShloMosaic.ValueIdx Idealize.ShloMosaic.TcCoe Cert.Layer Cert.Reference4Ideal Cert.Reference4Ideal.Gen Cert.Reference4Ideal.Value

/-- The normed rows. -/
def normed (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))

/-- Their product with the weights. -/
def prod (x : FVec Ideal S4x256x1024 .f32) (g : FVec Ideal S1024 .f32) (w : FVec Ideal S1024x1024 .f32) : FVec Ideal S4x256x1024 .f32 :=
  Host.dotGeneral dot_S4x256x1024_S1024x1024_S4x256x1024_2_0_01_1_n_n none (normed x g) w

/-- The heads' columns, normed. -/
def heads (y : FVec Ideal S4x256x4x128 .f32) (kn : FVec Ideal S128 .f32) : FVec Ideal S4x256x4x128 .f32 :=
  mulf (mulf y (broadcastInDim S4x256x4x128 ![0, 1, 2, 3] bcast_S4x256x4x1_S4x256x4x128_0_1_2_3 (Host.rsqrt (addf (Host.divf (broadcastInDim S4x256x4x1 ![0, 1, 2] bcast_S4x256x4_S4x256x4x1_0_1_2 (Host.reduceAdd (mulf y y) (constant S_ .f32 0x00000000#32) reducesTo_S4x256x4x128_S4x256x4_d3 h_S_)) (broadcastInDim S4x256x4x1 ![] bcast_S_S4x256x4x1 (constant S_ .f32 0x43000000#32))) (broadcastInDim S4x256x4x1 ![] bcast_S_S4x256x4x1 (constant S_ .f32 0x358637BD#32)))))) (broadcastInDim S4x256x4x128 ![0, 1, 2, 3] bcast_S1x1x1x128_S4x256x4x128_0_1_2_3 (broadcastInDim S1x1x1x128 ![3] bcast_S128_S1x1x1x128_3 kn))

def keys (p : FVec Ideal S4x256x1024 .f32) (kn : FVec Ideal S128 .f32) : FVec Ideal S1024x512 .f32 :=
  shapeCast S1024x512 (heads (shapeCast S4x256x4x128 (extractStridedSlice S4x256x512 ![0, 0, 0] p slices_S4x256x1024_S4x256x512_0_0_0) shapeCasts_S4x256x512_S4x256x4x128) kn)
    shapeCasts_S4x256x4x128_S1024x512

def vals (p : FVec Ideal S4x256x1024 .f32) : FVec Ideal S1024x512 .f32 :=
  shapeCast S1024x512 (extractStridedSlice S4x256x512 ![0, 0, 512] p slices_S4x256x1024_S4x256x512_0_0_512) shapeCasts_S4x256x512_S1024x512

theorem prod_apply (x : FVec Ideal S4x256x1024 .f32) (g : FVec Ideal S1024 .f32) (w : FVec Ideal S1024x1024 .f32) (b : Fin 4) (s : Fin 256) (l : Fin 1024) :
    (prod x g w (ix3 b s l) : EReal) = pr x g w b s l := by
  unfold prod normed
  pointwise
  rfl

theorem heads_apply (y : FVec Ideal S4x256x4x128 .f32) (kn : FVec Ideal S128 .f32) (b : Fin 4) (s : Fin 256) (h : Fin 4) (d : Fin 128) :
    (heads y kn (ix4 b s h d) : EReal) = nrm narrow (fun j => (y (ix4 b s h j) : EReal)) d * kn (ix1 d) := by
  unfold heads
  pointwise
  rfl

theorem keys_apply (p : FVec Ideal S4x256x1024 .f32) (kn : FVec Ideal S128 .f32) (b : Fin 4) (s : Fin 256) (h : Fin 4) (d : Fin 128) :
    (keys p kn (ix2 ⟨256 * b.val + s.val, by omega⟩ ⟨128 * h.val + d.val, by omega⟩) : EReal)
      = nrm narrow (fun j : Fin 128 => (p (ix3 b s ⟨128 * h.val + j.val, by omega⟩) : EReal)) d * kn (ix1 d) := by
  unfold keys
  rw [shapeCast_apply _ _ _ (ix4 b s h d)]
  · rw [heads_apply]
    refine congrArg (· * _) (congrFun (congrArg (nrm narrow) (funext fun j => ?_)) d)
    rw [shapeCast_apply _ _ _ (ix3 b s ⟨128 * h.val + j.val, by omega⟩)]
    · exact extractStridedSlice_apply _ _ _ _ (ix3 b s ⟨128 * h.val + j.val, by omega⟩) (fun a => by fin_cases a <;> simp)
    · rw [Shape.rowMajor_val_three, Shape.rowMajor_val_four]
      show (b.val * 256 + s.val) * 512 + (128 * h.val + j.val) = ((b.val * 256 + s.val) * 4 + h.val) * 128 + j.val
      omega
  · rw [Shape.rowMajor_val_two, Shape.rowMajor_val_four]
    show ((b.val * 256 + s.val) * 4 + h.val) * 128 + d.val = (256 * b.val + s.val) * 512 + (128 * h.val + d.val)
    omega

theorem vals_apply (p : FVec Ideal S4x256x1024 .f32) (b : Fin 4) (s : Fin 256) (l : Fin 512) :
    (vals p (ix2 ⟨256 * b.val + s.val, by omega⟩ l) : EReal) = p (ix3 b s ⟨512 + l.val, by omega⟩) := by
  unfold vals
  rw [shapeCast_apply _ _ _ (ix3 b s l)]
  · exact extractStridedSlice_apply _ _ _ _ (ix3 b s ⟨512 + l.val, by omega⟩) (fun a => by fin_cases a <;> simp)
  · rw [Shape.rowMajor_val_two, Shape.rowMajor_val_three]
    show (b.val * 256 + s.val) * 512 + l.val = (256 * b.val + s.val) * 512 + l.val
    omega

variable (x : FVec Ideal S4x256x1024 .f32) (g : FVec Ideal S1024 .f32) (w : FVec Ideal S1024x1024 .f32) (kn : FVec Ideal S128 .f32)

/-- The reference's arrays are the kernel's. -/
theorem keys_eq : (keys (prod x g w) kn : S1024x512.Idx → EReal) = keyArr x g w kn := by
  funext i
  have h0 : (i 0).val < 1024 := (i 0).isLt
  have h1 : (i 1).val < 512 := (i 1).isLt
  have e : i = ix2 ⟨256 * ((i 0).val / 256) + (i 0).val % 256, by omega⟩ ⟨128 * ((i 1).val / 128) + (i 1).val % 128, by omega⟩ := by
    funext a
    match a with
    | ⟨0, _⟩ => exact Fin.ext (by show (i 0).val = 256 * ((i 0).val / 256) + (i 0).val % 256; omega)
    | ⟨1, _⟩ => exact Fin.ext (by show (i 1).val = 128 * ((i 1).val / 128) + (i 1).val % 128; omega)
  refine (congrArg (keys (prod x g w) kn) e).trans ((keys_apply (prod x g w) kn ⟨(i 0).val / 256, by omega⟩ ⟨(i 0).val % 256, by omega⟩
    ⟨(i 1).val / 128, by omega⟩ ⟨(i 1).val % 128, by omega⟩).trans ?_)
  unfold keyArr key
  simp only [prod_apply]

theorem vals_eq : (vals (prod x g w) : S1024x512.Idx → EReal) = valArr x g w := by
  funext i
  have h0 : (i 0).val < 1024 := (i 0).isLt
  have h1 : (i 1).val < 512 := (i 1).isLt
  have e : i = ix2 ⟨256 * ((i 0).val / 256) + (i 0).val % 256, by omega⟩ ⟨(i 1).val, h1⟩ := by
    funext a
    match a with
    | ⟨0, _⟩ => exact Fin.ext (by show (i 0).val = 256 * ((i 0).val / 256) + (i 0).val % 256; omega)
    | ⟨1, _⟩ => rfl
  exact (congrArg (vals (prod x g w)) e).trans ((vals_apply (prod x g w) ⟨(i 0).val / 256, by omega⟩ ⟨(i 0).val % 256, by omega⟩
    ⟨(i 1).val, h1⟩).trans (prod_apply x g w _ _ _))

end Cert.MemKv.Ref
-- ==== Proof.KvWeight.lean ====
/-
  The weights of the keys and values, transposed: what the call leaves in its array, and that the reference's is the same.
-/
module

public import proofs.«01_k».proof.Proof.InTile
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.KvWeight

open Idealize.ShloMosaic hiding ix1 ix2 ix3 ix4
open Idealize.ShloMosaic.ValueIdx

/-- The columns from 2048 on, one per row. -/
def kvArr (w : (⟨2, ![1024, 6656]⟩ : Shape).Idx → EReal) (i : (⟨2, ![1024, 1024]⟩ : Shape).Idx) : EReal :=
  w (ix2 ⟨(i 1).val, (i 1).isLt⟩ ⟨2048 + (i 0).val, by have : (i 0).val < 1024 := (i 0).isLt; omega⟩)

theorem kvArr_at (w : (⟨2, ![1024, 6656]⟩ : Shape).Idx → EReal) (i : (⟨2, ![1024, 1024]⟩ : Shape).Idx) (r k : Fin 1024)
    (h0 : (i 0).val = r.val) (h1 : (i 1).val = k.val) : kvArr w i = w (ix2 k ⟨2048 + r.val, by omega⟩) := by
  unfold kvArr
  congr 2
  · exact Fin.ext h1
  · exact Fin.ext (by show 2048 + (i 0).val = 2048 + r.val; omega)

section Kernel

open Idealize.ShloMosaic.TcCoe Cert.Kernel5Ideal Cert.Kernel5Ideal.Gen

/-- What the grid point leaves in its block. -/
theorem out_eq (c : Dev nD) (i : grid0.Coords) (arg1 : Memref sig .tc .vmem S1024x1024 .f32) (harg1 : arg1.IsWhole)
    (arg2 : Memref sig .tc .vmem S1024x1024 .bf16) (harg2 : arg2.IsWhole) (x : Vec Ideal S1024x1024 .f32) :
    out0_A_1 c i arg1 harg1 arg2 harg2 x = k0_pay1 x := by
  unfold out0_A_1 kernelRun0_A
  refine (View.read_writes_full VO0_1 _ _ _ []).trans ?_
  rw [Cert.InProj.load_whole arg1 harg1 x _ Cert.InProj.zero2]

theorem pay_apply (x : Vec Ideal S1024x1024 .f32) (r k : Fin 1024) : (k0_pay1 x (ix2 r k) : EReal) = x (ix2 k r) := by
  unfold k0_pay1
  pointwise
  rfl

variable (m : (ℓ : Loc nD τ sig) → Buf (Elt Ideal) ℓ) (c : Dev nD)

/-- The argument array. -/
def wArr : S1024x6656.Idx → EReal := m ((c : Thread nD τ).loc main_arg0)

theorem index_all : ∀ t : Fin grid0.N, win0_0.index t = ![0, 2] ∧ win0_1.index t = ![0, 0] := by decide +kernel

/-- The block that the grid point reads is the columns from 2048 on. -/
theorem blk_w (t : Fin cfg0.N) (k r : Fin 1024) : (X0_0 m c t (ix2 k r) : EReal) = wArr m c (ix2 k ⟨2048 + r.val, by omega⟩) := by
  unfold X0_0 Pipeline.Window.fill
  rw [dif_pos (moved0_0 t _)]
  rw [show (wArr m c) = V m c main_arg0 from (V_main_arg0 m c).symm]
  show V m c main_arg0 _ = _
  blk_ext [(index_all t).1]

/-- What the call leaves in its array. -/
theorem kernel_arr : (dats m 0 c).arrAt 1 (cfgs 0).N = kvArr (wArr m c) := by
  refine (dats m 0 c).arrAt_eq_of_covers 1 _ (by decide +kernel) fun t hf y => ?_
  obtain ⟨r, k, rfl⟩ : ∃ (r k : Fin 1024), y = ix2 r k := ⟨y 0, y 1, by funext a; fin_cases a <;> rfl⟩
  rw [kvArr_at _ _ r k (by blk_simp [(index_all t).2]) (by blk_simp [(index_all t).2])]
  blk_simp
  rw [after0_1]
  unfold outsAt0
  rw [out_eq]
  exact (pay_apply _ r k).trans (blk_w m c t k r)

end Kernel

section Reference

open Idealize.ShloMosaic.StableHlo Cert.Reference5Ideal Cert.Reference5Ideal.Gen

/-- The reference's result. -/
theorem reference_arr (w : S1024x6656.Idx → EReal) :
    truncf (F := Ideal) .bf16 (transpose S1024x1024 [1, 0] (extractStridedSlice S1024x1024 ![0, 2048] w slices_S1024x6656_S1024x1024_0_2048)
      transposes_S1024x1024_S1024x1024_1_0) bitsLt_bf16_f32 = kvArr w := by
  funext i
  obtain ⟨r, k, rfl⟩ : ∃ (r k : Fin 1024), i = ix2 r k := ⟨i 0, i 1, by funext a; fin_cases a <;> rfl⟩
  rw [kvArr_at w _ r k rfl rfl]
  pointwise
  rfl

end Reference

end Cert.KvWeight
-- ==== Proof.Merge.lean ====
/-
  What the merge of the three branches computes at a grid point, and what it leaves in its two blocks of rows.
-/
module

public import proofs.«01_k».proof.Proof.Norm
public import proofs.«01_k».proof.Proof.Gen.Kernel6Ideal.Value
public import Idealize.ShloMosaic.Lib.VecWindow
public import Idealize.ShloMosaic.Lib.Pipeline.ValueKit
import all proofs.«01_k».proof.Proof.Gen.Kernel6Ideal.Frame.RunA
import all proofs.«01_k».proof.Proof.Gen.Kernel6Ideal.Frame.RunB

@[expose] public section

set_option maxRecDepth 16384

noncomputable section

namespace Cert.Merge

open Idealize.ShloMosaic hiding ix1 ix2 ix3 ix4
open Idealize.ShloMosaic.ValueIdx Idealize.ShloMosaic.TcCoe Cert.Layer Cert.Kernel6Ideal Cert.Kernel6Ideal.Gen

/-- A load of a whole buffer that holds `x`. -/
theorem load_whole {sig : RefSig} {κ : Kind} {sp : Space} {s : Shape} {e : EltTy} (M : Memref sig κ sp s e) (hM : M.IsWhole)
    (x : Vec Ideal s e) {off : Fin s.rank → ℕ} (inb : ∀ a, off a + s.size a ≤ s.size a) (h : ∀ a, off a = 0) :
    M.view.readAt (Elt Ideal) (Rect.unit off s.size inb).toLoadRect (hM.unread x) = x :=
  (funext fun y => congrFun (hM.read_unread x) ((Rect.unit off s.size inb).idx y)).trans (View.ld_unit_lit inb x h)

theorem zero2 : ∀ a : Fin 2, (![0, 0] : Fin 2 → ℕ) a = 0 := by decide

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1x128 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S512x128 .f32) (harg16 : arg16.IsWhole) (arg17 : Memref sig .tc .vmem S8x512 .f32) (harg17 : arg17.IsWhole) (arg18 : Memref sig .tc .vmem S1x128 .f32) (harg18 : arg18.IsWhole) (arg19 : Memref sig .tc .vmem S1x128 .f32) (harg19 : arg19.IsWhole)
  (x0 : Vec Ideal S512x1024 .f32) (x1 : Vec Ideal S512x1024 .f32) (x2 : Vec Ideal S512x512 .bf16) (x3 : Vec Ideal S512x512 .bf16) (x4 : Vec Ideal S512x1024 .f32) (x5 : Vec Ideal S512x1024 .f32) (x6 : Vec Ideal S512x1024 .bf16) (x7 : Vec Ideal S512x1024 .bf16) (x8 : Vec Ideal S1024x1024 .bf16) (x9 : Vec Ideal S1x1024 .f32) (x10 : Vec Ideal S1024x128 .bf16) (x11 : Vec Ideal S1x128 .f32) (x12 : Vec Ideal S1x128 .f32) (xs0 : Vec Ideal S1x128 .f32)

/-- The three branches merged, before the projection. -/
def merged (r : Fin 512) (k : Fin 1024) : EReal :=
  (x1 (ix2 r k) + x4 (ix2 r k) * ∑ j : Fin 512, (x2 (ix2 r j) : EReal) * x6 (ix2 j k)) + x5 (ix2 r k) * ∑ j : Fin 512, (x3 (ix2 r j) : EReal) * x7 (ix2 j k)

/-- The block of rows with the merged branches added. -/
abbrev x1Blk : FVec Ideal S512x1024 .f32 := k0_pay4 x1 x4 x2 x6 x5 x3 x7 x0 x8

/-- The same rows normed. -/
abbrev hBlk : FVec Ideal S512x1024 .f32 := k0_pay7 (x1Blk x0 x1 x2 x3 x4 x5 x6 x7 x8) (k0_pay5 x9) (k0_pay6 x1 x4 x2 x6 x5 x3 x7 x0 x8)

theorem x1Blk_apply (r : Fin 512) (l : Fin 1024) : (x1Blk x0 x1 x2 x3 x4 x5 x6 x7 x8 (ix2 r l) : EReal)
    = x0 (ix2 r l) + ∑ k : Fin 1024, merged x1 x2 x3 x4 x5 x6 x7 r k * x8 (ix2 k l) := by
  unfold x1Blk k0_pay4 merged
  pointwise
  rfl

theorem hBlk_apply (r : Fin 512) (l : Fin 1024) : (hBlk x0 x1 x2 x3 x4 x5 x6 x7 x8 x9 (ix2 r l) : EReal)
    = nrm wide (fun j => (x1Blk x0 x1 x2 x3 x4 x5 x6 x7 x8 (ix2 r j) : EReal)) l * x9 (ix2 0 l) := by
  unfold hBlk k0_pay7 k0_pay6 k0_pay5
  pointwise
  rfl

theorem outA_13 (hc : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 = x1Blk x0 x1 x2 x3 x4 x5 x6 x7 x8 := by
  unfold out0_A_13 kernelRun0_A
  refine (View.read_writes_full VO0_13 _ _ _ []).trans ?_
  rw [load_whole arg2 harg2 x1 _ zero2, load_whole arg5 harg5 x4 _ zero2, load_whole arg3 harg3 x2 _ zero2, load_whole arg7 harg7 x6 _ zero2, load_whole arg6 harg6 x5 _ zero2, load_whole arg4 harg4 x3 _ zero2, load_whole arg8 harg8 x7 _ zero2, load_whole arg1 harg1 x0 _ zero2, load_whole arg9 harg9 x8 _ zero2]

theorem outA_14 (hc : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 = hBlk x0 x1 x2 x3 x4 x5 x6 x7 x8 x9 := by
  unfold out0_A_14 kernelRun0_A
  refine (View.read_writes_full VO0_14 _ _ _ []).trans ?_
  unfold kernelRun0_A.sl.r kernelRun0_A.sl.r_1 kernelRun0_A.sl.r_2
  rw [load_whole arg2 harg2 x1 _ zero2, load_whole arg5 harg5 x4 _ zero2, load_whole arg3 harg3 x2 _ zero2, load_whole arg7 harg7 x6 _ zero2, load_whole arg6 harg6 x5 _ zero2, load_whole arg4 harg4 x3 _ zero2, load_whole arg8 harg8 x7 _ zero2, load_whole arg1 harg1 x0 _ zero2, load_whole arg9 harg9 x8 _ zero2, load_whole arg10 harg10 x9 _ zero2]

theorem outB_13 (hc : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 = x1Blk x0 x1 x2 x3 x4 x5 x6 x7 x8 := by
  unfold out0_B_13 kernelRun0_B
  refine (View.read_writes_full VO0_13 _ _ _ []).trans ?_
  rw [load_whole arg2 harg2 x1 _ zero2, load_whole arg5 harg5 x4 _ zero2, load_whole arg3 harg3 x2 _ zero2, load_whole arg7 harg7 x6 _ zero2, load_whole arg6 harg6 x5 _ zero2, load_whole arg4 harg4 x3 _ zero2, load_whole arg8 harg8 x7 _ zero2, load_whole arg1 harg1 x0 _ zero2, load_whole arg9 harg9 x8 _ zero2]

theorem outB_14 (hc : ¬cond0_0 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs0 = hBlk x0 x1 x2 x3 x4 x5 x6 x7 x8 x9 := by
  unfold out0_B_14 kernelRun0_B
  refine (View.read_writes_full VO0_14 _ _ _ []).trans ?_
  unfold kernelRun0_B.sl.r kernelRun0_B.sl.r_1 kernelRun0_B.sl.r_2
  rw [load_whole arg2 harg2 x1 _ zero2, load_whole arg5 harg5 x4 _ zero2, load_whole arg3 harg3 x2 _ zero2, load_whole arg7 harg7 x6 _ zero2, load_whole arg6 harg6 x5 _ zero2, load_whole arg4 harg4 x3 _ zero2, load_whole arg8 harg8 x7 _ zero2, load_whole arg1 harg1 x0 _ zero2, load_whole arg9 harg9 x8 _ zero2, load_whole arg10 harg10 x9 _ zero2]

variable (m : (ℓ : Loc nD τ sig) → Buf (Elt Ideal) ℓ)

theorem at_13 (t : Fin grid0.N) : (outsAt0 m c t.val t.isLt).1 = x1Blk (iblk m c 0 t) (iblk m c 1 t) (iblk m c 2 t) (iblk m c 3 t) (iblk m c 4 t) (iblk m c 5 t) (iblk m c 6 t) (iblk m c 7 t) (iblk m c 8 t) := by
  by_cases h : t.val % 32 = 0
  · rw [outsAt0_A m c t h]
    dsimp only
    exact outA_13 _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact outB_13 _ _ _ _ _ _ _ _ _ _ _ _ _ _ _ _ _ _ _ _ _ _ _ _ _ _ _ _ _ _ _ _ _ _ _ _ _ _ _ _ _ _ _ _ _ _ _ _ _ _ _ _ _ _ _

theorem at_14 (t : Fin grid0.N) : (outsAt0 m c t.val t.isLt).2.1 = hBlk (iblk m c 0 t) (iblk m c 1 t) (iblk m c 2 t) (iblk m c 3 t) (iblk m c 4 t) (iblk m c 5 t) (iblk m c 6 t) (iblk m c 7 t) (iblk m c 8 t) (iblk m c 9 t) := by
  by_cases h : t.val % 32 = 0
  · rw [outsAt0_A m c t h]
    dsimp only
    exact outA_14 _ _ _ _ _ _ _ _ _ _ _ _ _ _ _ _ _ _ _ _ _ _ _ _ _ _ _ _ _ _ _ _ _ _ _ _ _ _ _ _ _ _ _ _ _ _ _ _ _ _ _ _ _ _
  · rw [outsAt0_B m c t h]
    dsimp only
    exact outB_14 _ _ _ _ _ _ _ _ _ _ _ _ _ _ _ _ _ _ _ _ _ _ _ _ _ _ _ _ _ _ _ _ _ _ _ _ _ _ _ _ _ _ _ _ _ _ _ _ _ _ _ _ _ _ _

end Cert.Merge
-- ==== Proof.MergeArr.lean ====
/-
  What the merge of the three branches leaves in its arrays of rows: the rows with the merged branches added, and those normed.
-/
module

public import proofs.«01_k».proof.Proof.Merge

@[expose] public section

set_option maxRecDepth 16384

noncomputable section

namespace Cert.Merge

open Idealize.ShloMosaic hiding ix1 ix2 ix3 ix4
open Idealize.ShloMosaic.ValueIdx Idealize.ShloMosaic.TcCoe Idealize.ShloMosaic.StableHlo Cert.Layer

section Result

variable (x mp : (⟨2, ![16384, 1024]⟩ : Shape).Idx → EReal) (ys yx : (⟨2, ![16384, 512]⟩ : Shape).Idx → EReal)
  (g1 g2 : (⟨2, ![16384, 1024]⟩ : Shape).Idx → EReal) (wb : (⟨3, ![3, 512, 1024]⟩ : Shape).Idx → EReal)
  (wo : (⟨2, ![1024, 1024]⟩ : Shape).Idx → EReal) (n : (⟨1, ![1024]⟩ : Shape).Idx → EReal)

/-- The three branches of a row, merged. -/
def mrow (s : Fin 16384) (k : Fin 1024) : EReal :=
  (mp (ix2 s k) + g1 (ix2 s k) * ∑ j : Fin 512, ys (ix2 s j) * wb (ix3 1 j k)) + g2 (ix2 s k) * ∑ j : Fin 512, yx (ix2 s j) * wb (ix3 2 j k)

/-- The row with their projection added. -/
def x1row (s : Fin 16384) (l : Fin 1024) : EReal := x (ix2 s l) + ∑ k : Fin 1024, mrow mp ys yx g1 g2 wb s k * wo (ix2 k l)

/-- That row normed. -/
def hrow (s : Fin 16384) (l : Fin 1024) : EReal := nrm wide (x1row x mp ys yx g1 g2 wb wo s) l * n (ix1 l)

/-- Rows as an array. -/
def table (f : Fin 16384 → Fin 1024 → EReal) (i : (⟨2, ![16384, 1024]⟩ : Shape).Idx) : EReal :=
  f ⟨(i 0).val, (i 0).isLt⟩ ⟨(i 1).val, (i 1).isLt⟩

theorem table_at (f : Fin 16384 → Fin 1024 → EReal) (i : (⟨2, ![16384, 1024]⟩ : Shape).Idx) (s : Fin 16384) (l : Fin 1024)
    (h0 : (i 0).val = s.val) (h1 : (i 1).val = l.val) : table f i = f s l := by
  unfold table
  congr 1
  · exact Fin.ext h0
  · exact Fin.ext h1

theorem table_ext (A : (⟨2, ![16384, 1024]⟩ : Shape).Idx → EReal) (f : Fin 16384 → Fin 1024 → EReal)
    (h : ∀ (s : Fin 16384) (l : Fin 1024), A (ix2 s l) = f s l) : A = table f := by
  funext i
  have e : i = ix2 ⟨(i 0).val, (i 0).isLt⟩ ⟨(i 1).val, (i 1).isLt⟩ := by funext a; fin_cases a <;> rfl
  exact (congrArg A e).trans (h ⟨(i 0).val, (i 0).isLt⟩ ⟨(i 1).val, (i 1).isLt⟩)

end Result

open Cert.Kernel6Ideal Cert.Kernel6Ideal.Gen

variable (m : (ℓ : Loc nD τ sig) → Buf (Elt Ideal) ℓ) (c : Dev nD)

/-- The argument arrays. -/
def xArr : S16384x1024.Idx → EReal := m ((c : Thread nD τ).loc main_arg0)
def mpArr : S16384x1024.Idx → EReal := m ((c : Thread nD τ).loc main_arg1)
def ysArr : S16384x512.Idx → EReal := m ((c : Thread nD τ).loc main_arg2)
def yxArr : S16384x512.Idx → EReal := m ((c : Thread nD τ).loc main_arg3)
def g1Arr : S16384x1024.Idx → EReal := m ((c : Thread nD τ).loc main_arg4)
def g2Arr : S16384x1024.Idx → EReal := m ((c : Thread nD τ).loc main_arg5)
def wbArr : S3x512x1024.Idx → EReal := m ((c : Thread nD τ).loc main_arg6)
def woArr : S1024x1024.Idx → EReal := m ((c : Thread nD τ).loc main_arg7)
def nArr : S1024.Idx → EReal := m ((c : Thread nD τ).loc main_arg8)

theorem V_wb1 (j : Fin 512) (l : Fin 1024) : (V m c main_v19 (ix2 j l) : EReal) = wbArr m c (ix3 1 j l) := by
  unfold_abbrev_sides
  after_results
  show (shapeCast S512x1024 (extractStridedSlice S1x512x1024 ![1, 0, 0] (wbArr m c) slices_S3x512x1024_S1x512x1024_1_0_0)
    shapeCasts_S1x512x1024_S512x1024 (ix2 j l) : EReal) = _
  pointwise
  rfl

theorem V_wb2 (j : Fin 512) (l : Fin 1024) : (V m c main_v21 (ix2 j l) : EReal) = wbArr m c (ix3 2 j l) := by
  unfold_abbrev_sides
  after_results
  show (shapeCast S512x1024 (extractStridedSlice S1x512x1024 ![2, 0, 0] (wbArr m c) slices_S3x512x1024_S1x512x1024_2_0_0)
    shapeCasts_S1x512x1024_S512x1024 (ix2 j l) : EReal) = _
  pointwise
  rfl

theorem V_wo (k l : Fin 1024) : (V m c main_v1 (ix2 k l) : EReal) = woArr m c (ix2 k l) := by
  unfold_abbrev_sides
  after_results
  rfl

theorem V_n (l : Fin 1024) : (V m c main_v22 (ix2 0 l) : EReal) = nArr m c (ix1 l) := by
  unfold_abbrev_sides
  after_results
  show (shapeCast S1x1024 (nArr m c) shapeCasts_S1024_S1x1024 _ : EReal) = _
  refine shapeCast_apply (nArr m c) _ _ (ix1 l) ?_
  rw [Shape.rowMajor_val_two, Shape.rowMajor_val_one]
  show l.val = 0 * 1024 + l.val
  omega

/-- The blocks' places. -/
theorem index_rows : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_13.index t = ![t.val, 0] ∧ win0_14.index t = ![t.val, 0] := by decide +kernel

theorem index_whole : ∀ t : Fin grid0.N, win0_6.index t = ![0, 0] ∧ win0_7.index t = ![0, 0] ∧ win0_8.index t = ![0, 0] ∧ win0_9.index t = ![0, 0] := by decide +kernel

theorem points : grid0.N = 32 := by decide

/-- The row of the arrays that is a tile's row. -/
def place (t : Fin grid0.N) (r : Fin 512) : Fin 16384 := ⟨t.val * 512 + r.val, by have := t.isLt; have := points; omega⟩

theorem blk_x (t : Fin grid0.N) (r : Fin 512) (k : Fin 1024) : (iblk m c 0 t (ix2 r k) : EReal) = xArr m c (ix2 (place t r) k) := by
  unfold xArr
  rw [← V_main_arg0 m c]
  show V m c main_arg0 _ = _
  blk_ext [(index_rows t).1]
  rfl

theorem blk_mp (t : Fin grid0.N) (r : Fin 512) (k : Fin 1024) : (iblk m c 1 t (ix2 r k) : EReal) = mpArr m c (ix2 (place t r) k) := by
  unfold mpArr
  rw [← V_main_arg1 m c]
  show V m c main_arg1 _ = _
  blk_ext [(index_rows t).2.1]
  rfl

theorem blk_ys (t : Fin grid0.N) (r : Fin 512) (k : Fin 512) : (iblk m c 2 t (ix2 r k) : EReal) = ysArr m c (ix2 (place t r) k) := by
  unfold ysArr
  rw [← V_main_arg2 m c]
  show V m c main_arg2 _ = _
  blk_ext [(index_rows t).2.2.1]
  rfl

theorem blk_yx (t : Fin grid0.N) (r : Fin 512) (k : Fin 512) : (iblk m c 3 t (ix2 r k) : EReal) = yxArr m c (ix2 (place t r) k) := by
  unfold yxArr
  rw [← V_main_arg3 m c]
  show V m c main_arg3 _ = _
  blk_ext [(index_rows t).2.2.2.1]
  rfl

theorem blk_g1 (t : Fin grid0.N) (r : Fin 512) (k : Fin 1024) : (iblk m c 4 t (ix2 r k) : EReal) = g1Arr m c (ix2 (place t r) k) := by
  unfold g1Arr
  rw [← V_main_arg4 m c]
  show V m c main_arg4 _ = _
  blk_ext [(index_rows t).2.2.2.2.1]
  rfl

theorem blk_g2 (t : Fin grid0.N) (r : Fin 512) (k : Fin 1024) : (iblk m c 5 t (ix2 r k) : EReal) = g2Arr m c (ix2 (place t r) k) := by
  unfold g2Arr
  rw [← V_main_arg5 m c]
  show V m c main_arg5 _ = _
  blk_ext [(index_rows t).2.2.2.2.2.1]
  rfl

theorem blk_wb1 (t : Fin grid0.N) (k : Fin 512) (l : Fin 1024) : (iblk m c 6 t (ix2 k l) : EReal) = wbArr m c (ix3 1 k l) := by
  rw [← V_wb1]
  show V m c main_v19 _ = _
  blk_ext [(index_whole t).1]

theorem blk_wb2 (t : Fin grid0.N) (k : Fin 512) (l : Fin 1024) : (iblk m c 7 t (ix2 k l) : EReal) = wbArr m c (ix3 2 k l) := by
  rw [← V_wb2]
  show V m c main_v21 _ = _
  blk_ext [(index_whole t).2.1]

theorem blk_wo (t : Fin grid0.N) (k l : Fin 1024) : (iblk m c 8 t (ix2 k l) : EReal) = woArr m c (ix2 k l) := by
  rw [← V_wo]
  show V m c main_v1 _ = _
  blk_ext [(index_whole t).2.2.1]

theorem blk_n (t : Fin grid0.N) (l : Fin 1024) : (iblk m c 9 t (ix2 0 l) : EReal) = nArr m c (ix1 l) := by
  rw [← V_n]
  show V m c main_v22 _ = _
  blk_ext [(index_whole t).2.2.2]

theorem x1_blk (t : Fin grid0.N) (r : Fin 512) (l : Fin 1024) : (x1Blk (iblk m c 0 t) (iblk m c 1 t) (iblk m c 2 t) (iblk m c 3 t) (iblk m c 4 t) (iblk m c 5 t) (iblk m c 6 t) (iblk m c 7 t) (iblk m c 8 t) (ix2 r l) : EReal)
    = x1row (xArr m c) (mpArr m c) (ysArr m c) (yxArr m c) (g1Arr m c) (g2Arr m c) (wbArr m c) (woArr m c) (place t r) l := by
  rw [x1Blk_apply, blk_x]
  unfold x1row
  refine congrArg (_ + ·) (Finset.sum_congr rfl fun k _ => ?_)
  rw [blk_wo]
  refine congrArg (· * _) ?_
  unfold merged mrow
  rw [blk_mp, blk_g1, blk_g2]
  refine congrArg₂ (· + ·) (congrArg (_ + _ * ·) (Finset.sum_congr rfl fun j _ => ?_)) (congrArg (_ * ·) (Finset.sum_congr rfl fun j _ => ?_))
  · rw [blk_ys, blk_wb1]
  · rw [blk_yx, blk_wb2]

theorem h_blk (t : Fin grid0.N) (r : Fin 512) (l : Fin 1024) : (hBlk (iblk m c 0 t) (iblk m c 1 t) (iblk m c 2 t) (iblk m c 3 t) (iblk m c 4 t) (iblk m c 5 t) (iblk m c 6 t) (iblk m c 7 t) (iblk m c 8 t) (iblk m c 9 t) (ix2 r l) : EReal)
    = hrow (xArr m c) (mpArr m c) (ysArr m c) (yxArr m c) (g1Arr m c) (g2Arr m c) (wbArr m c) (woArr m c) (nArr m c) (place t r) l := by
  rw [hBlk_apply, blk_n]
  unfold hrow
  exact congrArg (fun f => nrm wide f l * nArr m c (ix1 l)) (funext fun j => x1_blk m c t r j)

theorem x1_arr : (dats m 0 c).arrAt 13 (cfgs 0).N = table (x1row (xArr m c) (mpArr m c) (ysArr m c) (yxArr m c) (g1Arr m c) (g2Arr m c) (wbArr m c) (woArr m c)) := by
  refine (dats m 0 c).arrAt_eq_of_covers 13 _ (by decide +kernel) fun t hf y => ?_
  obtain ⟨r, l, rfl⟩ : ∃ (r : Fin 512) (l : Fin 1024), y = ix2 r l := ⟨y 0, y 1, by funext a; fin_cases a <;> rfl⟩
  rw [table_at _ _ (place t r) l (by blk_simp [(index_rows t).2.2.2.2.2.2.1]; rfl) (by blk_simp [(index_rows t).2.2.2.2.2.2.1])]
  blk_simp
  rw [after0_13, at_13]
  exact x1_blk m c t r l

theorem h_arr : (dats m 0 c).arrAt 14 (cfgs 0).N = table (hrow (xArr m c) (mpArr m c) (ysArr m c) (yxArr m c) (g1Arr m c) (g2Arr m c) (wbArr m c) (woArr m c) (nArr m c)) := by
  refine (dats m 0 c).arrAt_eq_of_covers 14 _ (by decide +kernel) fun t hf y => ?_
  obtain ⟨r, l, rfl⟩ : ∃ (r : Fin 512) (l : Fin 1024), y = ix2 r l := ⟨y 0, y 1, by funext a; fin_cases a <;> rfl⟩
  rw [table_at _ _ (place t r) l (by blk_simp [(index_rows t).2.2.2.2.2.2.2]; rfl) (by blk_simp [(index_rows t).2.2.2.2.2.2.2])]
  blk_simp
  rw [after0_14, at_14]
  exact h_blk m c t r l

end Cert.Merge
-- ==== Proof.MergeRef.lean ====
/-
  The merge of the three branches as the reference computes it.
-/
module

public import proofs.«01_k».proof.Proof.MergeArr
public import proofs.«01_k».proof.Proof.Gen.Reference6Ideal.Run
public import Idealize.ShloMosaic.Lib.IdealHost
public import Idealize.ShloMosaic.Lib.KernelVsHost

@[expose] public section

set_option maxRecDepth 16384

noncomputable section

namespace Cert.Merge.Ref

open Idealize.ShloMosaic hiding ix1 ix2 ix3 ix4
open Idealize.ShloMosaic.ValueIdx Idealize.ShloMosaic.TcCoe Cert.Layer Cert.Reference6Ideal Cert.Reference6Ideal.Gen Cert.Reference6Ideal.Value

variable (x mp : FVec Ideal S16384x1024 .f32) (ys yx : FVec Ideal S16384x512 .bf16) (g1 g2 : FVec Ideal S16384x1024 .f32)
  (wb : FVec Ideal S3x512x1024 .f32) (wo : FVec Ideal S1024x1024 .f32) (n : FVec Ideal S1024 .f32)

/-- The three branches merged. -/
def mergedRef : FVec Ideal S16384x1024 .f32 :=
  addf (addf mp (mulf g1 (Host.dotGeneral dot_S16384x512_S512x1024_S16384x1024_1_0_0_1_n_n none (extf .f32 ys bitsLt_bf16_f32) (shapeCast _ (extractStridedSlice S1x512x1024 ![1, 0, 0] wb slices_S3x512x1024_S1x512x1024_1_0_0) shapeCasts_S1x512x1024_S512x1024)))) (mulf g2 (Host.dotGeneral dot_S16384x512_S512x1024_S16384x1024_1_0_0_1_n_n none (extf .f32 yx bitsLt_bf16_f32) (shapeCast _ (extractStridedSlice S1x512x1024 ![2, 0, 0] wb slices_S3x512x1024_S1x512x1024_2_0_0) shapeCasts_S1x512x1024_S512x1024)))

/-- The rows with their projection added. -/
def x1Ref : FVec Ideal S16384x1024 .f32 :=
  addf x (Host.dotGeneral dot_S16384x1024_S1024x1024_S16384x1024_1_0_0_1_n_n none (mergedRef mp ys yx g1 g2 wb) wo)

/-- Rows normed. -/
def hRef (y : FVec Ideal S16384x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 n))

theorem merged_apply (s : Fin 16384) (k : Fin 1024) : (mergedRef mp ys yx g1 g2 wb (ix2 s k) : EReal) = mrow mp ys yx g1 g2 wb s k := by
  unfold mergedRef
  pointwise
  rfl

theorem x1_apply (s : Fin 16384) (l : Fin 1024) : (x1Ref x mp ys yx g1 g2 wb wo (ix2 s l) : EReal) = x1row x mp ys yx g1 g2 wb wo s l := by
  have e : (x1Ref x mp ys yx g1 g2 wb wo (ix2 s l) : EReal) = x (ix2 s l) + ∑ k : Fin 1024, (mergedRef mp ys yx g1 g2 wb (ix2 s k) : EReal) * wo (ix2 k l) := by
    unfold x1Ref
    pointwise
    rfl
  rw [e]
  unfold x1row
  exact congrArg (_ + ·) (Finset.sum_congr rfl fun k _ => congrArg (· * _) (merged_apply mp ys yx g1 g2 wb s k))

theorem h_apply (y : FVec Ideal S16384x1024 .f32) (s : Fin 16384) (l : Fin 1024) :
    (hRef n y (ix2 s l) : EReal) = nrm wide (fun j => (y (ix2 s j) : EReal)) l * n (ix1 l) := by
  unfold hRef
  pointwise
  rfl

theorem x1_eq : (x1Ref x mp ys yx g1 g2 wb wo : S16384x1024.Idx → EReal) = table (x1row x mp ys yx g1 g2 wb wo) :=
  table_ext _ _ (x1_apply x mp ys yx g1 g2 wb wo)

theorem h_eq : (hRef n (x1Ref x mp ys yx g1 g2 wb wo) : S16384x1024.Idx → EReal) = table (hrow x mp ys yx g1 g2 wb wo n) :=
  table_ext _ _ fun s l => (h_apply n _ s l).trans
    (congrArg (fun f => nrm wide f l * n (ix1 l)) (funext fun j => x1_apply x mp ys yx g1 g2 wb wo s j))

end Cert.Merge.Ref
-- ==== Proof.Xattn.lean ====
/-
  What the attention over the memory of the prompt computes at a grid point: each head of each row attends over its sequence's 256
  memory rows.
-/
module

public import proofs.«01_k».proof.Proof.Norm
public import proofs.«01_k».proof.Proof.Gen.Kernel7Ideal.Value
public import Idealize.ShloMosaic.Lib.VecWindow
public import Idealize.ShloMosaic.Lib.Pipeline.ValueKit

@[expose] public section

set_option maxRecDepth 16384

noncomputable section

namespace Cert.Xattn

open Idealize.ShloMosaic hiding ix1 ix2 ix3 ix4
open Idealize.ShloMosaic.ValueIdx Idealize.ShloMosaic.TcCoe Idealize.ShloMosaic.StableHlo Cert.Layer

section Math

variable (q : Fin 128 → EReal) (k v : Fin 256 → Fin 128 → EReal)

/-- The score of a query against a memory row. -/
def score (j : Fin 256) : EReal := (∑ d, q d * k j d) * Ideal.ofBits .f32 0x3DB504F3#32

/-- The greatest score. -/
def top : EReal := Finset.univ.fold max (Ideal.ofBits .f32 0xFF800000#32) (score q k)

/-- A memory row's weight before it is divided by their sum. -/
def weight (j : Fin 256) : EReal := Ideal.exp (score q k j - top q k)

/-- The weighted mean of the memory's values. -/
def attend (d : Fin 128) : EReal := ∑ j, Ideal.div (weight q k j) (∑ i, weight q k i) * v j d

end Math

/-- 128 columns of a block, from column `128 * h` on. -/
def part {n : ℕ} (x : (⟨2, ![n, 512]⟩ : Shape).Idx → EReal) (r : Fin n) (h : Fin 4) (d : Fin 128) : EReal := x (ix2 r ⟨128 * h.val + d.val, by omega⟩)

/-- What a head makes of a row of a block. -/
def headOf (q : (⟨2, ![512, 512]⟩ : Shape).Idx → EReal) (k v : (⟨2, ![256, 512]⟩ : Shape).Idx → EReal) (r : Fin 512) (h : Fin 4) (d : Fin 128) : EReal :=
  attend (part q r h) (fun j => part k j h) (fun j => part v j h) d

/-- The block of the four heads side by side. -/
def headBlk (q : (⟨2, ![512, 512]⟩ : Shape).Idx → EReal) (k v : (⟨2, ![256, 512]⟩ : Shape).Idx → EReal) (i : (⟨2, ![512, 512]⟩ : Shape).Idx) : EReal :=
  headOf q k v ⟨(i 0).val, (i 0).isLt⟩ ⟨(i 1).val / 128, by have : (i 1).val < 512 := (i 1).isLt; omega⟩ ⟨(i 1).val % 128, by omega⟩

theorem headBlk_at (q : (⟨2, ![512, 512]⟩ : Shape).Idx → EReal) (k v : (⟨2, ![256, 512]⟩ : Shape).Idx → EReal) (i : (⟨2, ![512, 512]⟩ : Shape).Idx)
    (r : Fin 512) (h : Fin 4) (d : Fin 128) (h0 : (i 0).val = r.val) (h1 : (i 1).val = 128 * h.val + d.val) : headBlk q k v i = headOf q k v r h d := by
  unfold headBlk
  have hd := d.isLt
  congr 1 <;> apply Fin.ext
  · exact h0
  · show (i 1).val / 128 = h.val; omega
  · show (i 1).val % 128 = d.val; omega

/-- The result: each head of each of the four sequences' 4096 rows, the heads side by side. -/
def result (q : (⟨4, ![4, 4096, 4, 128]⟩ : Shape).Idx → EReal) (k v : (⟨4, ![4, 256, 4, 128]⟩ : Shape).Idx → EReal) (b : Fin 4) (s : Fin 4096)
    (h : Fin 4) (d : Fin 128) : EReal :=
  attend (fun d => q (ix4 b s h d)) (fun j d => k (ix4 b j h d)) (fun j d => v (ix4 b j h d)) d

/-- Heads of rows as one array of rows. -/
def rows (f : Fin 4 → Fin 4096 → Fin 4 → Fin 128 → EReal) (i : (⟨2, ![16384, 512]⟩ : Shape).Idx) : EReal :=
  f ⟨(i 0).val / 4096, by have : (i 0).val < 16384 := (i 0).isLt; omega⟩ ⟨(i 0).val % 4096, by omega⟩
    ⟨(i 1).val / 128, by have : (i 1).val < 512 := (i 1).isLt; omega⟩ ⟨(i 1).val % 128, by omega⟩

theorem rows_at (f : Fin 4 → Fin 4096 → Fin 4 → Fin 128 → EReal) (i : (⟨2, ![16384, 512]⟩ : Shape).Idx) (b : Fin 4) (s : Fin 4096) (h : Fin 4)
    (d : Fin 128) (h0 : (i 0).val = 4096 * b.val + s.val) (h1 : (i 1).val = 128 * h.val + d.val) : rows f i = f b s h d := by
  have hs := s.isLt
  have hd := d.isLt
  unfold rows
  congr 1 <;> apply Fin.ext
  · show (i 0).val / 4096 = b.val; omega
  · show (i 0).val % 4096 = s.val; omega
  · show (i 1).val / 128 = h.val; omega
  · show (i 1).val % 128 = d.val; omega

theorem rows_ext (A : (⟨2, ![16384, 512]⟩ : Shape).Idx → EReal) (f : Fin 4 → Fin 4096 → Fin 4 → Fin 128 → EReal)
    (e : ∀ (b : Fin 4) (s : Fin 4096) (h : Fin 4) (d : Fin 128), A (ix2 ⟨4096 * b.val + s.val, by omega⟩ ⟨128 * h.val + d.val, by omega⟩) = f b s h d) :
    A = rows f := by
  funext i
  have h0 : (i 0).val < 16384 := (i 0).isLt
  have h1 : (i 1).val < 512 := (i 1).isLt
  have ei : i = ix2 ⟨4096 * ((i 0).val / 4096) + (i 0).val % 4096, by omega⟩ ⟨128 * ((i 1).val / 128) + (i 1).val % 128, by omega⟩ := by
    funext a
    match a with
    | ⟨0, _⟩ => exact Fin.ext (by show (i 0).val = 4096 * ((i 0).val / 4096) + (i 0).val % 4096; omega)
    | ⟨1, _⟩ => exact Fin.ext (by show (i 1).val = 128 * ((i 1).val / 128) + (i 1).val % 128; omega)
  exact (congrArg A ei).trans (e ⟨(i 0).val / 4096, by omega⟩ ⟨(i 0).val % 4096, by omega⟩ ⟨(i 1).val / 128, by omega⟩ ⟨(i 1).val % 128, by omega⟩)

open Cert.Kernel7Ideal Cert.Kernel7Ideal.Gen

theorem head_apply (q : Vec Ideal S512x128 .bf16) (k v : Vec Ideal S256x128 .bf16) (r : Fin 512) (d : Fin 128) :
    (k0_pay2 q k v (ix2 r d) : EReal)
      = attend (fun d => (q (ix2 r d) : EReal)) (fun j d => (k (ix2 j d) : EReal)) (fun j d => (v (ix2 j d) : EReal)) d := by
  unfold k0_pay2
  pointwise
  rfl

theorem part_ld {n : ℕ} (x : Vec Ideal ⟨2, ![n, 512]⟩ .bf16) (h : Fin 4) (o : ℕ) (ho : o = 128 * h.val)
    (inb : ∀ a, (![0, o] : Fin 2 → ℕ) a + (⟨2, ![n, 128]⟩ : Shape).size a ≤ (⟨2, ![n, 512]⟩ : Shape).size a) (r : Fin n) (d : Fin 128) :
    (View.ld x (Rect.unit (s := ⟨2, ![n, 512]⟩) ![0, o] (⟨2, ![n, 128]⟩ : Shape).size inb) (ix2 r d) : EReal) = part x r h d :=
  View.ld_unit_apply_of _ _ _ _ _ _ fun a => by
    subst ho
    fin_cases a
    · show r.val = 0 + r.val; omega
    · rfl

/-- A head's part of the block that a grid point leaves. -/
theorem piece_apply (q : Vec Ideal S512x512 .bf16) (k v : Vec Ideal S256x512 .bf16) (h : Fin 4) (o : ℕ) (ho : o = 128 * h.val)
    (i1 : ∀ a, (![0, o] : Fin 2 → ℕ) a + S512x128.size a ≤ S512x512.size a) (i2 : ∀ a, (![0, o] : Fin 2 → ℕ) a + S256x128.size a ≤ S256x512.size a)
    (r : Fin 512) (d : Fin 128) :
    (k0_pay2 (View.ld q (Rect.unit (s := S512x512) ![0, o] S512x128.size i1)) (View.ld k (Rect.unit (s := S256x512) ![0, o] S256x128.size i2))
      (View.ld v (Rect.unit (s := S256x512) ![0, o] S256x128.size i2)) (ix2 r d) : EReal) = headOf q k v r h d := by
  rw [head_apply]
  unfold headOf
  congr 1
  · exact funext fun d => part_ld (n := 512) q h o ho i1 r d
  · exact funext fun j => funext fun d => part_ld (n := 256) k h o ho i2 j d
  · exact funext fun j => funext fun d => part_ld (n := 256) v h o ho i2 j d

/-- What one grid point leaves in its block. -/
theorem out_heads (q : Vec Ideal S512x512 .bf16) (k v : Vec Ideal S256x512 .bf16) (i : S512x512.Idx) :
    (out0_3 q k v i : EReal) = headBlk q k v i := by
  have h := cover0_3 (F := Ideal) (k0_pay1 (k0_pay7 (View.ld q r0_6) (View.ld k r0_7)) (Scalar.ofBits .f32 0x3DB504F3#32) (View.ld v r0_7))
    (k0_pay6 (View.ld q r0_4) (View.ld k r0_5) (View.ld v r0_5))
    (k0_pay5 (k0_pay3 (View.ld q r0_2) (View.ld k r0_3)) (k0_pay4 (View.ld q r0_2) (View.ld k r0_3)) (View.ld v r0_3))
    (k0_pay2 (View.ld q r0_0) (View.ld k r0_1) (View.ld v r0_1)) i
  unfold out0_3
  refine View.canon_apply_of_pieces (Val := Elt Ideal) (e := .bf16) (headBlk q k v) _ ?_ i h
  intro pc hpc y
  simp only [List.mem_cons, List.not_mem_nil, or_false] at hpc
  rcases hpc with rfl | rfl | rfl | rfl
  · obtain ⟨r, l, rfl⟩ : ∃ (r : Fin 512) (l : Fin 128), y = ix2 r l := ⟨y 0, y 1, by funext a; fin_cases a <;> rfl⟩
    refine (piece_apply q k v 3 384 rfl _ _ r l).trans (headBlk_at q k v _ r 3 l ?_ ?_).symm
    · show 0 + 1 * r.val = r.val; omega
    · show 384 + 1 * l.val = 128 * 3 + l.val; omega
  · obtain ⟨r, l, rfl⟩ : ∃ (r : Fin 512) (l : Fin 128), y = ix2 r l := ⟨y 0, y 1, by funext a; fin_cases a <;> rfl⟩
    refine (piece_apply q k v 2 256 rfl _ _ r l).trans (headBlk_at q k v _ r 2 l ?_ ?_).symm
    · show 0 + 1 * r.val = r.val; omega
    · show 256 + 1 * l.val = 128 * 2 + l.val; omega
  · obtain ⟨r, l, rfl⟩ : ∃ (r : Fin 512) (l : Fin 128), y = ix2 r l := ⟨y 0, y 1, by funext a; fin_cases a <;> rfl⟩
    refine (piece_apply q k v 1 128 rfl _ _ r l).trans (headBlk_at q k v _ r 1 l ?_ ?_).symm
    · show 0 + 1 * r.val = r.val; omega
    · show 128 + 1 * l.val = 128 * 1 + l.val; omega
  · obtain ⟨r, l, rfl⟩ : ∃ (r : Fin 512) (l : Fin 128), y = ix2 r l := ⟨y 0, y 1, by funext a; fin_cases a <;> rfl⟩
    refine (piece_apply q k v 0 0 rfl _ _ r l).trans (headBlk_at q k v _ r 0 l ?_ ?_).symm
    · show 0 + 1 * r.val = r.val; omega
    · show 0 + 1 * l.val = 128 * 0 + l.val; omega

variable (m : (ℓ : Loc nD τ sig) → Buf (Elt Ideal) ℓ) (c : Dev nD)

/-- The argument arrays. -/
def qArr : S4x4096x4x128.Idx → EReal := m ((c : Thread nD τ).loc main_arg0)
def kArr : S4x256x4x128.Idx → EReal := m ((c : Thread nD τ).loc main_arg1)
def vArr : S4x256x4x128.Idx → EReal := m ((c : Thread nD τ).loc main_arg2)

theorem V_q (b : Fin 4) (s : Fin 4096) (h : Fin 4) (d : Fin 128) :
    (V m c main_v1 (ix2 ⟨4096 * b.val + s.val, by omega⟩ ⟨128 * h.val + d.val, by omega⟩) : EReal) = qArr m c (ix4 b s h d) := by
  unfold_abbrev_sides
  after_results
  show (shapeCast S16384x512 (qArr m c) shapeCasts_S4x4096x4x128_S16384x512 _ : EReal) = _
  refine shapeCast_apply (qArr m c) _ _ (ix4 b s h d) ?_
  rw [Shape.rowMajor_val_two, Shape.rowMajor_val_four]
  show ((b.val * 4096 + s.val) * 4 + h.val) * 128 + d.val = (4096 * b.val + s.val) * 512 + (128 * h.val + d.val)
  omega

theorem V_k (b : Fin 4) (j : Fin 256) (h : Fin 4) (d : Fin 128) :
    (V m c main_v3 (ix2 ⟨256 * b.val + j.val, by omega⟩ ⟨128 * h.val + d.val, by omega⟩) : EReal) = kArr m c (ix4 b j h d) := by
  unfold_abbrev_sides
  after_results
  show (shapeCast S1024x512 (kArr m c) shapeCasts_S4x256x4x128_S1024x512 _ : EReal) = _
  refine shapeCast_apply (kArr m c) _ _ (ix4 b j h d) ?_
  rw [Shape.rowMajor_val_two, Shape.rowMajor_val_four]
  show ((b.val * 256 + j.val) * 4 + h.val) * 128 + d.val = (256 * b.val + j.val) * 512 + (128 * h.val + d.val)
  omega

theorem V_v (b : Fin 4) (j : Fin 256) (h : Fin 4) (d : Fin 128) :
    (V m c main_v5 (ix2 ⟨256 * b.val + j.val, by omega⟩ ⟨128 * h.val + d.val, by omega⟩) : EReal) = vArr m c (ix4 b j h d) := by
  unfold_abbrev_sides
  after_results
  show (shapeCast S1024x512 (vArr m c) shapeCasts_S4x256x4x128_S1024x512 _ : EReal) = _
  refine shapeCast_apply (vArr m c) _ _ (ix4 b j h d) ?_
  rw [Shape.rowMajor_val_two, Shape.rowMajor_val_four]
  show ((b.val * 256 + j.val) * 4 + h.val) * 128 + d.val = (256 * b.val + j.val) * 512 + (128 * h.val + d.val)
  omega

/-- The blocks' places. -/
theorem index_all : ∀ t : Fin grid0.N, win0_0.index t = ![t.val, 0] ∧ win0_1.index t = ![t.val / 8, 0] ∧ win0_2.index t = ![t.val / 8, 0]
    ∧ win0_3.index t = ![t.val, 0] := by decide +kernel

theorem points : grid0.N = 32 := by decide

/-- The sequence and the position of a tile's row. -/
def batch (t : Fin grid0.N) : Fin 4 := ⟨t.val / 8, by have := t.isLt; have := points; omega⟩
def place (t : Fin grid0.N) (r : Fin 512) : Fin 4096 := ⟨512 * (t.val % 8) + r.val, by omega⟩

theorem blk_q (t : Fin grid0.N) (r : Fin 512) (h : Fin 4) (d : Fin 128) :
    part (iblk m c 0 t) r h d = qArr m c (ix4 (batch t) (place t r) h d) := by
  rw [← V_q]
  show V m c main_v1 _ = _
  blk_ext [(index_all t).1]
  · show t.val * 512 + r.val = 4096 * (t.val / 8) + (512 * (t.val % 8) + r.val)
    omega

theorem blk_k (t : Fin grid0.N) (j : Fin 256) (h : Fin 4) (d : Fin 128) :
    part (iblk m c 1 t) j h d = kArr m c (ix4 (batch t) j h d) := by
  rw [← V_k]
  show V m c main_v3 _ = _
  blk_ext [(index_all t).2.1]
  · show t.val / 8 * 256 + j.val = 256 * (t.val / 8) + j.val
    omega

theorem blk_v (t : Fin grid0.N) (j : Fin 256) (h : Fin 4) (d : Fin 128) :
    part (iblk m c 2 t) j h d = vArr m c (ix4 (batch t) j h d) := by
  rw [← V_v]
  show V m c main_v5 _ = _
  blk_ext [(index_all t).2.2.1]
  · show t.val / 8 * 256 + j.val = 256 * (t.val / 8) + j.val
    omega

theorem out_arr : (dats m 0 c).arrAt 3 (cfgs 0).N = rows (result (qArr m c) (kArr m c) (vArr m c)) := by
  refine (dats m 0 c).arrAt_eq_of_covers 3 _ (by decide +kernel) fun t hf y => ?_
  obtain ⟨r, l, rfl⟩ : ∃ (r l : Fin 512), y = ix2 r l := ⟨y 0, y 1, by funext a; fin_cases a <;> rfl⟩
  have hl := l.isLt
  rw [rows_at _ _ (batch t) (place t r) ⟨l.val / 128, by omega⟩ ⟨l.val % 128, by omega⟩
    (by blk_simp [(index_all t).2.2.2]; show t.val * 512 + r.val = 4096 * (t.val / 8) + (512 * (t.val % 8) + r.val); omega)
    (by blk_simp [(index_all t).2.2.2]; show l.val = 128 * (l.val / 128) + l.val % 128; omega)]
  blk_simp
  rw [after0_3]
  refine (out_heads _ _ _ _).trans ((headBlk_at _ _ _ _ r ⟨l.val / 128, by omega⟩ ⟨l.val % 128, by omega⟩ rfl
    (by show l.val = 128 * (l.val / 128) + l.val % 128; omega)).trans ?_)
  unfold headOf result
  congr 1
  · exact funext fun d => blk_q m c t r _ d
  · exact funext fun j => funext fun d => blk_k m c t j _ d
  · exact funext fun j => funext fun d => blk_v m c t j _ d

end Cert.Xattn
-- ==== Proof.XattnRef.lean ====
/-
  The attention over the memory of the prompt as the reference computes it.
-/
module

public import proofs.«01_k».proof.Proof.Xattn
public import proofs.«01_k».proof.Proof.Gen.Reference7Ideal.Run
public import Idealize.ShloMosaic.Lib.IdealHost
public import Idealize.ShloMosaic.Lib.KernelVsHost
public import Idealize.ShloMosaic.Lib.Tactic.CleanTypes

@[expose] public section

set_option maxRecDepth 16384

noncomputable section

namespace Cert.Xattn.Ref

open Idealize.ShloMosaic hiding ix1 ix2 ix3 ix4
open Idealize.ShloMosaic.ValueIdx Idealize.ShloMosaic.TcCoe Cert.Layer Cert.Reference7Ideal Cert.Reference7Ideal.Gen Cert.Reference7Ideal.Value

/-- The scores. -/
def scores (q : FVec Ideal S4x4096x4x128 .f32) (k : FVec Ideal S4x256x4x128 .f32) : FVec Ideal S4x4x4096x256 .f32 :=
  mulf (Host.dotGeneral dot_S4x4096x4x128_S4x256x4x128_S4x4x4096x256_3_3_1_1_02_02 none q k) (broadcastInDim S4x4x4096x256 ![] bcast_S_S4x4x4096x256 (constant S_ .f32 0x3DB504F3#32))

/-- The greatest score of each query. -/
def tops (z : FVec Ideal S4x4x4096x256 .f32) : FVec Ideal S4x4x4096 .f32 :=
  Host.reduce FloatOps.maximumf z (constant S_ .f32 0xFF800000#32) reducesTo_S4x4x4096x256_S4x4x4096_d3 h_S_

/-- The weights before they are divided by their sum. -/
def weights (z : FVec Ideal S4x4x4096x256 .f32) (t : FVec Ideal S4x4x4096 .f32) : FVec Ideal S4x4x4096x256 .f32 :=
  Host.exp (subf z (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) t))))

/-- The weights. -/
def shares (w : FVec Ideal S4x4x4096x256 .f32) : FVec Ideal S4x4x4096x256 .f32 :=
  Host.divf w (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd w (constant S_ .f32 0x00000000#32) reducesTo_S4x4x4096x256_S4x4x4096_d3 h_S_)))

/-- The weighted means, the heads side by side. -/
def means (v : FVec Ideal S4x256x4x128 .f32) (p : FVec Ideal S4x4x4096x256 .f32) : FVec Ideal S16384x512 .bf16 :=
  truncf .bf16 (shapeCast _ (transpose S4x4096x4x128 [0, 3, 1, 2] (Host.dotGeneral dot_S4x256x4x128_S4x4x4096x256_S4x4x128x4096_1_3_3_2_02_01 none v p) transposes_S4x4x128x4096_S4x4096x4x128_0_3_1_2) shapeCasts_S4x4096x4x128_S16384x512) bitsLt_bf16_f32

/-- The reference's result. -/
def out (q : FVec Ideal S4x4096x4x128 .f32) (k v : FVec Ideal S4x256x4x128 .f32) : FVec Ideal S16384x512 .bf16 :=
  means v (shares (weights (scores q k) (tops (scores q k))))

variable (q : FVec Ideal S4x4096x4x128 .f32) (k v : FVec Ideal S4x256x4x128 .f32)

theorem scores_apply (b h : Fin 4) (s : Fin 4096) (j : Fin 256) :
    (scores q k (ix4 b h s j) : EReal) = score (fun d => (q (ix4 b s h d) : EReal)) (fun j d => (k (ix4 b j h d) : EReal)) j := by
  unfold scores
  pointwise
  rfl

theorem low : Ideal.ofBits .f32 0xFF800000#32 = ⊥ := by
  simp [Ideal.ofBits, Ideal.ieee]

theorem tops_apply (z : FVec Ideal S4x4x4096x256 .f32) (b h : Fin 4) (s : Fin 4096) :
    (tops z (ix3 b h s) : EReal) = Finset.univ.fold max (Ideal.ofBits .f32 0xFF800000#32) fun i : Fin 256 => (z (ix4 b h s i) : EReal) := by
  unfold tops
  clean_types
  pointwise
  rfl

theorem weights_apply (z : FVec Ideal S4x4x4096x256 .f32) (t : FVec Ideal S4x4x4096 .f32) (b h : Fin 4) (s : Fin 4096) (j : Fin 256) :
    (weights z t (ix4 b h s j) : EReal) = Ideal.exp (z (ix4 b h s j) - t (ix3 b h s)) := by
  have e : (weights z t (ix4 b h s j) : EReal) = Ideal.exp (z (ix4 b h s j) - max (Ideal.ofBits .f32 0xFF800000#32) (t (ix3 b h s))) := by
    unfold weights
    pointwise
    rfl
  rw [e, low, max_eq_right bot_le]

theorem shares_apply (w : FVec Ideal S4x4x4096x256 .f32) (b h : Fin 4) (s : Fin 4096) (j : Fin 256) :
    (shares w (ix4 b h s j) : EReal) = Ideal.div (w (ix4 b h s j)) (∑ i : Fin 256, (w (ix4 b h s i) : EReal)) := by
  unfold shares
  pointwise
  rfl

theorem means_apply (p : FVec Ideal S4x4x4096x256 .f32) (b : Fin 4) (s : Fin 4096) (h : Fin 4) (d : Fin 128) :
    (means v p (ix2 ⟨4096 * b.val + s.val, by omega⟩ ⟨128 * h.val + d.val, by omega⟩) : EReal)
      = ∑ j : Fin 256, (p (ix4 b h s j) : EReal) * v (ix4 b j h d) := by
  unfold means
  show (shapeCast S16384x512 (transpose S4x4096x4x128 [0, 3, 1, 2] (Host.dotGeneral dot_S4x256x4x128_S4x4x4096x256_S4x4x128x4096_1_3_3_2_02_01 none v p) transposes_S4x4x128x4096_S4x4096x4x128_0_3_1_2) shapeCasts_S4x4096x4x128_S16384x512 _ : EReal) = _
  refine (shapeCast_apply _ shapeCasts_S4x4096x4x128_S16384x512 _ (ix4 b s h d) ?_).trans ?_
  · rw [Shape.rowMajor_val_two, Shape.rowMajor_val_four]
    show ((b.val * 4096 + s.val) * 4 + h.val) * 128 + d.val = (4096 * b.val + s.val) * 512 + (128 * h.val + d.val)
    omega
  · have e : (transpose S4x4096x4x128 [0, 3, 1, 2] (Host.dotGeneral dot_S4x256x4x128_S4x4x4096x256_S4x4x128x4096_1_3_3_2_02_01 none v p) transposes_S4x4x128x4096_S4x4096x4x128_0_3_1_2 (ix4 b s h d) : EReal)
        = ∑ j : Fin 256, (v (ix4 b j h d) : EReal) * p (ix4 b h s j) := by
      pointwise
      rfl
    exact e.trans (Finset.sum_congr rfl fun j _ => mul_comm _ _)

theorem out_eq : (out q k v : S16384x512.Idx → EReal) = rows (result q k v) :=
  rows_ext _ _ fun b s h d => by
    unfold out
    rw [means_apply]
    unfold result attend
    refine Finset.sum_congr rfl fun j _ => congrArg (· * _) ?_
    have w : ∀ i : Fin 256, (weights (scores q k) (tops (scores q k)) (ix4 b h s i) : EReal)
        = weight (fun d => (q (ix4 b s h d) : EReal)) (fun j d => (k (ix4 b j h d) : EReal)) i := fun i => by
      rw [weights_apply, tops_apply]
      unfold weight top
      simp only [scores_apply]
    rw [shares_apply]
    simp only [w]

end Cert.Xattn.Ref
-- ==== Proof.lean ====
/-
  The certificate's claims about the stick-breaking attention of the prompt and the calls beside it: the programs run and
  leave their arguments and semaphores as they found them, each idealized kernel is the kernel's own text, and it computes
  its reference's results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Value
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Equation
public import proofs.«01_k».proof.Proof.InEq
public import proofs.«01_k».proof.Proof.InSampleRef
public import proofs.«01_k».proof.Proof.MemRef
public import proofs.«01_k».proof.Proof.KvWeight
public import proofs.«01_k».proof.Proof.MergeRef
public import proofs.«01_k».proof.Proof.XattnRef
public import Idealize.ShloMosaic.Adequacy
public import Idealize.ShloMosaic.Init

@[expose] public section

noncomputable section

namespace Cert.Proof

open Idealize.ShloMosaic Idealize.ShloMosaic.TcCoe Idealize.SL.Sem

/-- The attention's kernel runs and leaves its arguments and the semaphores as they were. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the idealized reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The prompt's input projections' kernel runs and leaves its arguments and the semaphores as they were. -/
theorem frame_kernel_prompt : Cert.quiescent_Kernel2 := fun m ρ _ => Cert.Kernel2.Gen.frame m ρ

/-- So does the idealized kernel. -/
theorem frame_ideal_prompt : Cert.quiescent_Kernel2Ideal := fun m ρ _ => Cert.Kernel2Ideal.Gen.frame m ρ

/-- So does the idealized reference. -/
theorem frame_reference_prompt : Cert.quiescent_Reference2Ideal := fun m ρ _ =>
  (θ_run Cert.Reference2Ideal.defs _ _).mono
    (fun r h => ⟨fun c => (h c).2.2.2.2.2.2.2.2.2.2, Idealize.ShloMosaic.sem_eq_zero_of_no_sems (by decide) r.2⟩)
    (Cert.Reference2Ideal.Value.run m ρ)

/-- The samples' input projections' kernel runs and leaves its arguments and the semaphores as they were. -/
theorem frame_kernel_sample : Cert.quiescent_Kernel3 := fun m ρ _ => Cert.Kernel3.Gen.frame m ρ

/-- So does the idealized kernel. -/
theorem frame_ideal_sample : Cert.quiescent_Kernel3Ideal := fun m ρ _ => Cert.Kernel3Ideal.Gen.frame m ρ

/-- So does the idealized reference. -/
theorem frame_reference_sample : Cert.quiescent_Reference3Ideal := fun m ρ _ =>
  (θ_run Cert.Reference3Ideal.defs _ _).mono
    (fun r h => ⟨fun c => (h c).2.2.2.2.2.2.2.2, Idealize.ShloMosaic.sem_eq_zero_of_no_sems (by decide) r.2⟩)
    (Cert.Reference3Ideal.Value.run m ρ)

/-- The memory's kernel runs and leaves its arguments and the semaphores as they were. -/
theorem frame_kernel_memory : Cert.quiescent_Kernel4 := fun m ρ _ => Cert.Kernel4.Gen.frame m ρ

/-- So does the idealized kernel. -/
theorem frame_ideal_memory : Cert.quiescent_Kernel4Ideal := fun m ρ _ => Cert.Kernel4Ideal.Gen.frame m ρ

/-- So does the idealized reference. -/
theorem frame_reference_memory : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run m ρ)

/-- The kernel that transposes the weights of the keys and values runs and leaves its arguments and the semaphores as they were. -/
theorem frame_kernel_weights : Cert.quiescent_Kernel5 := fun m ρ _ => Cert.Kernel5.Gen.frame m ρ

/-- So does the idealized kernel. -/
theorem frame_ideal_weights : Cert.quiescent_Kernel5Ideal := fun m ρ _ => Cert.Kernel5Ideal.Gen.frame m ρ

/-- So does the idealized reference. -/
theorem frame_reference_weights : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

/-- The merge's kernel runs and leaves its arguments and the semaphores as they were. -/
theorem frame_kernel_merge : Cert.quiescent_Kernel6 := fun m ρ _ => Cert.Kernel6.Gen.frame m ρ

/-- So does the idealized kernel. -/
theorem frame_ideal_merge : Cert.quiescent_Kernel6Ideal := fun m ρ _ => Cert.Kernel6Ideal.Gen.frame m ρ

/-- So does the idealized reference. -/
theorem frame_reference_merge : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run m ρ)

/-- The kernel of the attention over the memory runs and leaves its arguments and the semaphores as they were. -/
theorem frame_kernel_cross : Cert.quiescent_Kernel7 := fun m ρ _ => Cert.Kernel7.Gen.frame m ρ

/-- So does the idealized kernel. -/
theorem frame_ideal_cross : Cert.quiescent_Kernel7Ideal := fun m ρ _ => Cert.Kernel7Ideal.Gen.frame m ρ

/-- So does the idealized reference. -/
theorem frame_reference_cross : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

/-- Over the extended reals the kernel's result is the reference's: from any arguments, both end holding the attention of
    the arguments (`Cert.SbPrompt.attnArr`). -/
theorem attention : Cert.algebraic_KernelIdeal_ReferenceIdeal := fun m ρ m' ρ' _ hag =>
  ⟨fun c => Cert.SbPrompt.attnArr (Cert.SbPrompt.qArr m c) (Cert.SbPrompt.kArr m c) (Cert.SbPrompt.vArr m c) (Cert.SbPrompt.bArr m c),
    (θ_run Cert.KernelIdeal.defs _ _).mono (fun _ h c => ⟨(h c).1.trans (Cert.SbPrompt.kernel_arr m c), (h c).2⟩)
      (Cert.KernelIdeal.Value.run_blocks m ρ),
    (θ_run Cert.ReferenceIdeal.defs _ _).mono (fun _ h c => ⟨by
        rw [(h c).1, Cert.SbPrompt.Ref.res_eq]
        obtain ⟨e0, e1, e2, e3⟩ := hag c
        refine (Cert.SbPrompt.reference_arr _ _ _ _).trans ?_
        unfold Cert.SbPrompt.qArr Cert.SbPrompt.kArr Cert.SbPrompt.vArr Cert.SbPrompt.bArr
        exact congr (congr (congr (congrArg Cert.SbPrompt.attnArr e0) e1) e2) e3, (h c).2⟩)
      (Cert.ReferenceIdeal.Value.run m' ρ')⟩

/-- Over the extended reals the memory's keys and values are the reference's. -/
theorem memory : Cert.algebraic_Kernel4Ideal_Reference4Ideal := fun m ρ m' ρ' _ hag =>
  ⟨fun c => Cert.MemKv.keyArr (Cert.MemKv.xArr m c) (Cert.MemKv.gArr m c) (Cert.MemKv.wArr m c) (Cert.MemKv.kArr m c),
    fun c => Cert.MemKv.valArr (Cert.MemKv.xArr m c) (Cert.MemKv.gArr m c) (Cert.MemKv.wArr m c),
    (θ_run Cert.Kernel4Ideal.defs _ _).mono (fun _ h c => ⟨(h c).1.trans (Cert.MemKv.keys_arr m c),
        (h c).2.1.trans (Cert.MemKv.vals_arr m c), (h c).2.2⟩) (Cert.Kernel4Ideal.Value.run_blocks m ρ),
    (θ_run Cert.Reference4Ideal.defs _ _).mono (fun _ h c => by
        obtain ⟨e0, e1, e2, e3⟩ := hag c
        refine ⟨(h c).1.trans ((Cert.MemKv.Ref.keys_eq _ _ _ _).trans ?_), (h c).2.1.trans ((Cert.MemKv.Ref.vals_eq _ _ _).trans ?_), (h c).2.2⟩
        · exact congr (congr (congr (congrArg Cert.MemKv.keyArr e0) e1) e2) e3
        · exact congr (congr (congrArg Cert.MemKv.valArr e0) e1) e2)
      (Cert.Reference4Ideal.Value.run m' ρ')⟩

/-- Over the extended reals the ten results of the prompt's input projections are the reference's. -/
theorem prompt : Cert.algebraic_Kernel2Ideal_Reference2Ideal := fun m ρ m' ρ' _ hag =>
  ⟨fun c => Cert.InProj.columns (Cert.InProj.fK (Cert.InProj.xArr m c) (Cert.InProj.gArr m c) (Cert.InProj.wArr m c)),
    fun c => Cert.InProj.columns (Cert.InProj.fV (Cert.InProj.xArr m c) (Cert.InProj.gArr m c) (Cert.InProj.wArr m c)),
    fun c => Cert.InProj.rows (Cert.InProj.fQ (Cert.InProj.xArr m c) (Cert.InProj.gArr m c) (Cert.InProj.wArr m c)),
    fun c => Cert.InProj.rows (Cert.InProj.fX (Cert.InProj.xArr m c) (Cert.InProj.gArr m c) (Cert.InProj.wArr m c) (Cert.InProj.nArr m c)),
    fun c => Cert.InProj.rows (Cert.InProj.fG1 (Cert.InProj.xArr m c) (Cert.InProj.gArr m c) (Cert.InProj.wArr m c)),
    fun c => Cert.InProj.rows (Cert.InProj.fG2 (Cert.InProj.xArr m c) (Cert.InProj.gArr m c) (Cert.InProj.wArr m c)),
    fun c => Cert.InProj.rows (Cert.InProj.fM (Cert.InProj.xArr m c) (Cert.InProj.gArr m c) (Cert.InProj.wArr m c) (Cert.InProj.cwArr m c) (Cert.InProj.wbArr m c)),
    fun c => Cert.InProj.lastRows (Cert.InProj.fU (Cert.InProj.xArr m c) (Cert.InProj.gArr m c) (Cert.InProj.wArr m c)),
    fun c => Cert.InProj.blocks (Cert.InProj.fK (Cert.InProj.xArr m c) (Cert.InProj.gArr m c) (Cert.InProj.wArr m c)),
    fun c => Cert.InProj.blocks (Cert.InProj.fV (Cert.InProj.xArr m c) (Cert.InProj.gArr m c) (Cert.InProj.wArr m c)),
    (θ_run Cert.Kernel2Ideal.defs _ _).mono (fun _ h c => ⟨(h c).1.trans (Cert.InProj.kt_arr m c),
        (h c).2.1.trans (Cert.InProj.vt_arr m c),
        (h c).2.2.1.trans (Cert.InProj.q_arr m c),
        (h c).2.2.2.1.trans (Cert.InProj.qx_arr m c),
        (h c).2.2.2.2.1.trans (Cert.InProj.g1_arr m c),
        (h c).2.2.2.2.2.1.trans (Cert.InProj.g2_arr m c),
        (h c).2.2.2.2.2.2.1.trans (Cert.InProj.mp_arr m c),
        (h c).2.2.2.2.2.2.2.1.trans (Cert.InProj.tail_arr m c),
        (h c).2.2.2.2.2.2.2.2.1.trans (Cert.InProj.ktb_arr m c),
        (h c).2.2.2.2.2.2.2.2.2.1.trans (Cert.InProj.vtb_arr m c),
        (h c).2.2.2.2.2.2.2.2.2.2⟩) (Cert.Kernel2Ideal.Value.run_blocks m ρ),
    (θ_run Cert.Reference2Ideal.defs _ _).mono (fun _ h c => by
        obtain ⟨e0, e1, e2, e3, e4, e5⟩ := hag c
        refine ⟨(h c).1.trans ((Cert.InProj.kt_eq _ _ _).trans ?_),
        (h c).2.1.trans ((Cert.InProj.vt_eq _ _ _).trans ?_),
        (h c).2.2.1.trans ((Cert.InProj.q_eq _ _ _).trans ?_),
        (h c).2.2.2.1.trans ((Cert.InProj.qx_eq _ _ _ _).trans ?_),
        (h c).2.2.2.2.1.trans ((Cert.InProj.g1_eq _ _ _).trans ?_),
        (h c).2.2.2.2.2.1.trans ((Cert.InProj.g2_eq _ _ _).trans ?_),
        (h c).2.2.2.2.2.2.1.trans ((Cert.InProj.mp_eq _ _ _ _ _).trans ?_),
        (h c).2.2.2.2.2.2.2.1.trans ((Cert.InProj.tail_eq _ _ _).trans ?_),
        (h c).2.2.2.2.2.2.2.2.1.trans ((Cert.InProj.ktb_eq _ _ _).trans ?_),
        (h c).2.2.2.2.2.2.2.2.2.1.trans ((Cert.InProj.vtb_eq _ _ _).trans ?_),
        (h c).2.2.2.2.2.2.2.2.2.2⟩
        · exact congrArg Cert.InProj.columns (congr (congr (congrArg Cert.InProj.fK e0) e1) e2)
        · exact congrArg Cert.InProj.columns (congr (congr (congrArg Cert.InProj.fV e0) e1) e2)
        · exact congrArg Cert.InProj.rows (congr (congr (congrArg Cert.InProj.fQ e0) e1) e2)
        · exact congrArg Cert.InProj.rows (congr (congr (congr (congrArg Cert.InProj.fX e0) e1) e2) e3)
        · exact congrArg Cert.InProj.rows (congr (congr (congrArg Cert.InProj.fG1 e0) e1) e2)
        · exact congrArg Cert.InProj.rows (congr (congr (congrArg Cert.InProj.fG2 e0) e1) e2)
        · exact congrArg Cert.InProj.rows (congr (congr (congr (congr (congrArg Cert.InProj.fM e0) e1) e2) e4) e5)
        · exact congrArg Cert.InProj.lastRows (congr (congr (congrArg Cert.InProj.fU e0) e1) e2)
        · exact congrArg Cert.InProj.blocks (congr (congr (congrArg Cert.InProj.fK e0) e1) e2)
        · exact congrArg Cert.InProj.blocks (congr (congr (congrArg Cert.InProj.fV e0) e1) e2))
      (Cert.Reference2Ideal.Value.run m' ρ')⟩

/-- Over the extended reals the eight results of the samples' input projections are the reference's. -/
theorem sample : Cert.algebraic_Kernel3Ideal_Reference3Ideal := fun m ρ m' ρ' _ hag =>
  ⟨fun c => Cert.InSample.columns (Cert.InSample.fK (Cert.InSample.xArr m c) (Cert.InSample.gArr m c) (Cert.InSample.wArr m c)),
    fun c => Cert.InSample.columns (Cert.InSample.fV (Cert.InSample.xArr m c) (Cert.InSample.gArr m c) (Cert.InSample.wArr m c)),
    fun c => Cert.InSample.rows (Cert.InSample.fQ (Cert.InSample.xArr m c) (Cert.InSample.gArr m c) (Cert.InSample.wArr m c)),
    fun c => Cert.InSample.rows (Cert.InSample.fX (Cert.InSample.xArr m c) (Cert.InSample.gArr m c) (Cert.InSample.wArr m c) (Cert.InSample.nArr m c)),
    fun c => Cert.InSample.rows (Cert.InSample.fG1 (Cert.InSample.xArr m c) (Cert.InSample.gArr m c) (Cert.InSample.wArr m c)),
    fun c => Cert.InSample.rows (Cert.InSample.fG2 (Cert.InSample.xArr m c) (Cert.InSample.gArr m c) (Cert.InSample.wArr m c)),
    fun c => Cert.InSample.rows (Cert.InSample.fM (Cert.InSample.xArr m c) (Cert.InSample.gArr m c) (Cert.InSample.wArr m c) (Cert.InSample.cwArr m c) (Cert.InSample.wbArr m c) (Cert.InSample.stArr m c)),
    fun c => Cert.InSample.slab (Cert.InSample.fU (Cert.InSample.xArr m c) (Cert.InSample.gArr m c) (Cert.InSample.wArr m c)),
    (θ_run Cert.Kernel3Ideal.defs _ _).mono (fun _ h c => ⟨(h c).1.trans (Cert.InSample.kt_arr m c),
        (h c).2.1.trans (Cert.InSample.vt_arr m c),
        (h c).2.2.1.trans (Cert.InSample.q_arr m c),
        (h c).2.2.2.1.trans (Cert.InSample.qx_arr m c),
        (h c).2.2.2.2.1.trans (Cert.InSample.g1_arr m c),
        (h c).2.2.2.2.2.1.trans (Cert.InSample.g2_arr m c),
        (h c).2.2.2.2.2.2.1.trans (Cert.InSample.ms_arr m c),
        (h c).2.2.2.2.2.2.2.1.trans (Cert.InSample.tail_arr m c),
        (h c).2.2.2.2.2.2.2.2⟩) (Cert.Kernel3Ideal.Value.run_blocks m ρ),
    (θ_run Cert.Reference3Ideal.defs _ _).mono (fun _ h c => by
        obtain ⟨e0, e1, e2, e3, e4, e5, e6⟩ := hag c
        refine ⟨(h c).1.trans ((Cert.InSample.kt_eq _ _ _).trans ?_),
        (h c).2.1.trans ((Cert.InSample.vt_eq _ _ _).trans ?_),
        (h c).2.2.1.trans ((Cert.InSample.q_eq _ _ _).trans ?_),
        (h c).2.2.2.1.trans ((Cert.InSample.qx_eq _ _ _ _).trans ?_),
        (h c).2.2.2.2.1.trans ((Cert.InSample.g1_eq _ _ _).trans ?_),
        (h c).2.2.2.2.2.1.trans ((Cert.InSample.g2_eq _ _ _).trans ?_),
        (h c).2.2.2.2.2.2.1.trans ((Cert.InSample.ms_eq _ _ _ _ _ _).trans ?_),
        (h c).2.2.2.2.2.2.2.1.trans ((Cert.InSample.tail_eq _ _ _).trans ?_),
        (h c).2.2.2.2.2.2.2.2⟩
        · exact congrArg Cert.InSample.columns (congr (congr (congrArg Cert.InSample.fK e0) e1) e2)
        · exact congrArg Cert.InSample.columns (congr (congr (congrArg Cert.InSample.fV e0) e1) e2)
        · exact congrArg Cert.InSample.rows (congr (congr (congrArg Cert.InSample.fQ e0) e1) e2)
        · exact congrArg Cert.InSample.rows (congr (congr (congr (congrArg Cert.InSample.fX e0) e1) e2) e3)
        · exact congrArg Cert.InSample.rows (congr (congr (congrArg Cert.InSample.fG1 e0) e1) e2)
        · exact congrArg Cert.InSample.rows (congr (congr (congrArg Cert.InSample.fG2 e0) e1) e2)
        · exact congrArg Cert.InSample.rows (congr (congr (congr (congr (congr (congrArg Cert.InSample.fM e0) e1) e2) e4) e5) e6)
        · exact congrArg Cert.InSample.slab (congr (congr (congrArg Cert.InSample.fU e0) e1) e2))
      (Cert.Reference3Ideal.Value.run m' ρ')⟩

/-- Over the extended reals the transposed weights are the reference's. -/
theorem weights : Cert.algebraic_Kernel5Ideal_Reference5Ideal := fun m ρ m' ρ' _ hag =>
  ⟨fun c => Cert.KvWeight.kvArr (Cert.KvWeight.wArr m c),
    (θ_run Cert.Kernel5Ideal.defs _ _).mono (fun _ h c => ⟨(h c).1.trans (Cert.KvWeight.kernel_arr m c), (h c).2⟩)
      (Cert.Kernel5Ideal.Value.run_blocks m ρ),
    (θ_run Cert.Reference5Ideal.defs _ _).mono (fun _ h c =>
        ⟨(h c).1.trans ((Cert.KvWeight.reference_arr _).trans (congrArg Cert.KvWeight.kvArr (hag c))), (h c).2⟩)
      (Cert.Reference5Ideal.Value.run m' ρ')⟩

/-- Over the extended reals the rows that the merge leaves, and those rows normed, are the reference's. -/
theorem merge : Cert.algebraic_Kernel6Ideal_Reference6Ideal := fun m ρ m' ρ' _ hag =>
  ⟨fun c => Cert.Merge.table (Cert.Merge.x1row (Cert.Merge.xArr m c) (Cert.Merge.mpArr m c) (Cert.Merge.ysArr m c) (Cert.Merge.yxArr m c) (Cert.Merge.g1Arr m c) (Cert.Merge.g2Arr m c) (Cert.Merge.wbArr m c) (Cert.Merge.woArr m c)),
    fun c => Cert.Merge.table (Cert.Merge.hrow (Cert.Merge.xArr m c) (Cert.Merge.mpArr m c) (Cert.Merge.ysArr m c) (Cert.Merge.yxArr m c) (Cert.Merge.g1Arr m c) (Cert.Merge.g2Arr m c) (Cert.Merge.wbArr m c) (Cert.Merge.woArr m c) (Cert.Merge.nArr m c)),
    (θ_run Cert.Kernel6Ideal.defs _ _).mono (fun _ h c => ⟨(h c).1.trans (Cert.Merge.x1_arr m c),
        (h c).2.1.trans (Cert.Merge.h_arr m c), (h c).2.2.2.2.2⟩) (Cert.Kernel6Ideal.Value.run_blocks m ρ),
    (θ_run Cert.Reference6Ideal.defs _ _).mono (fun _ h c => by
        obtain ⟨e0, e1, e2, e3, e4, e5, e6, e7, e8, _⟩ := hag c
        refine ⟨(h c).1.trans ((Cert.Merge.Ref.x1_eq _ _ _ _ _ _ _ _).trans ?_),
          (h c).2.1.trans ((Cert.Merge.Ref.h_eq _ _ _ _ _ _ _ _ _).trans ?_), (h c).2.2⟩
        · exact congrArg Cert.Merge.table (congr (congr (congr (congr (congr (congr (congr (congrArg Cert.Merge.x1row e0) e1) e2) e3) e4) e5) e6) e7)
        · exact congrArg Cert.Merge.table (congr (congr (congr (congr (congr (congr (congr (congr (congrArg Cert.Merge.hrow e0) e1) e2) e3) e4) e5) e6) e7) e8))
      (Cert.Reference6Ideal.Value.run m' ρ')⟩

/-- Over the extended reals the attention over the memory is the reference's. -/
theorem cross : Cert.algebraic_Kernel7Ideal_Reference7Ideal := fun m ρ m' ρ' _ hag =>
  ⟨fun c => Cert.Xattn.rows (Cert.Xattn.result (Cert.Xattn.qArr m c) (Cert.Xattn.kArr m c) (Cert.Xattn.vArr m c)),
    (θ_run Cert.Kernel7Ideal.defs _ _).mono (fun _ h c => ⟨(h c).1.trans (Cert.Xattn.out_arr m c), (h c).2⟩)
      (Cert.Kernel7Ideal.Value.run_blocks m ρ),
    (θ_run Cert.Reference7Ideal.defs _ _).mono (fun _ h c => by
        obtain ⟨e0, e1, e2⟩ := hag c
        refine ⟨(h c).1.trans ((Cert.Xattn.Ref.out_eq _ _ _).trans ?_), (h c).2⟩
        exact congrArg Cert.Xattn.rows (congr (congr (congrArg Cert.Xattn.result e0) e1) e2))
      (Cert.Reference7Ideal.Value.run m' ρ')⟩

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  frame_kernel, frame_ideal, frame_reference, frame_kernel_prompt, frame_ideal_prompt, frame_reference_prompt,
  frame_kernel_sample, frame_ideal_sample, frame_reference_sample, frame_kernel_memory, frame_ideal_memory, frame_reference_memory,
  frame_kernel_weights, frame_ideal_weights, frame_reference_weights,
  frame_kernel_merge, frame_ideal_merge, frame_reference_merge, frame_kernel_cross, frame_ideal_cross, frame_reference_cross,
  trivial, attention, trivial, prompt, trivial, sample, trivial, memory, trivial, weights, trivial, merge, trivial, cross⟩

end Cert.Proof

end
